-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v23) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Attn_AttnIdeal : Prop :=
  True

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v50) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v23) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def Claim : Prop :=
  ∃ (hInProj : Cert.InProj.Facts) (hInProjIdeal : Cert.InProjIdeal.Facts) (hInProjRefIdeal : Cert.InProjRefIdeal.Facts) (hAttn : Cert.Attn.Facts) (hAttnIdeal : Cert.AttnIdeal.Facts) (hAttnRefIdeal : Cert.AttnRefIdeal.Facts) (hPool : Cert.Pool.Facts) (hPoolIdeal : Cert.PoolIdeal.Facts) (hPoolRefIdeal : Cert.PoolRefIdeal.Facts) (hOutProj : Cert.OutProj.Facts) (hOutProjIdeal : Cert.OutProjIdeal.Facts) (hOutProjRefIdeal : Cert.OutProjRefIdeal.Facts),
    quiescent_InProj (hInProj := hInProj)
    ∧ quiescent_InProjIdeal (hInProjIdeal := hInProjIdeal)
    ∧ quiescent_InProjRefIdeal (hInProjRefIdeal := hInProjRefIdeal)
    ∧ quiescent_Attn (hAttn := hAttn)
    ∧ quiescent_AttnIdeal (hAttnIdeal := hAttnIdeal)
    ∧ quiescent_AttnRefIdeal (hAttnRefIdeal := hAttnRefIdeal)
    ∧ quiescent_Pool (hPool := hPool)
    ∧ quiescent_PoolIdeal (hPoolIdeal := hPoolIdeal)
    ∧ quiescent_PoolRefIdeal (hPoolRefIdeal := hPoolRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_Attn_AttnIdeal
    ∧ preserves_Pool_PoolIdeal
    ∧ algebraic_PoolIdeal_PoolRefIdeal (hPoolIdeal := hPoolIdeal) (hPoolRefIdeal := hPoolRefIdeal)
    ∧ preserves_OutProj_OutProjIdeal
    ∧ algebraic_OutProjIdeal_OutProjRefIdeal (hOutProjIdeal := hOutProjIdeal) (hOutProjRefIdeal := hOutProjRefIdeal)
-- ==== InProj.lean ====
abbrev S2x8192x4096 : Shape := ⟨3, ![2, 8192, 4096]⟩
abbrev S4096 : Shape := ⟨1, ![4096]⟩
abbrev S2x4096 : Shape := ⟨2, ![2, 4096]⟩
abbrev S4096x12288 : Shape := ⟨2, ![4096, 12288]⟩
abbrev S16384x4096 : Shape := ⟨2, ![16384, 4096]⟩
abbrev S1x4096 : Shape := ⟨2, ![1, 4096]⟩
abbrev S2x1x4096 : Shape := ⟨3, ![2, 1, 4096]⟩
abbrev S16384x12288 : Shape := ⟨2, ![16384, 12288]⟩
abbrev S1024x4096 : Shape := ⟨2, ![1024, 4096]⟩
abbrev S1x1x4096 : Shape := ⟨3, ![1, 1, 4096]⟩
abbrev S4096x768 : Shape := ⟨2, ![4096, 768]⟩
abbrev S1024x768 : Shape := ⟨2, ![1024, 768]⟩
abbrev S64x4096 : Shape := ⟨2, ![64, 4096]⟩
abbrev S64 : Shape := ⟨1, ![64]⟩
abbrev S64x1 : Shape := ⟨2, ![64, 1]⟩

abbrev nBuf : Space → Nat
  | .hbm => 11
  | .vmem => 12
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x4096, .f32⟩
  | .hbm, ⟨3, _⟩ => ⟨S2x4096, .f32⟩
  | .hbm, ⟨4, _⟩ => ⟨S4096x12288, .f32⟩
  | .hbm, ⟨5, _⟩ => ⟨S16384x4096, .f32⟩
  | .hbm, ⟨6, _⟩ => ⟨S4096x12288, .bf16⟩
  | .hbm, ⟨7, _⟩ => ⟨S1x4096, .f32⟩
  | .hbm, ⟨8, _⟩ => ⟨S2x1x4096, .f32⟩
  | .hbm, ⟨9, _⟩ => ⟨S2x1x4096, .f32⟩
  | .hbm, ⟨10, _⟩ => ⟨S16384x12288, .bf16⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x768, .bf16⟩
  | .local _ .vmem, ⟨8, _⟩ => ⟨S4096x768, .bf16⟩
  | .local _ .vmem, ⟨9, _⟩ => ⟨S1024x768, .bf16⟩
  | .local _ .vmem, ⟨10, _⟩ => ⟨S1024x768, .bf16⟩
  | .local _ .vmem, ⟨11, _⟩ => ⟨S1024x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c16_i32 : BitVec 32 := 16#32
  let v17 : BitVec 32 := Scalar.addi c0_i32_15 c16_i32
  let c1_i32 : BitVec 32 := 1#32
  ⟨c0_i32_15, v17, c1_i32⟩
def k0_mult1 (k0_t1 : Fin k0_t1_loop.trips) : BitVec 32 :=
  let c0_i32_15 : BitVec 32 := 0#32
  let c1_i32 : BitVec 32 := 1#32
  let arg9 : BitVec 32 := Scf.iv c0_i32_15 c1_i32 k0_t1
  let c64_i32 : BitVec 32 := 64#32
  let v18 : BitVec 32 := Scalar.muli arg9 c64_i32
  v18
def k0_off1 (k0_t1 : Fin k0_t1_loop.trips) : Fin 2 → Nat :=
  let c0_i32_15 : BitVec 32 := 0#32
  let c1_i32 : BitVec 32 := 1#32
  let arg9 : BitVec 32 := Scf.iv c0_i32_15 c1_i32 k0_t1
  let c64_i32 : BitVec 32 := 64#32
  let v18 : BitVec 32 := Scalar.muli arg9 c64_i32
  let v19 : BitVec 32 := v18
  let v20 : Index := Scalar.indexCast v19
  let c0_17 : Index := 0#32
  ![v20.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S2x8192x4096 : Shape := ⟨3, ![2, 8192, 4096]⟩
abbrev S4096 : Shape := ⟨1, ![4096]⟩
abbrev S2x4096 : Shape := ⟨2, ![2, 4096]⟩
abbrev S4096x12288 : Shape := ⟨2, ![4096, 12288]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x1x4096 : Shape := ⟨3, ![2, 1, 4096]⟩
abbrev S2x8192x12288 : Shape := ⟨3, ![2, 8192, 12288]⟩
abbrev S16384x12288 : Shape := ⟨2, ![16384, 12288]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x4096, .f32⟩
  | .hbm, ⟨3, _⟩ => ⟨S2x4096, .f32⟩
  | .hbm, ⟨4, _⟩ => ⟨S4096x12288, .f32⟩
  | .hbm, ⟨5, _⟩ => ⟨S2x8192x4096, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x4096, .f32⟩
  | .hbm, ⟨17, _⟩ => ⟨S2x8192x4096, .f32⟩
  | .hbm, ⟨18, _⟩ => ⟨S1x1x4096, .f32⟩
  | .hbm, ⟨19, _⟩ => ⟨S2x8192x4096, .f32⟩
  | .hbm, ⟨20, _⟩ => ⟨S2x8192x4096, .f32⟩
  | .hbm, ⟨21, _⟩ => ⟨S2x1x4096, .f32⟩
  | .hbm, ⟨22, _⟩ => ⟨S_, .f32⟩
  | .hbm, ⟨23, _⟩ => ⟨S2x1x4096, .f32⟩
  | .hbm, ⟨24, _⟩ => ⟨S2x1x4096, .f32⟩
  | .hbm, ⟨25, _⟩ => ⟨S2x8192x4096, .f32⟩
  | .hbm, ⟨26, _⟩ => ⟨S2x8192x4096, .f32⟩
  | .hbm, ⟨27, _⟩ => ⟨S2x1x4096, .f32⟩
  | .hbm, ⟨28, _⟩ => ⟨S2x8192x4096, .f32⟩
  | .hbm, ⟨29, _⟩ => ⟨S2x8192x4096, .f32⟩
  | .hbm, ⟨30, _⟩ => ⟨S2x8192x12288, .f32⟩
  | .hbm, ⟨31, _⟩ => ⟨S16384x12288, .f32⟩
  | .hbm, ⟨32, _⟩ => ⟨S16384x12288, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Attn.lean ====
abbrev S16384x12288 : Shape := ⟨2, ![16384, 12288]⟩
abbrev S16 : Shape := ⟨1, ![16]⟩
abbrev S16384x2048 : Shape := ⟨2, ![16384, 2048]⟩
abbrev S2048x128 : Shape := ⟨2, ![2048, 128]⟩
abbrev S4x512x128 : Shape := ⟨3, ![4, 512, 128]⟩
abbrev S4x640x128 : Shape := ⟨3, ![4, 640, 128]⟩
abbrev S16x128x128 : Shape := ⟨3, ![16, 128, 128]⟩
abbrev S16x256x128 : Shape := ⟨3, ![16, 256, 128]⟩
abbrev S2176x128 : Shape := ⟨2, ![2176, 128]⟩
abbrev S1 : Shape := ⟨1, ![1]⟩
abbrev S128x128 : Shape := ⟨2, ![128, 128]⟩
abbrev S1x128x128 : Shape := ⟨3, ![1, 128, 128]⟩
abbrev S512x128 : Shape := ⟨2, ![512, 128]⟩
abbrev S1x512x128 : Shape := ⟨3, ![1, 512, 128]⟩
abbrev S128x256 : Shape := ⟨2, ![128, 256]⟩
abbrev S256x128 : Shape := ⟨2, ![256, 128]⟩
abbrev S128 : Shape := ⟨1, ![128]⟩
abbrev S128x1 : Shape := ⟨2, ![128, 1]⟩
abbrev S1x256x128 : Shape := ⟨3, ![1, 256, 128]⟩

abbrev nBuf : Space → Nat
  | .hbm => 3
  | .vmem => 30
  | .smem => 1
  | _ => 0

abbrev bufTy : (tb : Table) → Fin (tcTables nBuf tb) → BufTy
  | .hbm, ⟨0, _⟩ => ⟨S16384x12288, .bf16⟩
  | .hbm, ⟨1, _⟩ => ⟨S16, .f32⟩
  | .hbm, ⟨2, _⟩ => ⟨S16384x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S4x512x128, .f32⟩
  | .local _ .vmem, ⟨14, _⟩ => ⟨S4x512x128, .f32⟩
  | .local _ .vmem, ⟨15, _⟩ => ⟨S4x512x128, .f32⟩
  | .local _ .vmem, ⟨16, _⟩ => ⟨S4x512x128, .bf16⟩
  | .local _ .vmem, ⟨17, _⟩ => ⟨S4x640x128, .bf16⟩
  | .local _ .vmem, ⟨18, _⟩ => ⟨S4x640x128, .bf16⟩
  | .local _ .vmem, ⟨19, _⟩ => ⟨S16x128x128, .bf16⟩
  | .local _ .vmem, ⟨20, _⟩ => ⟨S16x256x128, .bf16⟩
  | .local _ .vmem, ⟨21, _⟩ => ⟨S16x256x128, .bf16⟩
  | .local _ .vmem, ⟨22, _⟩ => ⟨S2176x128, .bf16⟩
  | .local _ .vmem, ⟨23, _⟩ => ⟨S2176x128, .bf16⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .smem, ⟨0, _⟩ => ⟨S16, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_scratch12 : Ref sig .tc := ⟨.vmem, 22, rfl⟩
abbrev cc0_scratch13 : Ref sig .tc := ⟨.vmem, 23, rfl⟩
abbrev cc0_scratch14 : Ref sig .tc := ⟨.vmem, 24, rfl⟩
abbrev cc0_scratch15 : Ref sig .tc := ⟨.vmem, 25, rfl⟩
abbrev cc0_scratch16 : Ref sig .tc := ⟨.vmem, 26, rfl⟩
abbrev cc0_scratch17 : Ref sig .tc := ⟨.vmem, 27, rfl⟩
abbrev cc0_scratch18 : Ref sig .tc := ⟨.vmem, 28, rfl⟩
abbrev cc0_scratch19 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 16, 4], ![false, false, false]⟩

def k0_off1 (i : grid0.Coords) : Fin 1 → Nat :=
  let arg1 : BitVec 32 := BitVec.ofNat 32 (i 1).val
  let v0 : Index := Scalar.indexCast arg1
  ![v0.toNat]
def k0_mult1 : BitVec 32 :=
  let c0_i32_398 : BitVec 32 := 0#32
  c0_i32_398
def k0_mult2 : BitVec 32 :=
  let c0_i32_400 : BitVec 32 := 0#32
  c0_i32_400
def k0_mult3 : BitVec 32 :=
  let c0_i32_409 : BitVec 32 := 0#32
  let c0_i32_397 : BitVec 32 := 0#32
  let v469 : BitVec 32 := Scalar.addi c0_i32_409 c0_i32_397
  v469
def k0_off2 : Fin 2 → Nat :=
  let c0_i32_409 : BitVec 32 := 0#32
  let c0_i32_397 : BitVec 32 := 0#32
  let v469 : BitVec 32 := Scalar.addi c0_i32_409 c0_i32_397
  let v470 : BitVec 32 := v469
  let v471 : Index := Scalar.indexCast v470
  let c0_410 : Index := 0#32
  ![v471.toNat, 0]
@[reducible] def k0_t1_loop : Scf.Loop 32 :=
  let c0_i32_413 : BitVec 32 := 0#32
  let c15_i32 : BitVec 32 := 15#32
  let v479 : BitVec 32 := Scalar.addi c0_i32_413 c15_i32
  let c1_i32_414 : BitVec 32 := 1#32
  ⟨c0_i32_413, v479, c1_i32_414⟩
def k0_mult4 (k0_t1 : Fin k0_t1_loop.trips) : BitVec 32 :=
  let c0_i32_413 : BitVec 32 := 0#32
  let c1_i32_414 : BitVec 32 := 1#32
  let arg29 : BitVec 32 := Scf.iv c0_i32_413 c1_i32_414 k0_t1
  let c15_i32_443 : BitVec 32 := 15#32
  let c0_i32_444 : BitVec 32 := 0#32
  let v515 : BitVec 1 := Scalar.cmpi .eq c15_i32_443 c0_i32_444
  let c1_i32_445 : BitVec 32 := 1#32
  let v516 : BitVec 32 := Scalar.select v515 c1_i32_445 c15_i32_443
  let v517 : BitVec 32 := Scalar.remsi arg29 v516
  let c0_i32_447 : BitVec 32 := 0#32
  let v519 : BitVec 1 := Scalar.cmpi .slt v517 c0_i32_447
  let c0_i32_448 : BitVec 32 := 0#32
  let v520 : BitVec 1 := Scalar.cmpi .slt v516 c0_i32_448
  let v521 : BitVec 1 := Scalar.xori v519 v520
  let c0_i32_446 : BitVec 32 := 0#32
  let v518 : BitVec 1 := Scalar.cmpi .ne v517 c0_i32_446
  let v522 : BitVec 1 := Scalar.andi v521 v518
  let v523 : BitVec 32 := Scalar.addi v517 v516
  let v524 : BitVec 32 := Scalar.select v522 v523 v517
  let c1_i32_449 : BitVec 32 := 1#32
  let v525 : BitVec 32 := Scalar.addi v524 c1_i32_449
  let c128_i32_450 : BitVec 32 := 128#32
  let v526 : BitVec 32 := Scalar.muli v525 c128_i32_450
  v526
def k0_off3 (k0_t1 : Fin k0_t1_loop.trips) : Fin 2 → Nat :=
  let c0_i32_413 : BitVec 32 := 0#32
  let c1_i32_414 : BitVec 32 := 1#32
  let arg29 : BitVec 32 := Scf.iv c0_i32_413 c1_i32_414 k0_t1
  let c15_i32_443 : BitVec 32 := 15#32
  let c0_i32_444 : BitVec 32 := 0#32
  let v515 : BitVec 1 := Scalar.cmpi .eq c15_i32_443 c0_i32_444
  let c1_i32_445 : BitVec 32 := 1#32
  let v516 : BitVec 32 := Scalar.select v515 c1_i32_445 c15_i32_443
  let v517 : BitVec 32 := Scalar.remsi arg29 v516
  let c0_i32_447 : BitVec 32 := 0#32
  let v519 : BitVec 1 := Scalar.cmpi .slt v517 c0_i32_447
  let c0_i32_448 : BitVec 32 := 0#32
  let v520 : BitVec 1 := Scalar.cmpi .slt v516 c0_i32_448
  let v521 : BitVec 1 := Scalar.xori v519 v520
  let c0_i32_446 : BitVec 32 := 0#32
  let v518 : BitVec 1 := Scalar.cmpi .ne v517 c0_i32_446
  let v522 : BitVec 1 := Scalar.andi v521 v518
  let v523 : BitVec 32 := Scalar.addi v517 v516
  let v524 : BitVec 32 := Scalar.select v522 v523 v517
  let c1_i32_449 : BitVec 32 := 1#32
  let v525 : BitVec 32 := Scalar.addi v524 c1_i32_449
  let c128_i32_450 : BitVec 32 := 128#32
  let v526 : BitVec 32 := Scalar.muli v525 c128_i32_450
  let v527 : BitVec 32 := v526
  let v528 : Index := Scalar.indexCast v527
  let c0_451 : Index := 0#32
  ![v528.toNat, 0]
def k0_mult5 (k0_t1 : Fin k0_t1_loop.trips) : BitVec 32 :=
  let c0_i32_413 : BitVec 32 := 0#32
  let c1_i32_414 : BitVec 32 := 1#32
  let arg29 : BitVec 32 := Scf.iv c0_i32_413 c1_i32_414 k0_t1
  let c15_i32_443 : BitVec 32 := 15#32
  let c0_i32_444 : BitVec 32 := 0#32
  let v515 : BitVec 1 := Scalar.cmpi .eq c15_i32_443 c0_i32_444
  let c1_i32_445 : BitVec 32 := 1#32
  let v516 : BitVec 32 := Scalar.select v515 c1_i32_445 c15_i32_443
  let v517 : BitVec 32 := Scalar.remsi arg29 v516
  let c0_i32_447 : BitVec 32 := 0#32
  let v519 : BitVec 1 := Scalar.cmpi .slt v517 c0_i32_447
  let c0_i32_448 : BitVec 32 := 0#32
  let v520 : BitVec 1 := Scalar.cmpi .slt v516 c0_i32_448
  let v521 : BitVec 1 := Scalar.xori v519 v520
  let c0_i32_446 : BitVec 32 := 0#32
  let v518 : BitVec 1 := Scalar.cmpi .ne v517 c0_i32_446
  let v522 : BitVec 1 := Scalar.andi v521 v518
  let v523 : BitVec 32 := Scalar.addi v517 v516
  let v524 : BitVec 32 := Scalar.select v522 v523 v517
  let c1_i32_449 : BitVec 32 := 1#32
  let v525 : BitVec 32 := Scalar.addi v524 c1_i32_449
  let c128_i32_452 : BitVec 32 := 128#32
  let v530 : BitVec 32 := Scalar.muli v525 c128_i32_452
  v530
def k0_off4 (k0_t1 : Fin k0_t1_loop.trips) : Fin 2 → Nat :=
  let c0_i32_413 : BitVec 32 := 0#32
  let c1_i32_414 : BitVec 32 := 1#32
  let arg29 : BitVec 32 := Scf.iv c0_i32_413 c1_i32_414 k0_t1
  let c15_i32_443 : BitVec 32 := 15#32
  let c0_i32_444 : BitVec 32 := 0#32
  let v515 : BitVec 1 := Scalar.cmpi .eq c15_i32_443 c0_i32_444
  let c1_i32_445 : BitVec 32 := 1#32
  let v516 : BitVec 32 := Scalar.select v515 c1_i32_445 c15_i32_443
  let v517 : BitVec 32 := Scalar.remsi arg29 v516
  let c0_i32_447 : BitVec 32 := 0#32
  let v519 : BitVec 1 := Scalar.cmpi .slt v517 c0_i32_447
  let c0_i32_448 : BitVec 32 := 0#32
  let v520 : BitVec 1 := Scalar.cmpi .slt v516 c0_i32_448
  let v521 : BitVec 1 := Scalar.xori v519 v520
  let c0_i32_446 : BitVec 32 := 0#32
  let v518 : BitVec 1 := Scalar.cmpi .ne v517 c0_i32_446
  let v522 : BitVec 1 := Scalar.andi v521 v518
  let v523 : BitVec 32 := Scalar.addi v517 v516
  let v524 : BitVec 32 := Scalar.select v522 v523 v517
  let c1_i32_449 : BitVec 32 := 1#32
  let v525 : BitVec 32 := Scalar.addi v524 c1_i32_449
  let c128_i32_452 : BitVec 32 := 128#32
  let v530 : BitVec 32 := Scalar.muli v525 c128_i32_452
  let v531 : BitVec 32 := v530
  let v532 : Index := Scalar.indexCast v531
  let c0_453 : Index := 0#32
  ![v532.toNat, 0]
def k0_mult6 (k0_t1 : Fin k0_t1_loop.trips) : BitVec 32 :=
  let c0_i32_413 : BitVec 32 := 0#32
  let c1_i32_414 : BitVec 32 := 1#32
  let arg29 : BitVec 32 := Scf.iv c0_i32_413 c1_i32_414 k0_t1
  let c15_i32_443 : BitVec 32 := 15#32
  let c0_i32_444 : BitVec 32 := 0#32
  let v515 : BitVec 1 := Scalar.cmpi .eq c15_i32_443 c0_i32_444
  let c1_i32_445 : BitVec 32 := 1#32
  let v516 : BitVec 32 := Scalar.select v515 c1_i32_445 c15_i32_443
  let v517 : BitVec 32 := Scalar.remsi arg29 v516
  let c0_i32_447 : BitVec 32 := 0#32
  let v519 : BitVec 1 := Scalar.cmpi .slt v517 c0_i32_447
  let c0_i32_448 : BitVec 32 := 0#32
  let v520 : BitVec 1 := Scalar.cmpi .slt v516 c0_i32_448
  let v521 : BitVec 1 := Scalar.xori v519 v520
  let c0_i32_446 : BitVec 32 := 0#32
  let v518 : BitVec 1 := Scalar.cmpi .ne v517 c0_i32_446
  let v522 : BitVec 1 := Scalar.andi v521 v518
  let v523 : BitVec 32 := Scalar.addi v517 v516
  let v524 : BitVec 32 := Scalar.select v522 v523 v517
  let c1_i32_449 : BitVec 32 := 1#32
  let v525 : BitVec 32 := Scalar.addi v524 c1_i32_449
  let c128_i32_461 : BitVec 32 := 128#32
  let v557 : BitVec 32 := Scalar.muli v525 c128_i32_461
  let c0_i32_437 : BitVec 32 := 0#32
  let v499 : BitVec 1 := Scalar.cmpi .sgt arg29 c0_i32_437
  let v500 : BitVec 32 := Scalar.extui v499
  let c0_i32_438 : BitVec 32 := 0#32
  let v501 : BitVec 1 := Scalar.cmpi .slt arg29 c0_i32_438
  let v502 : BitVec 32 := Scalar.extui v501
  let v503 : BitVec 32 := Scalar.subi v500 v502
  let c15_i32_436 : BitVec 32 := 15#32
  let c0_i32_439 : BitVec 32 := 0#32
  let v504 : BitVec 1 := Scalar.cmpi .sgt c15_i32_436 c0_i32_439
  let v505 : BitVec 32 := Scalar.extui v504
  let c0_i32_440 : BitVec 32 := 0#32
  let v506 : BitVec 1 := Scalar.cmpi .slt c15_i32_436 c0_i32_440
  let v507 : BitVec 32 := Scalar.extui v506
  let v508 : BitVec 32 := Scalar.subi v505 v507
  let v509 : BitVec 1 := Scalar.cmpi .ne v503 v508
  let v510 : BitVec 32 := Scalar.remsi arg29 c15_i32_436
  let c0_i32_441 : BitVec 32 := 0#32
  let v511 : BitVec 1 := Scalar.cmpi .ne v510 c0_i32_441
  let v512 : BitVec 1 := Scalar.andi v509 v511
  let v498 : BitVec 32 := Scalar.divsi arg29 c15_i32_436
  let c1_i32_442 : BitVec 32 := 1#32
  let v513 : BitVec 32 := Scalar.subi v498 c1_i32_442
  let v514 : BitVec 32 := Scalar.select v512 v513 v498
  let v558 : BitVec 32 := Scalar.addi v557 v514
  v558
def k0_off5 (k0_t1 : Fin k0_t1_loop.trips) : Fin 2 → Nat :=
  let c0_i32_413 : BitVec 32 := 0#32
  let c1_i32_414 : BitVec 32 := 1#32
  let arg29 : BitVec 32 := Scf.iv c0_i32_413 c1_i32_414 k0_t1
  let c15_i32_443 : BitVec 32 := 15#32
  let c0_i32_444 : BitVec 32 := 0#32
  let v515 : BitVec 1 := Scalar.cmpi .eq c15_i32_443 c0_i32_444
  let c1_i32_445 : BitVec 32 := 1#32
  let v516 : BitVec 32 := Scalar.select v515 c1_i32_445 c15_i32_443
  let v517 : BitVec 32 := Scalar.remsi arg29 v516
  let c0_i32_447 : BitVec 32 := 0#32
  let v519 : BitVec 1 := Scalar.cmpi .slt v517 c0_i32_447
  let c0_i32_448 : BitVec 32 := 0#32
  let v520 : BitVec 1 := Scalar.cmpi .slt v516 c0_i32_448
  let v521 : BitVec 1 := Scalar.xori v519 v520
  let c0_i32_446 : BitVec 32 := 0#32
  let v518 : BitVec 1 := Scalar.cmpi .ne v517 c0_i32_446
  let v522 : BitVec 1 := Scalar.andi v521 v518
  let v523 : BitVec 32 := Scalar.addi v517 v516
  let v524 : BitVec 32 := Scalar.select v522 v523 v517
  let c1_i32_449 : BitVec 32 := 1#32
  let v525 : BitVec 32 := Scalar.addi v524 c1_i32_449
  let c128_i32_461 : BitVec 32 := 128#32
  let v557 : BitVec 32 := Scalar.muli v525 c128_i32_461
  let c0_i32_437 : BitVec 32 := 0#32
  let v499 : BitVec 1 := Scalar.cmpi .sgt arg29 c0_i32_437
  let v500 : BitVec 32 := Scalar.extui v499
  let c0_i32_438 : BitVec 32 := 0#32
  let v501 : BitVec 1 := Scalar.cmpi .slt arg29 c0_i32_438
  let v502 : BitVec 32 := Scalar.extui v501
  let v503 : BitVec 32 := Scalar.subi v500 v502
  let c15_i32_436 : BitVec 32 := 15#32
  let c0_i32_439 : BitVec 32 := 0#32
  let v504 : BitVec 1 := Scalar.cmpi .sgt c15_i32_436 c0_i32_439
  let v505 : BitVec 32 := Scalar.extui v504
  let c0_i32_440 : BitVec 32 := 0#32
  let v506 : BitVec 1 := Scalar.cmpi .slt c15_i32_436 c0_i32_440
  let v507 : BitVec 32 := Scalar.extui v506
  let v508 : BitVec 32 := Scalar.subi v505 v507
  let v509 : BitVec 1 := Scalar.cmpi .ne v503 v508
  let v510 : BitVec 32 := Scalar.remsi arg29 c15_i32_436
  let c0_i32_441 : BitVec 32 := 0#32
  let v511 : BitVec 1 := Scalar.cmpi .ne v510 c0_i32_441
  let v512 : BitVec 1 := Scalar.andi v509 v511
  let v498 : BitVec 32 := Scalar.divsi arg29 c15_i32_436
  let c1_i32_442 : BitVec 32 := 1#32
  let v513 : BitVec 32 := Scalar.subi v498 c1_i32_442
  let v514 : BitVec 32 := Scalar.select v512 v513 v498
  let v558 : BitVec 32 := Scalar.addi v557 v514
  let v559 : BitVec 32 := v558
  let v560 : Index := Scalar.indexCast v559
  let c0_462 : Index := 0#32
  ![v560.toNat, 0]
@[reducible] def k0_t2_loop : Scf.Loop 32 :=
  let c0_i32_420 : BitVec 32 := 0#32
  let c4_i32 : BitVec 32 := 4#32
  let v488 : BitVec 32 := Scalar.addi c0_i32_420 c4_i32
  let c1_i32_421 : BitVec 32 := 1#32
  ⟨c0_i32_420, v488, c1_i32_421⟩
def k0_mult7 : BitVec 32 :=
  let c0_i32_436 : BitVec 32 := 0#32
  c0_i32_436
def k0_off6 (k0_t2 : Fin k0_t2_loop.trips) : Fin 3 → Nat :=
  let c0_i32_420 : BitVec 32 := 0#32
  let c1_i32_421 : BitVec 32 := 1#32
  let arg29 : BitVec 32 := Scf.iv c0_i32_420 c1_i32_421 k0_t2
  let v499 : Index := Scalar.indexCast arg29
  let c0_i32_436 : BitVec 32 := 0#32
  let v498 : BitVec 32 := c0_i32_436
  let v500 : Index := Scalar.indexCast v498
  let c0_437 : Index := 0#32
  ![v499.toNat, 0, 0]
def k0_mult8 : BitVec 32 :=
  let c0_i32_438 : BitVec 32 := 0#32
  c0_i32_438
def k0_off7 (k0_t2 : Fin k0_t2_loop.trips) : Fin 3 → Nat :=
  let c0_i32_420 : BitVec 32 := 0#32
  let c1_i32_421 : BitVec 32 := 1#32
  let arg29 : BitVec 32 := Scf.iv c0_i32_420 c1_i32_421 k0_t2
  let v504 : Index := Scalar.indexCast arg29
  let c0_i32_438 : BitVec 32 := 0#32
  let v503 : BitVec 32 := c0_i32_438
  let v505 : Index := Scalar.indexCast v503
  let c0_439 : Index := 0#32
  ![v504.toNat, 0, 0]
def k0_off8 (k0_t2 : Fin k0_t2_loop.trips) : Fin 2 → Nat :=
  let c0_i32_447 : BitVec 32 := 0#32
  let c0_i32_420 : BitVec 32 := 0#32
  let c1_i32_421 : BitVec 32 := 1#32
  let arg29 : BitVec 32 := Scf.iv c0_i32_420 c1_i32_421 k0_t2
  let v533 : BitVec 32 := Scalar.addi c0_i32_447 arg29
  let v534 : Index := Scalar.indexCast v533
  let c0_448 : Index := 0#32
  ![v534.toNat, 0]
@[reducible] def k0_t3_loop : Scf.Loop 32 :=
  let c0_i32_423 : BitVec 32 := 0#32
  let c12_i32 : BitVec 32 := 12#32
  let v489 : BitVec 32 := Scalar.addi c0_i32_423 c12_i32
  let c1_i32_424 : BitVec 32 := 1#32
  ⟨c0_i32_423, v489, c1_i32_424⟩
def k0_mult9 (k0_t3 : Fin k0_t3_loop.trips) : BitVec 32 :=
  let c0_i32_423 : BitVec 32 := 0#32
  let c1_i32_424 : BitVec 32 := 1#32
  let arg29 : BitVec 32 := Scf.iv c0_i32_423 c1_i32_424 k0_t3
  let c3_i32_442 : BitVec 32 := 3#32
  let c0_i32_443 : BitVec 32 := 0#32
  let v515 : BitVec 1 := Scalar.cmpi .eq c3_i32_442 c0_i32_443
  let c1_i32_444 : BitVec 32 := 1#32
  let v516 : BitVec 32 := Scalar.select v515 c1_i32_444 c3_i32_442
  let v517 : BitVec 32 := Scalar.remsi arg29 v516
  let c0_i32_446 : BitVec 32 := 0#32
  let v519 : BitVec 1 := Scalar.cmpi .slt v517 c0_i32_446
  let c0_i32_447 : BitVec 32 := 0#32
  let v520 : BitVec 1 := Scalar.cmpi .slt v516 c0_i32_447
  let v521 : BitVec 1 := Scalar.xori v519 v520
  let c0_i32_445 : BitVec 32 := 0#32
  let v518 : BitVec 1 := Scalar.cmpi .ne v517 c0_i32_445
  let v522 : BitVec 1 := Scalar.andi v521 v518
  let v523 : BitVec 32 := Scalar.addi v517 v516
  let v524 : BitVec 32 := Scalar.select v522 v523 v517
  let c1_i32_448 : BitVec 32 := 1#32
  let v525 : BitVec 32 := Scalar.addi v524 c1_i32_448
  let c128_i32_449 : BitVec 32 := 128#32
  let v526 : BitVec 32 := Scalar.muli v525 c128_i32_449
  v526
def k0_off9 (k0_t3 : Fin k0_t3_loop.trips) : Fin 3 → Nat :=
  let c0_i32_423 : BitVec 32 := 0#32
  let c1_i32_424 : BitVec 32 := 1#32
  let arg29 : BitVec 32 := Scf.iv c0_i32_423 c1_i32_424 k0_t3
  let c0_i32_436 : BitVec 32 := 0#32
  let v499 : BitVec 1 := Scalar.cmpi .sgt arg29 c0_i32_436
  let v500 : BitVec 32 := Scalar.extui v499
  let c0_i32_437 : BitVec 32 := 0#32
  let v501 : BitVec 1 := Scalar.cmpi .slt arg29 c0_i32_437
  let v502 : BitVec 32 := Scalar.extui v501
  let v503 : BitVec 32 := Scalar.subi v500 v502
  let c3_i32 : BitVec 32 := 3#32
  let c0_i32_438 : BitVec 32 := 0#32
  let v504 : BitVec 1 := Scalar.cmpi .sgt c3_i32 c0_i32_438
  let v505 : BitVec 32 := Scalar.extui v504
  let c0_i32_439 : BitVec 32 := 0#32
  let v506 : BitVec 1 := Scalar.cmpi .slt c3_i32 c0_i32_439
  let v507 : BitVec 32 := Scalar.extui v506
  let v508 : BitVec 32 := Scalar.subi v505 v507
  let v509 : BitVec 1 := Scalar.cmpi .ne v503 v508
  let v510 : BitVec 32 := Scalar.remsi arg29 c3_i32
  let c0_i32_440 : BitVec 32 := 0#32
  let v511 : BitVec 1 := Scalar.cmpi .ne v510 c0_i32_440
  let v512 : BitVec 1 := Scalar.andi v509 v511
  let v498 : BitVec 32 := Scalar.divsi arg29 c3_i32
  let c1_i32_441 : BitVec 32 := 1#32
  let v513 : BitVec 32 := Scalar.subi v498 c1_i32_441
  let v514 : BitVec 32 := Scalar.select v512 v513 v498
  let v528 : Index := Scalar.indexCast v514
  let c3_i32_442 : BitVec 32 := 3#32
  let c0_i32_443 : BitVec 32 := 0#32
  let v515 : BitVec 1 := Scalar.cmpi .eq c3_i32_442 c0_i32_443
  let c1_i32_444 : BitVec 32 := 1#32
  let v516 : BitVec 32 := Scalar.select v515 c1_i32_444 c3_i32_442
  let v517 : BitVec 32 := Scalar.remsi arg29 v516
  let c0_i32_446 : BitVec 32 := 0#32
  let v519 : BitVec 1 := Scalar.cmpi .slt v517 c0_i32_446
  let c0_i32_447 : BitVec 32 := 0#32
  let v520 : BitVec 1 := Scalar.cmpi .slt v516 c0_i32_447
  let v521 : BitVec 1 := Scalar.xori v519 v520
  let c0_i32_445 : BitVec 32 := 0#32
  let v518 : BitVec 1 := Scalar.cmpi .ne v517 c0_i32_445
  let v522 : BitVec 1 := Scalar.andi v521 v518
  let v523 : BitVec 32 := Scalar.addi v517 v516
  let v524 : BitVec 32 := Scalar.select v522 v523 v517
  let c1_i32_448 : BitVec 32 := 1#32
  let v525 : BitVec 32 := Scalar.addi v524 c1_i32_448
  let c128_i32_449 : BitVec 32 := 128#32
  let v526 : BitVec 32 := Scalar.muli v525 c128_i32_449
  let v527 : BitVec 32 := v526
  let v529 : Index := Scalar.indexCast v527
  let c0_450 : Index := 0#32
  ![v528.toNat, v529.toNat, 0]
def k0_mult10 (k0_t3 : Fin k0_t3_loop.trips) : BitVec 32 :=
  let c0_i32_423 : BitVec 32 := 0#32
  let c1_i32_424 : BitVec 32 := 1#32
  let arg29 : BitVec 32 := Scf.iv c0_i32_423 c1_i32_424 k0_t3
  let c3_i32_442 : BitVec 32 := 3#32
  let c0_i32_443 : BitVec 32 := 0#32
  let v515 : BitVec 1 := Scalar.cmpi .eq c3_i32_442 c0_i32_443
  let c1_i32_444 : BitVec 32 := 1#32
  let v516 : BitVec 32 := Scalar.select v515 c1_i32_444 c3_i32_442
  let v517 : BitVec 32 := Scalar.remsi arg29 v516
  let c0_i32_446 : BitVec 32 := 0#32
  let v519 : BitVec 1 := Scalar.cmpi .slt v517 c0_i32_446
  let c0_i32_447 : BitVec 32 := 0#32
  let v520 : BitVec 1 := Scalar.cmpi .slt v516 c0_i32_447
  let v521 : BitVec 1 := Scalar.xori v519 v520
  let c0_i32_445 : BitVec 32 := 0#32
  let v518 : BitVec 1 := Scalar.cmpi .ne v517 c0_i32_445
  let v522 : BitVec 1 := Scalar.andi v521 v518
  let v523 : BitVec 32 := Scalar.addi v517 v516
  let v524 : BitVec 32 := Scalar.select v522 v523 v517
  let c1_i32_448 : BitVec 32 := 1#32
  let v525 : BitVec 32 := Scalar.addi v524 c1_i32_448
  let c128_i32_451 : BitVec 32 := 128#32
  let v532 : BitVec 32 := Scalar.muli v525 c128_i32_451
  v532
def k0_off10 (k0_t3 : Fin k0_t3_loop.trips) : Fin 3 → Nat :=
  let c0_i32_423 : BitVec 32 := 0#32
  let c1_i32_424 : BitVec 32 := 1#32
  let arg29 : BitVec 32 := Scf.iv c0_i32_423 c1_i32_424 k0_t3
  let c0_i32_436 : BitVec 32 := 0#32
  let v499 : BitVec 1 := Scalar.cmpi .sgt arg29 c0_i32_436
  let v500 : BitVec 32 := Scalar.extui v499
  let c0_i32_437 : BitVec 32 := 0#32
  let v501 : BitVec 1 := Scalar.cmpi .slt arg29 c0_i32_437
  let v502 : BitVec 32 := Scalar.extui v501
  let v503 : BitVec 32 := Scalar.subi v500 v502
  let c3_i32 : BitVec 32 := 3#32
  let c0_i32_438 : BitVec 32 := 0#32
  let v504 : BitVec 1 := Scalar.cmpi .sgt c3_i32 c0_i32_438
  let v505 : BitVec 32 := Scalar.extui v504
  let c0_i32_439 : BitVec 32 := 0#32
  let v506 : BitVec 1 := Scalar.cmpi .slt c3_i32 c0_i32_439
  let v507 : BitVec 32 := Scalar.extui v506
  let v508 : BitVec 32 := Scalar.subi v505 v507
  let v509 : BitVec 1 := Scalar.cmpi .ne v503 v508
  let v510 : BitVec 32 := Scalar.remsi arg29 c3_i32
  let c0_i32_440 : BitVec 32 := 0#32
  let v511 : BitVec 1 := Scalar.cmpi .ne v510 c0_i32_440
  let v512 : BitVec 1 := Scalar.andi v509 v511
  let v498 : BitVec 32 := Scalar.divsi arg29 c3_i32
  let c1_i32_441 : BitVec 32 := 1#32
  let v513 : BitVec 32 := Scalar.subi v498 c1_i32_441
  let v514 : BitVec 32 := Scalar.select v512 v513 v498
  let v534 : Index := Scalar.indexCast v514
  let c3_i32_442 : BitVec 32 := 3#32
  let c0_i32_443 : BitVec 32 := 0#32
  let v515 : BitVec 1 := Scalar.cmpi .eq c3_i32_442 c0_i32_443
  let c1_i32_444 : BitVec 32 := 1#32
  let v516 : BitVec 32 := Scalar.select v515 c1_i32_444 c3_i32_442
  let v517 : BitVec 32 := Scalar.remsi arg29 v516
  let c0_i32_446 : BitVec 32 := 0#32
  let v519 : BitVec 1 := Scalar.cmpi .slt v517 c0_i32_446
  let c0_i32_447 : BitVec 32 := 0#32
  let v520 : BitVec 1 := Scalar.cmpi .slt v516 c0_i32_447
  let v521 : BitVec 1 := Scalar.xori v519 v520
  let c0_i32_445 : BitVec 32 := 0#32
  let v518 : BitVec 1 := Scalar.cmpi .ne v517 c0_i32_445
  let v522 : BitVec 1 := Scalar.andi v521 v518
  let v523 : BitVec 32 := Scalar.addi v517 v516
  let v524 : BitVec 32 := Scalar.select v522 v523 v517
  let c1_i32_448 : BitVec 32 := 1#32
  let v525 : BitVec 32 := Scalar.addi v524 c1_i32_448
  let c128_i32_451 : BitVec 32 := 128#32
  let v532 : BitVec 32 := Scalar.muli v525 c128_i32_451
  let v533 : BitVec 32 := v532
  let v535 : Index := Scalar.indexCast v533
  let c0_452 : Index := 0#32
  ![v534.toNat, v535.toNat, 0]
def k0_off11 (k0_t3 : Fin k0_t3_loop.trips) : Fin 2 → Nat :=
  let c0_i32_423 : BitVec 32 := 0#32
  let c1_i32_424 : BitVec 32 := 1#32
  let arg29 : BitVec 32 := Scf.iv c0_i32_423 c1_i32_424 k0_t3
  let c3_i32_442 : BitVec 32 := 3#32
  let c0_i32_443 : BitVec 32 := 0#32
  let v515 : BitVec 1 := Scalar.cmpi .eq c3_i32_442 c0_i32_443
  let c1_i32_444 : BitVec 32 := 1#32
  let v516 : BitVec 32 := Scalar.select v515 c1_i32_444 c3_i32_442
  let v517 : BitVec 32 := Scalar.remsi arg29 v516
  let c0_i32_446 : BitVec 32 := 0#32
  let v519 : BitVec 1 := Scalar.cmpi .slt v517 c0_i32_446
  let c0_i32_447 : BitVec 32 := 0#32
  let v520 : BitVec 1 := Scalar.cmpi .slt v516 c0_i32_447
  let v521 : BitVec 1 := Scalar.xori v519 v520
  let c0_i32_445 : BitVec 32 := 0#32
  let v518 : BitVec 1 := Scalar.cmpi .ne v517 c0_i32_445
  let v522 : BitVec 1 := Scalar.andi v521 v518
  let v523 : BitVec 32 := Scalar.addi v517 v516
  let v524 : BitVec 32 := Scalar.select v522 v523 v517
  let c1_i32_448 : BitVec 32 := 1#32
  let v525 : BitVec 32 := Scalar.addi v524 c1_i32_448
  let c512_i32 : BitVec 32 := 512#32
  let v563 : BitVec 32 := Scalar.muli v525 c512_i32
  let c0_i32_436 : BitVec 32 := 0#32
  let v499 : BitVec 1 := Scalar.cmpi .sgt arg29 c0_i32_436
  let v500 : BitVec 32 := Scalar.extui v499
  let c0_i32_437 : BitVec 32 := 0#32
  let v501 : BitVec 1 := Scalar.cmpi .slt arg29 c0_i32_437
  let v502 : BitVec 32 := Scalar.extui v501
  let v503 : BitVec 32 := Scalar.subi v500 v502
  let c3_i32 : BitVec 32 := 3#32
  let c0_i32_438 : BitVec 32 := 0#32
  let v504 : BitVec 1 := Scalar.cmpi .sgt c3_i32 c0_i32_438
  let v505 : BitVec 32 := Scalar.extui v504
  let c0_i32_439 : BitVec 32 := 0#32
  let v506 : BitVec 1 := Scalar.cmpi .slt c3_i32 c0_i32_439
  let v507 : BitVec 32 := Scalar.extui v506
  let v508 : BitVec 32 := Scalar.subi v505 v507
  let v509 : BitVec 1 := Scalar.cmpi .ne v503 v508
  let v510 : BitVec 32 := Scalar.remsi arg29 c3_i32
  let c0_i32_440 : BitVec 32 := 0#32
  let v511 : BitVec 1 := Scalar.cmpi .ne v510 c0_i32_440
  let v512 : BitVec 1 := Scalar.andi v509 v511
  let v498 : BitVec 32 := Scalar.divsi arg29 c3_i32
  let c1_i32_441 : BitVec 32 := 1#32
  let v513 : BitVec 32 := Scalar.subi v498 c1_i32_441
  let v514 : BitVec 32 := Scalar.select v512 v513 v498
  let v564 : BitVec 32 := Scalar.addi v563 v514
  let v565 : Index := Scalar.indexCast v564
  let c0_460 : Index := 0#32
  ![v565.toNat, 0]
@[reducible] def k0_t4_loop : Scf.Loop 32 :=
  let c0_i32_429 : BitVec 32 := 0#32
  let c16_i32 : BitVec 32 := 16#32
  let v496 : BitVec 32 := Scalar.addi c0_i32_429 c16_i32
  let c1_i32_430 : BitVec 32 := 1#32
  ⟨c0_i32_429, v496, c1_i32_430⟩
def k0_off12 (k0_t4 : Fin k0_t4_loop.trips) : Fin 3 → Nat :=
  let c0_i32_429 : BitVec 32 := 0#32
  let c1_i32_430 : BitVec 32 := 1#32
  let arg29 : BitVec 32 := Scf.iv c0_i32_429 c1_i32_430 k0_t4
  let v498 : Index := Scalar.indexCast arg29
  let c0_436 : Index := 0#32
  let c0_437 : Index := 0#32
  ![v498.toNat, 0, 0]
def k0_off13 (k0_t4 : Fin k0_t4_loop.trips) : Fin 3 → Nat :=
  let c0_i32_429 : BitVec 32 := 0#32
  let c1_i32_430 : BitVec 32 := 1#32
  let arg29 : BitVec 32 := Scf.iv c0_i32_429 c1_i32_430 k0_t4
  let v501 : Index := Scalar.indexCast arg29
  let c0_438 : Index := 0#32
  let c0_439 : Index := 0#32
  ![v501.toNat, 0, 0]
def k0_off14 (k0_t4 : Fin k0_t4_loop.trips) : Fin 2 → Nat :=
  let c0_i32_448 : BitVec 32 := 0#32
  let c0_i32_429 : BitVec 32 := 0#32
  let c1_i32_430 : BitVec 32 := 1#32
  let arg29 : BitVec 32 := Scf.iv c0_i32_429 c1_i32_430 k0_t4
  let v528 : BitVec 32 := Scalar.addi c0_i32_448 arg29
  let v529 : Index := Scalar.indexCast v528
  let c0_449 : Index := 0#32
  ![v529.toNat, 0]
@[reducible] def k0_t5_loop : Scf.Loop 32 :=
  let c0_i32_432 : BitVec 32 := 0#32
  let c16_i32_433 : BitVec 32 := 16#32
  let v497 : BitVec 32 := Scalar.addi c0_i32_432 c16_i32_433
  let c1_i32_434 : BitVec 32 := 1#32
  ⟨c0_i32_432, v497, c1_i32_434⟩
def k0_mult11 (k0_t5 : Fin k0_t5_loop.trips) : BitVec 32 :=
  let c0_i32_432 : BitVec 32 := 0#32
  let c1_i32_434 : BitVec 32 := 1#32
  let arg29 : BitVec 32 := Scf.iv c0_i32_432 c1_i32_434 k0_t5
  let c128_i32_436 : BitVec 32 := 128#32
  let v498 : BitVec 32 := Scalar.muli arg29 c128_i32_436
  v498
def k0_off15 (k0_t5 : Fin k0_t5_loop.trips) : Fin 2 → Nat :=
  let c0_i32_432 : BitVec 32 := 0#32
  let c1_i32_434 : BitVec 32 := 1#32
  let arg29 : BitVec 32 := Scf.iv c0_i32_432 c1_i32_434 k0_t5
  let c128_i32_436 : BitVec 32 := 128#32
  let v498 : BitVec 32 := Scalar.muli arg29 c128_i32_436
  let v499 : BitVec 32 := v498
  let v500 : Index := Scalar.indexCast v499
  let c0_437 : Index := 0#32
  ![v500.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c48_i32 : BitVec 32 := 48#32
  let v2 : BitVec 32 := Scalar.addi c48_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S16384x12288 : Shape := ⟨2, ![16384, 12288]⟩
abbrev S16 : Shape := ⟨1, ![16]⟩
abbrev S2x8192x12288 : Shape := ⟨3, ![2, 8192, 12288]⟩
abbrev S2x8192x2048 : Shape := ⟨3, ![2, 8192, 2048]⟩
abbrev S2x8192x16x128 : Shape := ⟨4, ![2, 8192, 16, 128]⟩
abbrev S_ : Shape := ⟨0, ![]⟩
abbrev S1x8192x8192 : Shape := ⟨3, ![1, 8192, 8192]⟩
abbrev S3x8192x8192 : Shape := ⟨3, ![3, 8192, 8192]⟩
abbrev S16x1x1 : Shape := ⟨3, ![16, 1, 1]⟩
abbrev S3x1x8192x8192 : Shape := ⟨4, ![3, 1, 8192, 8192]⟩
abbrev S1x16x1x1 : Shape := ⟨4, ![1, 16, 1, 1]⟩
abbrev S3x16x8192x8192 : Shape := ⟨4, ![3, 16, 8192, 8192]⟩
abbrev S2x16x8192x8192 : Shape := ⟨4, ![2, 16, 8192, 8192]⟩
abbrev S3x1x16x8192x8192 : Shape := ⟨5, ![3, 1, 16, 8192, 8192]⟩
abbrev S1x2x16x8192x8192 : Shape := ⟨5, ![1, 2, 16, 8192, 8192]⟩
abbrev S3x2x16x8192x8192 : Shape := ⟨5, ![3, 2, 16, 8192, 8192]⟩
abbrev S3x1x1x8192x8192 : Shape := ⟨5, ![3, 1, 1, 8192, 8192]⟩
abbrev S3x2x16x8192 : Shape := ⟨4, ![3, 2, 16, 8192]⟩
abbrev S3x2x16x8192x1 : Shape := ⟨5, ![3, 2, 16, 8192, 1]⟩
abbrev S2x16x128x3x8192 : Shape := ⟨5, ![2, 16, 128, 3, 8192]⟩
abbrev S3x2x16x8192x128 : Shape := ⟨5, ![3, 2, 16, 8192, 128]⟩
abbrev S2x16x8192x1 : Shape := ⟨4, ![2, 16, 8192, 1]⟩
abbrev S1x2x16x8192x1 : Shape := ⟨5, ![1, 2, 16, 8192, 1]⟩
abbrev S2x16x8192x128 : Shape := ⟨4, ![2, 16, 8192, 128]⟩
abbrev S16384x2048 : Shape := ⟨2, ![16384, 2048]⟩

abbrev nBuf : Space → Nat
  | .hbm => 102
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S16, .f32⟩
  | .hbm, ⟨2, _⟩ => ⟨S16384x12288, .f32⟩
  | .hbm, ⟨3, _⟩ => ⟨S2x8192x12288, .f32⟩
  | .hbm, ⟨4, _⟩ => ⟨S2x8192x2048, .f32⟩
  | .hbm, ⟨5, _⟩ => ⟨S2x8192x2048, .f32⟩
  | .hbm, ⟨6, _⟩ => ⟨S2x8192x2048, .f32⟩
  | .hbm, ⟨7, _⟩ => ⟨S2x8192x2048, .f32⟩
  | .hbm, ⟨8, _⟩ => ⟨S2x8192x16x128, .f32⟩
  | .hbm, ⟨9, _⟩ => ⟨S2x8192x16x128, .f32⟩
  | .hbm, ⟨10, _⟩ => ⟨S2x8192x16x128, .f32⟩
  | .hbm, ⟨11, _⟩ => ⟨S_, .i32⟩
  | .hbm, ⟨12, _⟩ => ⟨S1x8192x8192, .i32⟩
  | .hbm, ⟨13, _⟩ => ⟨S_, .i32⟩
  | .hbm, ⟨14, _⟩ => ⟨S1x8192x8192, .i32⟩
  | .hbm, ⟨15, _⟩ => ⟨S_, .i32⟩
  | .hbm, ⟨16, _⟩ => ⟨S1x8192x8192, .i32⟩
  | .hbm, ⟨17, _⟩ => ⟨S3x8192x8192, .i32⟩
  | .hbm, ⟨18, _⟩ => ⟨S3x8192x8192, .i32⟩
  | .hbm, ⟨19, _⟩ => ⟨S3x8192x8192, .i32⟩
  | .hbm, ⟨20, _⟩ => ⟨S3x8192x8192, .i32⟩
  | .hbm, ⟨21, _⟩ => ⟨S_, .i32⟩
  | .hbm, ⟨22, _⟩ => ⟨S3x8192x8192, .i32⟩
  | .hbm, ⟨23, _⟩ => ⟨S3x8192x8192, .i1⟩
  | .hbm, ⟨24, _⟩ => ⟨S_, .i32⟩
  | .hbm, ⟨25, _⟩ => ⟨S3x8192x8192, .i32⟩
  | .hbm, ⟨26, _⟩ => ⟨S3x8192x8192, .i32⟩
  | .hbm, ⟨27, _⟩ => ⟨S3x8192x8192, .i1⟩
  | .hbm, ⟨28, _⟩ => ⟨S3x8192x8192, .i1⟩
  | .hbm, ⟨29, _⟩ => ⟨S3x8192x8192, .i32⟩
  | .hbm, ⟨30, _⟩ => ⟨S_, .i32⟩
  | .hbm, ⟨31, _⟩ => ⟨S3x8192x8192, .i32⟩
  | .hbm, ⟨32, _⟩ => ⟨S3x8192x8192, .i1⟩
  | .hbm, ⟨33, _⟩ => ⟨S3x8192x8192, .i1⟩
  | .hbm, ⟨34, _⟩ => ⟨S16x1x1, .f32⟩
  | .hbm, ⟨35, _⟩ => ⟨S16x1x1, .f32⟩
  | .hbm, ⟨36, _⟩ => ⟨S3x8192x8192, .f32⟩
  | .hbm, ⟨37, _⟩ => ⟨S3x1x8192x8192, .f32⟩
  | .hbm, ⟨38, _⟩ => ⟨S1x16x1x1, .f32⟩
  | .hbm, ⟨39, _⟩ => ⟨S3x16x8192x8192, .f32⟩
  | .hbm, ⟨40, _⟩ => ⟨S3x16x8192x8192, .f32⟩
  | .hbm, ⟨41, _⟩ => ⟨S3x16x8192x8192, .f32⟩
  | .hbm, ⟨42, _⟩ => ⟨S2x16x8192x8192, .f32⟩
  | .hbm, ⟨43, _⟩ => ⟨S_, .f32⟩
  | .hbm, ⟨44, _⟩ => ⟨S2x16x8192x8192, .f32⟩
  | .hbm, ⟨45, _⟩ => ⟨S2x16x8192x8192, .f32⟩
  | .hbm, ⟨46, _⟩ => ⟨S3x1x16x8192x8192, .f32⟩
  | .hbm, ⟨47, _⟩ => ⟨S1x2x16x8192x8192, .f32⟩
  | .hbm, ⟨48, _⟩ => ⟨S3x2x16x8192x8192, .f32⟩
  | .hbm, ⟨49, _⟩ => ⟨S3x2x16x8192x8192, .f32⟩
  | .hbm, ⟨50, _⟩ => ⟨S3x2x16x8192x8192, .f32⟩
  | .hbm, ⟨51, _⟩ => ⟨S3x1x1x8192x8192, .i1⟩
  | .hbm, ⟨52, _⟩ => ⟨S_, .f32⟩
  | .hbm, ⟨53, _⟩ => ⟨S_, .f32⟩
  | .hbm, ⟨54, _⟩ => ⟨S3x2x16x8192x8192, .i1⟩
  | .hbm, ⟨55, _⟩ => ⟨S3x2x16x8192x8192, .f32⟩
  | .hbm, ⟨56, _⟩ => ⟨S3x2x16x8192x8192, .f32⟩
  | .hbm, ⟨57, _⟩ => ⟨S_, .f32⟩
  | .hbm, ⟨58, _⟩ => ⟨S3x2x16x8192, .f32⟩
  | .hbm, ⟨59, _⟩ => ⟨S3x2x16x8192x1, .f32⟩
  | .hbm, ⟨60, _⟩ => ⟨S3x2x16x8192x8192, .f32⟩
  | .hbm, ⟨61, _⟩ => ⟨S3x2x16x8192x8192, .f32⟩
  | .hbm, ⟨62, _⟩ => ⟨S3x2x16x8192x8192, .f32⟩
  | .hbm, ⟨63, _⟩ => ⟨S_, .f32⟩
  | .hbm, ⟨64, _⟩ => ⟨S3x2x16x8192, .f32⟩
  | .hbm, ⟨65, _⟩ => ⟨S3x2x16x8192x1, .f32⟩
  | .hbm, ⟨66, _⟩ => ⟨S3x2x16x8192x1, .f32⟩
  | .hbm, ⟨67, _⟩ => ⟨S3x2x16x8192x1, .f32⟩
  | .hbm, ⟨68, _⟩ => ⟨S3x2x16x8192x8192, .f32⟩
  | .hbm, ⟨69, _⟩ => ⟨S3x2x16x8192x8192, .f32⟩
  | .hbm, ⟨70, _⟩ => ⟨S3x2x16x8192x8192, .f32⟩
  | .hbm, ⟨71, _⟩ => ⟨S2x16x128x3x8192, .f32⟩
  | .hbm, ⟨72, _⟩ => ⟨S3x2x16x8192x128, .f32⟩
  | .hbm, ⟨73, _⟩ => ⟨S_, .f32⟩
  | .hbm, ⟨74, _⟩ => ⟨S2x16x8192x1, .f32⟩
  | .hbm, ⟨75, _⟩ => ⟨S1x2x16x8192x1, .f32⟩
  | .hbm, ⟨76, _⟩ => ⟨S3x2x16x8192x1, .f32⟩
  | .hbm, ⟨77, _⟩ => ⟨S3x2x16x8192x1, .f32⟩
  | .hbm, ⟨78, _⟩ => ⟨S3x2x16x8192x1, .f32⟩
  | .hbm, ⟨79, _⟩ => ⟨S_, .f32⟩
  | .hbm, ⟨80, _⟩ => ⟨S2x16x8192x1, .f32⟩
  | .hbm, ⟨81, _⟩ => ⟨S1x2x16x8192x1, .f32⟩
  | .hbm, ⟨82, _⟩ => ⟨S3x2x16x8192x1, .f32⟩
  | .hbm, ⟨83, _⟩ => ⟨S3x2x16x8192x1, .f32⟩
  | .hbm, ⟨84, _⟩ => ⟨S3x2x16x8192x128, .f32⟩
  | .hbm, ⟨85, _⟩ => ⟨S3x2x16x8192x128, .f32⟩
  | .hbm, ⟨86, _⟩ => ⟨S_, .f32⟩
  | .hbm, ⟨87, _⟩ => ⟨S2x16x8192x128, .f32⟩
  | .hbm, ⟨88, _⟩ => ⟨S2x8192x16x128, .f32⟩
  | .hbm, ⟨89, _⟩ => ⟨S2x8192x2048, .f32⟩
  | .hbm, ⟨90, _⟩ => ⟨S2x8192x2048, .f32⟩
  | .hbm, ⟨91, _⟩ => ⟨S2x8192x2048, .f32⟩
  | .hbm, ⟨92, _⟩ => ⟨S_, .f32⟩
  | .hbm, ⟨93, _⟩ => ⟨S2x8192x2048, .f32⟩
  | .hbm, ⟨94, _⟩ => ⟨S2x8192x2048, .f32⟩
  | .hbm, ⟨95, _⟩ => ⟨S_, .f32⟩
  | .hbm, ⟨96, _⟩ => ⟨S2x8192x2048, .f32⟩
  | .hbm, ⟨97, _⟩ => ⟨S2x8192x2048, .f32⟩
  | .hbm, ⟨98, _⟩ => ⟨S2x8192x2048, .f32⟩
  | .hbm, ⟨99, _⟩ => ⟨S2x8192x2048, .f32⟩
  | .hbm, ⟨100, _⟩ => ⟨S16384x2048, .f32⟩
  | .hbm, ⟨101, _⟩ => ⟨S16384x2048, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== Pool.lean ====
abbrev S16384x12288 : Shape := ⟨2, ![16384, 12288]⟩
abbrev S4x512x512 : Shape := ⟨3, ![4, 512, 512]⟩
abbrev S2048 : Shape := ⟨1, ![2048]⟩
abbrev S4x1x512 : Shape := ⟨3, ![4, 1, 512]⟩
abbrev S16384x2048 : Shape := ⟨2, ![16384, 2048]⟩
abbrev S1024x512 : Shape := ⟨2, ![1024, 512]⟩
abbrev S1x512x512 : Shape := ⟨3, ![1, 512, 512]⟩
abbrev S1x1x512 : Shape := ⟨3, ![1, 1, 512]⟩
abbrev S1040x512 : Shape := ⟨2, ![1040, 512]⟩
abbrev S16x512 : Shape := ⟨2, ![16, 512]⟩
abbrev S1024x1 : Shape := ⟨2, ![1024, 1]⟩
abbrev S512x512 : Shape := ⟨2, ![512, 512]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S16384x12288, .bf16⟩
  | .hbm, ⟨1, _⟩ => ⟨S4x512x512, .f32⟩
  | .hbm, ⟨2, _⟩ => ⟨S2048, .f32⟩
  | .hbm, ⟨3, _⟩ => ⟨S4x512x512, .bf16⟩
  | .hbm, ⟨4, _⟩ => ⟨S4x1x512, .f32⟩
  | .hbm, ⟨5, _⟩ => ⟨S16384x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1x512, .f32⟩
  | .local _ .vmem, ⟨7, _⟩ => ⟨S1x1x512, .f32⟩
  | .local _ .vmem, ⟨8, _⟩ => ⟨S1024x512, .bf16⟩
  | .local _ .vmem, ⟨9, _⟩ => ⟨S1024x512, .bf16⟩
  | .local _ .vmem, ⟨10, _⟩ => ⟨S1040x512, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg1 : BitVec 32 := BitVec.ofNat 32 (i 1).val
  let c0_i32_5 : BitVec 32 := 0#32
  let v16 : BitVec 1 := Scalar.cmpi .eq arg1 c0_i32_5
  let v17 : BitVec 32 := Scalar.extui v16
  let c0_i32_6 : BitVec 32 := 0#32
  let v18 : BitVec 1 := Scalar.cmpi .ne v17 c0_i32_6
  v18

def k0_cond4 (i : grid0.Coords) : BitVec 1 :=
  let arg1 : BitVec 32 := BitVec.ofNat 32 (i 1).val
  let c1_i32_7 : BitVec 32 := 1#32
  let v19 : BitVec 1 := Scalar.cmpi .eq arg1 c1_i32_7
  let v20 : BitVec 32 := Scalar.extui v19
  let c0_i32_8 : BitVec 32 := 0#32
  let v21 : BitVec 1 := Scalar.cmpi .ne v20 c0_i32_8
  v21

def k0_cond5 (i : grid0.Coords) : BitVec 1 :=
  let arg1 : BitVec 32 := BitVec.ofNat 32 (i 1).val
  let c2_i32 : BitVec 32 := 2#32
  let v22 : BitVec 1 := Scalar.cmpi .eq arg1 c2_i32
  let v23 : BitVec 32 := Scalar.extui v22
  let c0_i32_9 : BitVec 32 := 0#32
  let v24 : BitVec 1 := Scalar.cmpi .ne v23 c0_i32_9
  v24

def k0_cond6 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c20_i32 : BitVec 32 := 20#32
  let v2 : BitVec 32 := Scalar.addi c20_i32 arg1
  let c0_i32 : BitVec 32 := 0#32
  ![v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== PoolRefIdeal.lean ====
abbrev S16384x12288 : Shape := ⟨2, ![16384, 12288]⟩
abbrev S4x512x512 : Shape := ⟨3, ![4, 512, 512]⟩
abbrev S2048 : Shape := ⟨1, ![2048]⟩
abbrev S2x8192x12288 : Shape := ⟨3, ![2, 8192, 12288]⟩
abbrev S2x8192x2048 : Shape := ⟨3, ![2, 8192, 2048]⟩
abbrev S2x8192x4x512 : Shape := ⟨4, ![2, 8192, 4, 512]⟩
abbrev S_ : Shape := ⟨0, ![]⟩
abbrev S1 : Shape := ⟨1, ![1]⟩
abbrev S4 : Shape := ⟨1, ![4]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S4x1x1 : Shape := ⟨3, ![4, 1, 1]⟩
abbrev S4x8192x8192 : Shape := ⟨3, ![4, 8192, 8192]⟩
abbrev S4x2x512x8192 : Shape := ⟨4, ![4, 2, 512, 8192]⟩
abbrev S1x4 : Shape := ⟨2, ![1, 4]⟩
abbrev S8192x4 : Shape := ⟨2, ![8192, 4]⟩
abbrev S1x8192x4x1 : Shape := ⟨4, ![1, 8192, 4, 1]⟩
abbrev S4x512x2x8192 : Shape := ⟨4, ![4, 512, 2, 8192]⟩
abbrev S1x1x2048 : Shape := ⟨3, ![1, 1, 2048]⟩
abbrev S16384x2048 : Shape := ⟨2, ![16384, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S4x512x512, .f32⟩
  | .hbm, ⟨2, _⟩ => ⟨S2048, .f32⟩
  | .hbm, ⟨3, _⟩ => ⟨S16384x12288, .f32⟩
  | .hbm, ⟨4, _⟩ => ⟨S2x8192x12288, .f32⟩
  | .hbm, ⟨5, _⟩ => ⟨S2x8192x2048, .f32⟩
  | .hbm, ⟨6, _⟩ => ⟨S2x8192x2048, .f32⟩
  | .hbm, ⟨7, _⟩ => ⟨S2x8192x4x512, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S4, .i32⟩
  | .hbm, ⟨17, _⟩ => ⟨S8192, .i32⟩
  | .hbm, ⟨18, _⟩ => ⟨S8192x1, .i32⟩
  | .hbm, ⟨19, _⟩ => ⟨S1x8192, .i32⟩
  | .hbm, ⟨20, _⟩ => ⟨S8192x8192, .i32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i1⟩
  | .hbm, ⟨26, _⟩ => ⟨S1x8192x8192, .i1⟩
  | .hbm, ⟨27, _⟩ => ⟨S1x8192x8192, .i32⟩
  | .hbm, ⟨28, _⟩ => ⟨S4x1x1, .i32⟩
  | .hbm, ⟨29, _⟩ => ⟨S4x8192x8192, .i32⟩
  | .hbm, ⟨30, _⟩ => ⟨S4x8192x8192, .i32⟩
  | .hbm, ⟨31, _⟩ => ⟨S4x8192x8192, .i1⟩
  | .hbm, ⟨32, _⟩ => ⟨S4x8192x8192, .i1⟩
  | .hbm, ⟨33, _⟩ => ⟨S4x8192x8192, .i1⟩
  | .hbm, ⟨34, _⟩ => ⟨S4x8192x8192, .f32⟩
  | .hbm, ⟨35, _⟩ => ⟨S4x2x512x8192, .f32⟩
  | .hbm, ⟨36, _⟩ => ⟨S2x8192x4x512, .f32⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i32⟩
  | .hbm, ⟨41, _⟩ => ⟨S1x4, .i32⟩
  | .hbm, ⟨42, _⟩ => ⟨S8192x4, .i32⟩
  | .hbm, ⟨43, _⟩ => ⟨S8192x4, .i32⟩
  | .hbm, ⟨44, _⟩ => ⟨S8192x4, .i32⟩
  | .hbm, ⟨45, _⟩ => ⟨S8192x4, .f32⟩
  | .hbm, ⟨46, _⟩ => ⟨S1x8192x4x1, .f32⟩
  | .hbm, ⟨47, _⟩ => ⟨S2x8192x4x512, .f32⟩
  | .hbm, ⟨48, _⟩ => ⟨S2x8192x4x512, .f32⟩
  | .hbm, ⟨49, _⟩ => ⟨S2x8192x4x512, .f32⟩
  | .hbm, ⟨50, _⟩ => ⟨S4x512x2x8192, .f32⟩
  | .hbm, ⟨51, _⟩ => ⟨S2x8192x4x512, .f32⟩
  | .hbm, ⟨52, _⟩ => ⟨S2x8192x2048, .f32⟩
  | .hbm, ⟨53, _⟩ => ⟨S1x1x2048, .f32⟩
  | .hbm, ⟨54, _⟩ => ⟨S2x8192x2048, .f32⟩
  | .hbm, ⟨55, _⟩ => ⟨S2x8192x2048, .f32⟩
  | .hbm, ⟨56, _⟩ => ⟨S2x8192x2048, .f32⟩
  | .hbm, ⟨57, _⟩ => ⟨S2x8192x2048, .f32⟩
  | .hbm, ⟨58, _⟩ => ⟨S_, .f32⟩
  | .hbm, ⟨59, _⟩ => ⟨S2x8192x2048, .f32⟩
  | .hbm, ⟨60, _⟩ => ⟨S2x8192x2048, .f32⟩
  | .hbm, ⟨61, _⟩ => ⟨S_, .f32⟩
  | .hbm, ⟨62, _⟩ => ⟨S2x8192x2048, .f32⟩
  | .hbm, ⟨63, _⟩ => ⟨S2x8192x2048, .f32⟩
  | .hbm, ⟨64, _⟩ => ⟨S2x8192x2048, .f32⟩
  | .hbm, ⟨65, _⟩ => ⟨S2x8192x2048, .f32⟩
  | .hbm, ⟨66, _⟩ => ⟨S16384x2048, .f32⟩
  | .hbm, ⟨67, _⟩ => ⟨S16384x2048, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== OutProj.lean ====
abbrev S16384x2048 : Shape := ⟨2, ![16384, 2048]⟩
abbrev S4096x4096 : Shape := ⟨2, ![4096, 4096]⟩
abbrev S2x8192x4096 : Shape := ⟨3, ![2, 8192, 4096]⟩
abbrev S2x4096 : Shape := ⟨2, ![2, 4096]⟩
abbrev S4096 : Shape := ⟨1, ![4096]⟩
abbrev S16384x4096 : Shape := ⟨2, ![16384, 4096]⟩
abbrev S2x1x4096 : Shape := ⟨3, ![2, 1, 4096]⟩
abbrev S1x4096 : Shape := ⟨2, ![1, 4096]⟩
abbrev S512x512 : Shape := ⟨2, ![512, 512]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S2x8192x4096, .f32⟩
  | .hbm, ⟨4, _⟩ => ⟨S2x4096, .f32⟩
  | .hbm, ⟨5, _⟩ => ⟨S4096, .f32⟩
  | .hbm, ⟨6, _⟩ => ⟨S16384x4096, .f32⟩
  | .hbm, ⟨7, _⟩ => ⟨S4096x4096, .bf16⟩
  | .hbm, ⟨8, _⟩ => ⟨S2x1x4096, .f32⟩
  | .hbm, ⟨9, _⟩ => ⟨S1x4096, .f32⟩
  | .hbm, ⟨10, _⟩ => ⟨S16384x4096, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .f32⟩
  | .local _ .vmem, ⟨7, _⟩ => ⟨S512x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x4096, .f32⟩
  | .local _ .vmem, ⟨11, _⟩ => ⟨S512x4096, .f32⟩
  | .local _ .vmem, ⟨12, _⟩ => ⟨S512x4096, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutProjRefIdeal.lean ====
abbrev S16384x2048 : Shape := ⟨2, ![16384, 2048]⟩
abbrev S4096x4096 : Shape := ⟨2, ![4096, 4096]⟩
abbrev S2x8192x4096 : Shape := ⟨3, ![2, 8192, 4096]⟩
abbrev S2x4096 : Shape := ⟨2, ![2, 4096]⟩
abbrev S4096 : Shape := ⟨1, ![4096]⟩
abbrev S2x8192x2048 : Shape := ⟨3, ![2, 8192, 2048]⟩
abbrev S2x1x4096 : Shape := ⟨3, ![2, 1, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S2x8192x4096, .f32⟩
  | .hbm, ⟨4, _⟩ => ⟨S2x4096, .f32⟩
  | .hbm, ⟨5, _⟩ => ⟨S4096, .f32⟩
  | .hbm, ⟨6, _⟩ => ⟨S16384x2048, .f32⟩
  | .hbm, ⟨7, _⟩ => ⟨S2x8192x2048, .f32⟩
  | .hbm, ⟨8, _⟩ => ⟨S16384x2048, .f32⟩
  | .hbm, ⟨9, _⟩ => ⟨S2x8192x2048, .f32⟩
  | .hbm, ⟨10, _⟩ => ⟨S2x8192x4096, .f32⟩
  | .hbm, ⟨11, _⟩ => ⟨S2x8192x4096, .f32⟩
  | .hbm, ⟨12, _⟩ => ⟨S2x1x4096, .f32⟩
  | .hbm, ⟨13, _⟩ => ⟨S2x8192x4096, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x4096, .f32⟩
  | .hbm, ⟨28, _⟩ => ⟨S2x8192x4096, .f32⟩
  | .hbm, ⟨29, _⟩ => ⟨S1x1x4096, .f32⟩
  | .hbm, ⟨30, _⟩ => ⟨S2x8192x4096, .f32⟩
  | .hbm, ⟨31, _⟩ => ⟨S2x8192x4096, .f32⟩
  | .hbm, ⟨32, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.InProjValue.lean ====
/-
  What the input projection's kernel computes, over the extended reals.

  The kernel walks 16 row tiles of 1024 rows and, in each, 16 column tiles of 768. At a row tile's first point a loop
  over 64-row slabs writes the modulated, normalised rows into a scratch; every point of the tile multiplies that
  scratch with its column tile of the weights.
-/
module

public import proofs.«01_k».proof.Proof.Gen.InProjIdeal.Value
public import proofs.«01_k».proof.Proof.Gen.InProjRefIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WholeRead

@[expose] public section

set_option maxRecDepth 16384

noncomputable section

open Idealize.ShloMosaic Idealize.ShloMosaic.TcCoe Idealize.SL.Sem

namespace Cert.InProjIdeal.Rows

open Cert.InProjIdeal Cert.InProjIdeal.Gen

variable (m : (ℓ : Loc nD τ sig) → Buf (Elt Ideal) ℓ)

theorem idx0 : ∀ t : Fin grid0.N, win0_0.index t = ![t.val / 16, 0] := by decide +kernel
theorem idx1 : ∀ t : Fin grid0.N, win0_1.index t = ![0, 0] := by decide +kernel
theorem idx2 : ∀ t : Fin grid0.N, win0_2.index t = ![t.val / 128, 0, 0] := by decide +kernel
theorem idx3 : ∀ t : Fin grid0.N, win0_3.index t = ![t.val / 128, 0, 0] := by decide +kernel
theorem idx4 : ∀ t : Fin grid0.N, win0_4.index t = ![0, t.val % 16] := by decide +kernel
theorem idx5 : ∀ t : Fin grid0.N, win0_5.index t = ![t.val / 16, t.val % 16] := by decide +kernel

theorem hN (t : Fin cfg0.N) : t.val < 256 := lt_of_lt_of_eq t.isLt N_0

theorem blk0 (c : Dev nD) (t : Fin cfg0.N) (r : Fin 1024) (l : Fin 4096) :
    (iblk m c 0 t : Vec Ideal S1024x4096 .f32) (ix2 r l) = m ((c : Thread nD τ).loc main_arg0)
      (ix3 ⟨(1024 * (t.val / 16) + r.val) / 8192, by have := hN t; omega⟩ ⟨(1024 * (t.val / 16) + r.val) % 8192, by omega⟩ l) := by
  have e : (iblk m c 0 t : Vec Ideal S1024x4096 .f32) (ix2 r l) = (V m c main_v0 : Vec Ideal S16384x4096 .f32)
      (ix2 ⟨1024 * (t.val / 16) + r.val, by have := hN t; omega⟩ l) := by
    blk_ext [iblk, idx0 t]
  rw [e]
  entry_read
  pointwise

theorem blk1 (c : Dev nD) (t : Fin cfg0.N) (l : Fin 4096) :
    (iblk m c 1 t : Vec Ideal S1x4096 .f32) (ix2 0 l) = m ((c : Thread nD τ).loc main_arg1) (ix1 l) := by
  have e : (iblk m c 1 t : Vec Ideal S1x4096 .f32) (ix2 0 l) = (V m c main_v2 : Vec Ideal S1x4096 .f32) (ix2 0 l) := by
    blk_ext [iblk, idx1 t]
  rw [e]
  entry_read
  pointwise

theorem blk2 (c : Dev nD) (t : Fin cfg0.N) (l : Fin 4096) :
    (iblk m c 2 t : Vec Ideal S1x1x4096 .f32) (ix3 0 0 l) = m ((c : Thread nD τ).loc main_arg2)
      (ix2 ⟨t.val / 128, by have := hN t; omega⟩ l) := by
  have e : (iblk m c 2 t : Vec Ideal S1x1x4096 .f32) (ix3 0 0 l) = (V m c main_v3 : Vec Ideal S2x1x4096 .f32)
      (ix3 ⟨t.val / 128, by have := hN t; omega⟩ 0 l) := by
    blk_ext [iblk, idx2 t]
  rw [e]
  entry_read
  pointwise

theorem blk3 (c : Dev nD) (t : Fin cfg0.N) (l : Fin 4096) :
    (iblk m c 3 t : Vec Ideal S1x1x4096 .f32) (ix3 0 0 l) = m ((c : Thread nD τ).loc main_arg3)
      (ix2 ⟨t.val / 128, by have := hN t; omega⟩ l) := by
  have e : (iblk m c 3 t : Vec Ideal S1x1x4096 .f32) (ix3 0 0 l) = (V m c main_v4 : Vec Ideal S2x1x4096 .f32)
      (ix3 ⟨t.val / 128, by have := hN t; omega⟩ 0 l) := by
    blk_ext [iblk, idx3 t]
  rw [e]
  entry_read
  pointwise

theorem blk4 (c : Dev nD) (t : Fin cfg0.N) (k : Fin 4096) (l : Fin 768) :
    (iblk m c 4 t : Vec Ideal S4096x768 .bf16) (ix2 k l) = m ((c : Thread nD τ).loc main_arg4)
      (ix2 k ⟨768 * (t.val % 16) + l.val, by omega⟩) := by
  unfold iblk
  entry_read
  pointwise
  blk_ext [idx4 t]

/-- One entry of a modulated row: the row's normalised entry times the gain, scaled by one plus `s` and shifted by `h`. -/
def modrow (row : Fin 4096 → EReal) (g s h : EReal) (l : Fin 4096) : EReal :=
  row l * Ideal.rsqrt (Ideal.div (∑ k, row k * row k) (Ideal.ofBits FTy.f32 1166016512#32) + Ideal.ofBits FTy.f32 897988541#32) * g
    * (Ideal.ofBits FTy.f32 1065353216#32 + s) + h

theorem pay1_apply (g : Vec Ideal S1x4096 .f32) (s h : Vec Ideal S1x1x4096 .f32) (x : Vec Ideal S64x4096 .f32) (r : Fin 64) (l : Fin 4096) :
    k0_pay1 g s h x (ix2 r l) = modrow (fun k => x (ix2 r k)) (g (ix2 0 l)) (s (ix3 0 0 l)) (h (ix3 0 0 l)) l := by
  pointwise [k0_pay1, modrow]

/-- The product's element at `(r, l)` of a tile's rows and a column tile of the weights. -/
def dotb (y : S1024x4096.Idx → EReal) (w : S4096x768.Idx → EReal) (r : Fin 1024) (l : Fin 768) : EReal :=
  ∑ k : Fin 4096, y (ix2 r k) * w (ix2 k l)

theorem pay2_apply (y : Vec Ideal S1024x4096 .bf16) (w : Vec Ideal S4096x768 .bf16) (r : Fin 1024) (l : Fin 768) :
    k0_pay2 y w (ix2 r l) = dotb y w r l := by
  pointwise [k0_pay2, dotb]

/-- The tile's modulated rows from its blocks. -/
def hrow (x : S1024x4096.Idx → EReal) (g : S1x4096.Idx → EReal) (s h : S1x1x4096.Idx → EReal) : S1024x4096.Idx → EReal := fun y =>
  modrow (fun k => x (ix2 (y 0) k)) (g (ix2 0 (y 1))) (s (ix3 0 0 (y 1))) (h (ix3 0 0 (y 1))) (y 1)

section Loop

variable (𝒱 : Variants) (c : Dev nD) (bd : Option 𝒱.V) (i : grid0.Coords)
  (arg2 : Memref sig .tc .vmem S1024x4096 .f32) (harg2 : arg2.IsWhole) (arg3 : Memref sig .tc .vmem S1x4096 .f32) (harg3 : arg3.IsWhole)
  (arg4 : Memref sig .tc .vmem S1x1x4096 .f32) (harg4 : arg4.IsWhole) (arg5 : Memref sig .tc .vmem S1x1x4096 .f32) (harg5 : arg5.IsWhole)
  (arg6 : Memref sig .tc .vmem S4096x768 .bf16) (harg6 : arg6.IsWhole) (arg7 : Memref sig .tc .vmem S1024x768 .bf16) (harg7 : arg7.IsWhole)
  (arg8 : Memref sig .tc .vmem S1024x4096 .bf16) (harg8 : arg8.IsWhole) (k0_h1 : k0_cond1 i = 1#1)
  (g : Vec Ideal S1x4096 .f32) (s h : Vec Ideal S1x1x4096 .f32) (x : Vec Ideal S1024x4096 .f32)

theorem trip_piece (k : Fin k0_t1_loop.trips) (p : View.Piece (Elt Ideal) S1024x4096 .bf16)
    (hp : p ∈ tripL_k0_t1 𝒱 c bd i arg2 harg2 arg3 harg3 arg4 harg4 arg5 harg5 arg6 harg6 arg7 harg7 arg8 harg8 k0_h1 g s h (harg2.unread x) k)
    (y : p.1.shape.Idx) : p.2 y = hrow x g s h (p.1.emb y) := by
  unfold tripL_k0_t1 trip_k0_t1 at hp
  simp only [List.mem_singleton] at hp
  subst hp
  obtain ⟨r, l, rfl⟩ : ∃ (r : Fin 64) (l : Fin 4096), y = ix2 r l := ⟨y 0, y 1, by funext a; match a with | ⟨0, _⟩ => rfl | ⟨1, _⟩ => rfl⟩
  dsimp only
  rw [pay1_apply]
  simp only [Memref.IsWhole.readAt_unread]
  have h0 : k.val < 16 := lt_of_lt_of_eq k.isLt (by decide +kernel)
  have e : ∀ j : Fin 4096, (Rect.unit (s := S1024x4096) (k0_off1 k) ![64, 4096] (k0_off1_inb i k k0_h1)).emb (ix2 r j)
      = ix2 ⟨64 * k.val + r.val, by omega⟩ j := fun j => by
    blk_ext [k0_off1_eq k]
  rw [e]
  exact congrArg (fun row => modrow row _ _ _ l) (funext fun j => congrArg x (e j))

theorem trip_cover (k : Fin k0_t1_loop.trips) (y : S1024x4096.Idx) (h1 : 64 * k.val ≤ (y 0).val) (h2 : (y 0).val < 64 * k.val + 64) :
    ∃ p ∈ tripL_k0_t1 𝒱 c bd i arg2 harg2 arg3 harg3 arg4 harg4 arg5 harg5 arg6 harg6 arg7 harg7 arg8 harg8 k0_h1 g s h (harg2.unread x) k,
      y ∈ p.1.set := by
  unfold tripL_k0_t1 trip_k0_t1
  simp only [List.mem_singleton, exists_eq_left]
  rw [Rect.mem_set_unit]
  intro a
  rw [k0_off1_eq]
  match a with
  | ⟨0, _⟩ => exact ⟨h1, h2⟩
  | ⟨1, _⟩ => exact ⟨Nat.zero_le _, (y 1).isLt⟩

theorem pb_piece (n : ℕ) (hn : n ≤ k0_t1_loop.trips) (p : View.Piece (Elt Ideal) S1024x4096 .bf16)
    (hp : p ∈ pb_k0_t1 𝒱 c bd i arg2 harg2 arg3 harg3 arg4 harg4 arg5 harg5 arg6 harg6 arg7 harg7 arg8 harg8 k0_h1 g s h (harg2.unread x) n)
    (y : p.1.shape.Idx) : p.2 y = hrow x g s h (p.1.emb y) := by
  induction n with
  | zero => simp [pb_k0_t1] at hp
  | succ n ih =>
    rw [pb_k0_t1_succ 𝒱 c bd i arg2 harg2 arg3 harg3 arg4 harg4 arg5 harg5 arg6 harg6 arg7 harg7 arg8 harg8 k0_h1 g s h _ ⟨n, hn⟩] at hp
    rcases List.mem_append.mp hp with hp | hp
    · exact trip_piece 𝒱 c bd i arg2 harg2 arg3 harg3 arg4 harg4 arg5 harg5 arg6 harg6 arg7 harg7 arg8 harg8 k0_h1 g s h x _ p hp y
    · exact ih (by omega) hp

theorem pb_cover (n : ℕ) (hn : n ≤ k0_t1_loop.trips) (y : S1024x4096.Idx) (hy : (y 0).val < 64 * n) :
    ∃ p ∈ pb_k0_t1 𝒱 c bd i arg2 harg2 arg3 harg3 arg4 harg4 arg5 harg5 arg6 harg6 arg7 harg7 arg8 harg8 k0_h1 g s h (harg2.unread x) n,
      y ∈ p.1.set := by
  induction n with
  | zero => omega
  | succ n ih =>
    rw [pb_k0_t1_succ 𝒱 c bd i arg2 harg2 arg3 harg3 arg4 harg4 arg5 harg5 arg6 harg6 arg7 harg7 arg8 harg8 k0_h1 g s h _ ⟨n, hn⟩]
    by_cases h1 : 64 * n ≤ (y 0).val
    · obtain ⟨p, hp, hm⟩ := trip_cover 𝒱 c bd i arg2 harg2 arg3 harg3 arg4 harg4 arg5 harg5 arg6 harg6 arg7 harg7 arg8 harg8 k0_h1 g s h x ⟨n, hn⟩ y h1
        (by show _ < 64 * n + 64; omega)
      exact ⟨p, List.mem_append_left _ hp, hm⟩
    · obtain ⟨p, hp, hm⟩ := ih (by omega) (by omega)
      exact ⟨p, List.mem_append_right _ hp, hm⟩

theorem pb_canon (n : ℕ) (hn : n = 16) :
    View.canon (pb_k0_t1 𝒱 c bd i arg2 harg2 arg3 harg3 arg4 harg4 arg5 harg5 arg6 harg6 arg7 harg7 arg8 harg8 k0_h1 g s h (harg2.unread x) n)
      = hrow x g s h := by
  have ht : k0_t1_loop.trips = 16 := by decide +kernel
  funext y
  exact View.canon_apply_of_pieces (hrow x g s h) _
    (pb_piece 𝒱 c bd i arg2 harg2 arg3 harg3 arg4 harg4 arg5 harg5 arg6 harg6 arg7 harg7 arg8 harg8 k0_h1 g s h x n (by omega)) y
    (pb_cover 𝒱 c bd i arg2 harg2 arg3 harg3 arg4 harg4 arg5 harg5 arg6 harg6 arg7 harg7 arg8 harg8 k0_h1 g s h x n (by omega) y
      (by have := (y 0).isLt; have e : S1024x4096.size 0 = 1024 := rfl; omega))

end Loop

theorem scr_A (c : Dev nD) (t : Fin cfg0.N) (h0 : t.val % 16 = 0) :
    (outsAt0 m c t.val t.isLt).2 = hrow (iblk m c 0 t) (iblk m c 1 t) (iblk m c 2 t) (iblk m c 3 t) := by
  rw [outsAt0_A m c t h0]
  funext y
  frame_out
  rw [pb_canon _ _ _ _ _ _ _ _ _ _ _ _ _ _ _ _ _ _ _ _ _ _ _ _ (by decide +kernel)]

theorem scr_B (c : Dev nD) (t : Fin cfg0.N) (h0 : ¬ t.val % 16 = 0) :
    (outsAt0 m c t.val t.isLt).2 = (outsAt0 m c (t.val - 1) (Nat.lt_of_le_of_lt (Nat.sub_le _ _) t.isLt)).2 := by
  rw [outsAt0_B m c t h0]
  rfl

theorem out_A (c : Dev nD) (t : Fin cfg0.N) (h0 : t.val % 16 = 0) (r : Fin 1024) (l : Fin 768) :
    (outsAt0 m c t.val t.isLt).1 (ix2 r l)
      = dotb (hrow (iblk m c 0 t) (iblk m c 1 t) (iblk m c 2 t) (iblk m c 3 t)) (iblk m c 4 t) r l := by
  rw [outsAt0_A m c t h0]
  frame_out
  rw [pay2_apply, View.readCov_eq_canon', pb_canon _ _ _ _ _ _ _ _ _ _ _ _ _ _ _ _ _ _ _ _ _ _ _ _ (by decide +kernel)]
  refine congrArg (fun y => dotb y _ r l) (funext fun y => congrArg _ ?_)
  funext a
  refine Fin.ext ?_
  match a with
  | ⟨0, _⟩ => simp [LoadRect.idx, Rect.unit]
  | ⟨1, _⟩ => simp [LoadRect.idx, Rect.unit]

theorem out_B (c : Dev nD) (t : Fin cfg0.N) (h0 : ¬ t.val % 16 = 0) (r : Fin 1024) (l : Fin 768) :
    (outsAt0 m c t.val t.isLt).1 (ix2 r l)
      = dotb (outsAt0 m c (t.val - 1) (Nat.lt_of_le_of_lt (Nat.sub_le _ _) t.isLt)).2 (iblk m c 4 t) r l := by
  rw [outsAt0_B m c t h0]
  frame_out
  rw [pay2_apply]
  refine congrArg (fun y => dotb y _ r l) ?_
  exact read_unread_whole _ _ _

theorem scr_eq (c : Dev nD) : ∀ (n : ℕ) (h : n < cfg0.N) (h' : 16 * (n / 16) < cfg0.N),
    (outsAt0 m c n h).2 = (outsAt0 m c (16 * (n / 16)) h').2 := by
  intro n
  induction n with
  | zero => intro h h'; rfl
  | succ n ih =>
    intro h h'
    by_cases h0 : (n + 1) % 16 = 0
    · have e : n + 1 = 16 * ((n + 1) / 16) := by omega
      congr 2
    · rw [scr_B m c ⟨n + 1, h⟩ h0]
      have e : n / 16 = (n + 1) / 16 := by omega
      have := ih (Nat.lt_of_succ_lt h) (by omega)
      simp only [e] at this
      exact this

/-- The tile's modulated rows, from the arguments. -/
def target (c : Dev nD) (q : ℕ) (hq : q < 16) (r : Fin 1024) (k : Fin 4096) : EReal :=
  modrow (fun k => m ((c : Thread nD τ).loc main_arg0) (ix3 ⟨(1024 * q + r.val) / 8192, by omega⟩ ⟨(1024 * q + r.val) % 8192, by omega⟩ k))
    (m ((c : Thread nD τ).loc main_arg1) (ix1 k)) (m ((c : Thread nD τ).loc main_arg2) (ix2 ⟨(1024 * q + r.val) / 8192, by omega⟩ k))
    (m ((c : Thread nD τ).loc main_arg3) (ix2 ⟨(1024 * q + r.val) / 8192, by omega⟩ k)) k

theorem hrow_eq (c : Dev nD) (t : Fin cfg0.N) (r : Fin 1024) (k : Fin 4096) (hq : t.val / 16 < 16) :
    hrow (iblk m c 0 t) (iblk m c 1 t) (iblk m c 2 t) (iblk m c 3 t) (ix2 r k) = target m c (t.val / 16) hq r k := by
  have hb : t.val / 128 = (1024 * (t.val / 16) + r.val) / 8192 := by omega
  show modrow (fun j => (iblk m c 0 t : Vec Ideal S1024x4096 .f32) (ix2 r j)) ((iblk m c 1 t : Vec Ideal S1x4096 .f32) (ix2 0 k))
    ((iblk m c 2 t : Vec Ideal S1x1x4096 .f32) (ix3 0 0 k)) ((iblk m c 3 t : Vec Ideal S1x1x4096 .f32) (ix3 0 0 k)) k = _
  rw [blk1, blk2, blk3]
  simp only [blk0, target, hb]

theorem out_eq (c : Dev nD) (t : Fin cfg0.N) (r : Fin 1024) (l : Fin 768) (hq : t.val / 16 < 16) :
    (outsAt0 m c t.val t.isLt).1 (ix2 r l) = ∑ k : Fin 4096, target m c (t.val / 16) hq r k
      * m ((c : Thread nD τ).loc main_arg4) (ix2 k ⟨768 * (t.val % 16) + l.val, by omega⟩) := by
  have key : ∀ h : S1024x4096.Idx → EReal, (∀ k, h (ix2 r k) = target m c (t.val / 16) hq r k) → dotb h (iblk m c 4 t) r l
      = ∑ k : Fin 4096, target m c (t.val / 16) hq r k * m ((c : Thread nD τ).loc main_arg4) (ix2 k ⟨768 * (t.val % 16) + l.val, by omega⟩) :=
    fun h e => Finset.sum_congr rfl fun k _ => by rw [e, blk4]
  by_cases h0 : t.val % 16 = 0
  · rw [out_A m c t h0]
    exact key _ fun k => hrow_eq m c t r k hq
  · have ht := hN t
    have hN' : 16 * (t.val / 16) < cfg0.N := lt_of_le_of_lt (by omega) t.isLt
    have e : (t.val - 1) / 16 = t.val / 16 := by omega
    have e' : 16 * (t.val / 16) / 16 = t.val / 16 := by omega
    have hs := scr_eq m c (t.val - 1) (Nat.lt_of_le_of_lt (Nat.sub_le _ _) t.isLt) (by rw [e]; exact hN')
    simp only [e] at hs
    rw [out_B m c t h0, hs]
    refine key _ fun k => ?_
    rw [scr_A m c ⟨16 * (t.val / 16), hN'⟩ (by show 16 * (t.val / 16) % 16 = 0; omega), hrow_eq m c _ r k (by show 16 * (t.val / 16) / 16 < 16; omega)]
    simp only [e']

section Reference
open Cert.InProjRefIdeal.Read

theorem ref_apply (x : Vec Ideal S2x8192x4096 .f32) (g : Vec Ideal S4096 .f32) (s h : Vec Ideal S2x4096 .f32) (w : Vec Ideal S4096x12288 .f32)
    (R : Fin 16384) (l : Fin 12288) :
    val_main_v23 x g s h w (ix2 R l) = ∑ k : Fin 4096, modrow (fun k => x (ix3 ⟨R.val / 8192, by omega⟩ ⟨R.val % 8192, by omega⟩ k)) (g (ix1 k))
      (s (ix2 ⟨R.val / 8192, by omega⟩ k)) (h (ix2 ⟨R.val / 8192, by omega⟩ k)) k * w (ix2 k l) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, modrow]

end Reference

theorem final (c : Dev nD) :
    (dats m 0 c).arrAt 5 cfg0.N = Cert.InProjRefIdeal.Read.val_main_v23 (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, l, rfl⟩ : ∃ (r : Fin 1024) (l : Fin 768), y = ix2 r l := ⟨y 0, y 1, by funext a; match a with | ⟨0, _⟩ => rfl | ⟨1, _⟩ => rfl⟩
  have ht := hN t
  have h := ref_apply (m ((c : Thread nD τ).loc main_arg0)) (m ((c : Thread nD τ).loc main_arg1)) (m ((c : Thread nD τ).loc main_arg2))
    (m ((c : Thread nD τ).loc main_arg3)) (m ((c : Thread nD τ).loc main_arg4)) ⟨1024 * (t.val / 16) + r.val, by omega⟩ ⟨768 * (t.val % 16) + l.val, by omega⟩
  rw [out_eq m c t r l (by omega)]
  refine (Eq.trans ?_ h.symm).trans ?_
  · rfl
  · blk_ext [idx5 t]

end Cert.InProjIdeal.Rows
-- ==== Proof.InProjClaim.lean ====
/-
  The claims about InProj, the layer's norm, modulation and input projection: it runs and leaves its arguments unchanged, over the machine's floats and
  over the extended reals, and over the extended reals it ends with the plain reference's result.
-/
module

public import proofs.«01_k».proof.Defs
public import proofs.«01_k».proof.Proof.Gen.InProj.Frame
public import proofs.«01_k».proof.Proof.Gen.InProjIdeal.Frame
public import proofs.«01_k».proof.Proof.Gen.InProjRefIdeal.Run
public import proofs.«01_k».proof.Proof.InProjValue
public import Idealize.ShloMosaic.Adequacy
public import Idealize.ShloMosaic.Init

@[expose] public section

noncomputable section

namespace Cert.InProjClaim

open Idealize.ShloMosaic Idealize.SL.Sem

theorem runs : Cert.quiescent_InProj := fun m ρ _ => Cert.InProj.Gen.frame m ρ

theorem runs_ideal : Cert.quiescent_InProjIdeal := fun m ρ _ => Cert.InProjIdeal.Gen.frame m ρ

theorem runs_ref : Cert.quiescent_InProjRefIdeal := fun m ρ _ =>
  (θ_run Cert.InProjRefIdeal.defs _ _).mono
    (fun r h => ⟨fun c => (h c).2, Idealize.ShloMosaic.sem_eq_zero_of_no_sems (by decide) r.2⟩) (Cert.InProjRefIdeal.Value.run m ρ)

theorem same_value : Cert.algebraic_InProjIdeal_InProjRefIdeal := by
  intro m ρ m' ρ' _ hagree
  refine ⟨fun c => Cert.InProjRefIdeal.Read.val_main_v23 (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)), ?_, ?_⟩
  · refine (θ_run _ _ _).mono (fun _ h c => ⟨(h c).1.trans (Cert.InProjIdeal.Rows.final m c), (h c).2⟩) (Cert.InProjIdeal.Value.run_blocks m ρ)
  · refine (θ_run _ _ _).mono (fun _ h c => ⟨(h c).1.trans ?_, (h c).2⟩) (Cert.InProjRefIdeal.Value.run m' ρ')
    rw [Cert.InProjRefIdeal.Read.val_main_v23_eq]
    simp only [hagree c]

end Cert.InProjClaim
-- ==== Proof.AttnLoops.lean ====
module

public import proofs.«01_k».proof.Proof.Gen.AttnIdeal.Loops
public import proofs.«01_k».proof.Proof.Gen.AttnIdeal.Frame

/-! The counted loops of the attention kernel that store through strided rows: what one trip stores,
   and the invariant "the buffer holds its old contents with the pieces of the trips so far written". -/

@[expose] public section

set_option maxRecDepth 16384
set_option maxHeartbeats 4000000

noncomputable section

namespace Cert.AttnIdeal.Loops

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F]

local notation "𝕄" => MT nD τ sig Unit (Elt F) ℕ (UR sig nD τ) ℕ

/-- The pieces stored by the trips before trip `k`, last first. -/
def upTo {n : ℕ} {α : Type*} (g : Fin n → α) : ℕ → List α
  | 0 => []
  | k + 1 => if h : k < n then g ⟨k, h⟩ :: upTo g k else upTo g k

theorem upTo_succ {n : ℕ} {α : Type*} (g : Fin n → α) (k : Fin n) : upTo g (k.val + 1) = g k :: upTo g k.val := by
  simp [upTo, k.isLt]

variable (𝒱 : Variants) (c : Dev nD) (bd : Option 𝒱.V) (E : Set ℕ) (i : grid0.Coords)
variable (arg3 : Memref sig .tc .smem S16 .f32) (harg3 : arg3.IsWhole)
variable (arg4 : Memref sig .tc .vmem S2048x128 .bf16) (harg4 : arg4.IsWhole)
variable (arg5 : Memref sig .tc .vmem S2048x128 .bf16) (harg5 : arg5.IsWhole)
variable (arg6 : Memref sig .tc .vmem S2048x128 .bf16) (harg6 : arg6.IsWhole)
variable (arg7 : Memref sig .tc .vmem S2048x128 .bf16) (harg7 : arg7.IsWhole)
variable (arg8 : Memref sig .tc .vmem S2048x128 .bf16) (harg8 : arg8.IsWhole)
variable (arg9 : Memref sig .tc .vmem S2048x128 .f32) (harg9 : arg9.IsWhole)
variable (arg10 : Memref sig .tc .vmem S2048x128 .f32) (harg10 : arg10.IsWhole)
variable (arg11 : Memref sig .tc .vmem S2048x128 .f32) (harg11 : arg11.IsWhole)
variable (arg12 : Memref sig .tc .vmem S4x512x128 .f32) (harg12 : arg12.IsWhole)
variable (arg13 : Memref sig .tc .vmem S4x512x128 .f32) (harg13 : arg13.IsWhole)
variable (arg14 : Memref sig .tc .vmem S4x512x128 .f32) (harg14 : arg14.IsWhole)
variable (arg15 : Memref sig .tc .vmem S4x512x128 .bf16) (harg15 : arg15.IsWhole)
variable (arg16 : Memref sig .tc .vmem S4x640x128 .bf16) (harg16 : arg16.IsWhole)
variable (arg17 : Memref sig .tc .vmem S4x640x128 .bf16) (harg17 : arg17.IsWhole)
variable (arg18 : Memref sig .tc .vmem S16x128x128 .bf16) (harg18 : arg18.IsWhole)
variable (arg19 : Memref sig .tc .vmem S16x256x128 .bf16) (harg19 : arg19.IsWhole)
variable (arg20 : Memref sig .tc .vmem S16x256x128 .bf16) (harg20 : arg20.IsWhole)
variable (arg21 : Memref sig .tc .vmem S2176x128 .bf16) (harg21 : arg21.IsWhole)
variable (arg22 : Memref sig .tc .vmem S2176x128 .bf16) (harg22 : arg22.IsWhole)
variable (arg23 : Memref sig .tc .vmem S2048x128 .f32) (harg23 : arg23.IsWhole)
variable (arg24 : Memref sig .tc .vmem S2048x128 .f32) (harg24 : arg24.IsWhole)
variable (arg25 : Memref sig .tc .vmem S2048x128 .f32) (harg25 : arg25.IsWhole)
variable (arg26 : Memref sig .tc .vmem S2048x128 .f32) (harg26 : arg26.IsWhole)
variable (arg27 : Memref sig .tc .vmem S2048x128 .f32) (harg27 : arg27.IsWhole)
variable (arg28 : Memref sig .tc .vmem S2048x128 .f32) (harg28 : arg28.IsWhole)

/-- What trip `k` of loop 2 stores of the outputs. -/
def o2 (v1 : Elt F .f32) (v425 : FVec F S128x256 .f32) (v431 : IVec S128x256 1) (X_arg15 : BufTy.Contents (Elt F) arg15.view.ty) (X_arg16 : BufTy.Contents (Elt F) arg16.view.ty) (X_arg17 : BufTy.Contents (Elt F) arg17.view.ty) (k : Fin k0_t2_loop.trips) : View.Piece (Elt F) S2048x128 .f32 :=
  ⟨⟨(⟨k0_off8 k, S128x128.size, ![4, 1], (k0_off8_inb k)⟩ : LoadRect S2048x128), spos_4_1⟩, k0_pay101 (k0_pay221 v1 v425 v431) (arg15.view.readAt (Elt F) (Rect.unit (s := S4x512x128) (k0_off6 k) S1x128x128.size (k0_off6_inb k)).toLoadRect X_arg15) (arg16.view.readAt (Elt F) (Rect.unit (s := S4x640x128) (k0_off7 k) S1x256x128.size (k0_off7_inb k)).toLoadRect X_arg16) (arg17.view.readAt (Elt F) (Rect.unit (s := S4x640x128) (k0_off7 k) S1x256x128.size (k0_off7_inb k)).toLoadRect X_arg17)⟩

/-- What trip `k` of loop 2 stores of the log-denominators. -/
def l2 (v1 : Elt F .f32) (v425 : FVec F S128x256 .f32) (v431 : IVec S128x256 1) (X_arg15 : BufTy.Contents (Elt F) arg15.view.ty) (X_arg16 : BufTy.Contents (Elt F) arg16.view.ty) (k : Fin k0_t2_loop.trips) : View.Piece (Elt F) S2048x128 .f32 :=
  ⟨⟨(⟨k0_off8 k, S128x128.size, ![4, 1], (k0_off8_inb k)⟩ : LoadRect S2048x128), spos_4_1⟩, k0_pay102 (k0_pay221 v1 v425 v431) (arg15.view.readAt (Elt F) (Rect.unit (s := S4x512x128) (k0_off6 k) S1x128x128.size (k0_off6_inb k)).toLoadRect X_arg15) (arg16.view.readAt (Elt F) (Rect.unit (s := S4x640x128) (k0_off7 k) S1x256x128.size (k0_off7_inb k)).toLoadRect X_arg16)⟩

/-- Loop 2 before trip `k`: the buffers it reads at their contents, the two it stores into with the earlier trips' pieces. -/
abbrev inv2 (v1 : Elt F .f32) (v425 : FVec F S128x256 .f32) (v431 : IVec S128x256 1) (X_arg15 : BufTy.Contents (Elt F) arg15.view.ty) (X_arg16 : BufTy.Contents (Elt F) arg16.view.ty) (X_arg17 : BufTy.Contents (Elt F) arg17.view.ty) (G_arg24 : BufTy.Contents (Elt F) arg24.view.ty) (G_arg27 : BufTy.Contents (Elt F) arg27.view.ty) (k : ℕ) (_u : PUnit) : sProp 𝕄 :=
  iprop((arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (∃ f, (arg24.view.loc (c : Thread nD τ) ↦[arg24.view.set]{fullShare} f) ∗ ⌜f = arg24.view.writes (Elt F) G_arg24 (upTo (o2 arg15 arg16 arg17 v1 v425 v431 X_arg15 X_arg16 X_arg17) k)⌝) ∗ (∃ f, (arg27.view.loc (c : Thread nD τ) ↦[arg27.view.set]{fullShare} f) ∗ ⌜f = arg27.view.writes (Elt F) G_arg27 (upTo (l2 arg15 arg16 v1 v425 v431 X_arg15 X_arg16) k)⌝))

set_option warn.classDefReducibility false in
/-- Loop 2 by its invariant. -/
@[sl_loop] def loopInv2 (v1 : Elt F .f32) (v424 : IVec S128x256 1) (v425 : FVec F S128x256 .f32) (v431 : IVec S128x256 1) (v437 : FVec F S128x256 .f32) (c0_i32_397 : BitVec 32) (v447 : Vec F S256x128 .bf16) (v451 : FVec F S128x256 .f32) (X_arg15 : BufTy.Contents (Elt F) arg15.view.ty) (X_arg16 : BufTy.Contents (Elt F) arg16.view.ty) (X_arg17 : BufTy.Contents (Elt F) arg17.view.ty) (G_arg24 : BufTy.Contents (Elt F) arg24.view.ty) (G_arg27 : BufTy.Contents (Elt F) arg27.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v424 v425 v431 v437 c0_i32_397 v447 v451 where
  inv := inv2 c arg15 arg16 arg17 arg24 arg27 v1 v425 v431 X_arg15 X_arg16 X_arg17 G_arg24 G_arg27
  step k acc := by
    have hk : k.val < 4 := Nat.lt_of_lt_of_le k.isLt k0_t2_abs.2.1
    unfold k0_t2_body
    iintro ⟨HR0, HR1, HR2, ⟨%f0, HW0, %h0⟩, ⟨%f1, HW1, %h1⟩⟩
    sl_exec
    sl_step
    isplitl [HR0]; · iexact HR0
    isplitl [HR1]; · iexact HR1
    isplitl [HR2]; · iexact HR2
    isplitl [HW0]
    · iexists _; isplitl [HW0]; · iexact HW0
      ipureintro; rw [h0, upTo_succ]; rfl
    iexists _; isplitl [HW1]; · iexact HW1
    ipureintro; rw [h1, upTo_succ]; rfl

/-- What trip `k` of loop 3 stores of the outputs. -/
def o3 (v485 : FVec F S128x256 .f32) (X_arg15 : BufTy.Contents (Elt F) arg15.view.ty) (X_arg16 : BufTy.Contents (Elt F) arg16.view.ty) (X_arg17 : BufTy.Contents (Elt F) arg17.view.ty) (k : Fin k0_t3_loop.trips) : View.Piece (Elt F) S2048x128 .f32 :=
  ⟨⟨(⟨k0_off11 k, S128x128.size, ![4, 1], (k0_off11_inb k)⟩ : LoadRect S2048x128), spos_4_1⟩, k0_pay5 v485 (shapeCast S128x128 (arg15.view.readAt (Elt F) (Rect.unit (s := S4x512x128) (k0_off9 k) S1x128x128.size (k0_off9_inb k)).toLoadRect X_arg15) shapeCasts_S1x128x128_S128x128) (shapeCast S256x128 (arg16.view.readAt (Elt F) (Rect.unit (s := S4x640x128) (k0_off10 k) S1x256x128.size (k0_off10_inb k)).toLoadRect X_arg16) shapeCasts_S1x256x128_S256x128) (arg17.view.readAt (Elt F) (Rect.unit (s := S4x640x128) (k0_off10 k) S1x256x128.size (k0_off10_inb k)).toLoadRect X_arg17)⟩

/-- What trip `k` of loop 3 stores of the log-denominators. -/
def l3 (v485 : FVec F S128x256 .f32) (X_arg15 : BufTy.Contents (Elt F) arg15.view.ty) (X_arg16 : BufTy.Contents (Elt F) arg16.view.ty) (k : Fin k0_t3_loop.trips) : View.Piece (Elt F) S2048x128 .f32 :=
  ⟨⟨(⟨k0_off11 k, S128x128.size, ![4, 1], (k0_off11_inb k)⟩ : LoadRect S2048x128), spos_4_1⟩, k0_pay6 v485 (shapeCast S128x128 (arg15.view.readAt (Elt F) (Rect.unit (s := S4x512x128) (k0_off9 k) S1x128x128.size (k0_off9_inb k)).toLoadRect X_arg15) shapeCasts_S1x128x128_S128x128) (shapeCast S256x128 (arg16.view.readAt (Elt F) (Rect.unit (s := S4x640x128) (k0_off10 k) S1x256x128.size (k0_off10_inb k)).toLoadRect X_arg16) shapeCasts_S1x256x128_S256x128)⟩

/-- Loop 3 before trip `k`: the buffers it reads at their contents, the two it stores into with the earlier trips' pieces. -/
abbrev inv3 (v485 : FVec F S128x256 .f32) (X_arg15 : BufTy.Contents (Elt F) arg15.view.ty) (X_arg16 : BufTy.Contents (Elt F) arg16.view.ty) (X_arg17 : BufTy.Contents (Elt F) arg17.view.ty) (G_arg24 : BufTy.Contents (Elt F) arg24.view.ty) (G_arg27 : BufTy.Contents (Elt F) arg27.view.ty) (k : ℕ) (_u : PUnit) : sProp 𝕄 :=
  iprop((arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (∃ f, (arg24.view.loc (c : Thread nD τ) ↦[arg24.view.set]{fullShare} f) ∗ ⌜f = arg24.view.writes (Elt F) G_arg24 (upTo (o3 arg15 arg16 arg17 v485 X_arg15 X_arg16 X_arg17) k)⌝) ∗ (∃ f, (arg27.view.loc (c : Thread nD τ) ↦[arg27.view.set]{fullShare} f) ∗ ⌜f = arg27.view.writes (Elt F) G_arg27 (upTo (l3 arg15 arg16 v485 X_arg15 X_arg16) k)⌝))

set_option warn.classDefReducibility false in
/-- Loop 3 by its invariant. -/
@[sl_loop] def loopInv3 (v485 : FVec F S128x256 .f32) (X_arg15 : BufTy.Contents (Elt F) arg15.view.ty) (X_arg16 : BufTy.Contents (Elt F) arg16.view.ty) (X_arg17 : BufTy.Contents (Elt F) arg17.view.ty) (G_arg24 : BufTy.Contents (Elt F) arg24.view.ty) (G_arg27 : BufTy.Contents (Elt F) arg27.view.ty) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v485 where
  inv := inv3 c arg15 arg16 arg17 arg24 arg27 v485 X_arg15 X_arg16 X_arg17 G_arg24 G_arg27
  step k acc := by
    have hk : k.val < 12 := Nat.lt_of_lt_of_le k.isLt k0_t3_abs.2.1
    unfold k0_t3_body
    iintro ⟨HR0, HR1, HR2, ⟨%f0, HW0, %h0⟩, ⟨%f1, HW1, %h1⟩⟩
    sl_exec
    sl_step
    isplitl [HR0]; · iexact HR0
    isplitl [HR1]; · iexact HR1
    isplitl [HR2]; · iexact HR2
    isplitl [HW0]
    · iexists _; isplitl [HW0]; · iexact HW0
      ipureintro; rw [h0, upTo_succ]; rfl
    iexists _; isplitl [HW1]; · iexact HW1
    ipureintro; rw [h1, upTo_succ]; rfl

/-- What trip `k` of loop 4 stores of the outputs. -/
def o4 (v1 : Elt F .f32) (v425 : FVec F S128x256 .f32) (v431 : IVec S128x256 1) (X_arg18 : BufTy.Contents (Elt F) arg18.view.ty) (X_arg19 : BufTy.Contents (Elt F) arg19.view.ty) (X_arg20 : BufTy.Contents (Elt F) arg20.view.ty) (k : Fin k0_t4_loop.trips) : View.Piece (Elt F) S2048x128 .f32 :=
  ⟨⟨(⟨k0_off14 k, S128x128.size, ![16, 1], (k0_off14_inb k)⟩ : LoadRect S2048x128), spos_16_1⟩, k0_pay11 v1 v425 v431 (arg18.view.readAt (Elt F) (Rect.unit (s := S16x128x128) (k0_off12 k) S1x128x128.size (k0_off12_inb k)).toLoadRect X_arg18) (arg19.view.readAt (Elt F) (Rect.unit (s := S16x256x128) (k0_off13 k) S1x256x128.size (k0_off13_inb k)).toLoadRect X_arg19) (arg20.view.readAt (Elt F) (Rect.unit (s := S16x256x128) (k0_off13 k) S1x256x128.size (k0_off13_inb k)).toLoadRect X_arg20)⟩

/-- What trip `k` of loop 4 stores of the log-denominators. -/
def l4 (v1 : Elt F .f32) (v425 : FVec F S128x256 .f32) (v431 : IVec S128x256 1) (X_arg18 : BufTy.Contents (Elt F) arg18.view.ty) (X_arg19 : BufTy.Contents (Elt F) arg19.view.ty) (k : Fin k0_t4_loop.trips) : View.Piece (Elt F) S2048x128 .f32 :=
  ⟨⟨(⟨k0_off14 k, S128x128.size, ![16, 1], (k0_off14_inb k)⟩ : LoadRect S2048x128), spos_16_1⟩, k0_pay12 v1 v425 v431 (arg18.view.readAt (Elt F) (Rect.unit (s := S16x128x128) (k0_off12 k) S1x128x128.size (k0_off12_inb k)).toLoadRect X_arg18) (arg19.view.readAt (Elt F) (Rect.unit (s := S16x256x128) (k0_off13 k) S1x256x128.size (k0_off13_inb k)).toLoadRect X_arg19)⟩

/-- Loop 4 before trip `k`: the buffers it reads at their contents, the two it stores into with the earlier trips' pieces. -/
abbrev inv4 (v1 : Elt F .f32) (v425 : FVec F S128x256 .f32) (v431 : IVec S128x256 1) (X_arg18 : BufTy.Contents (Elt F) arg18.view.ty) (X_arg19 : BufTy.Contents (Elt F) arg19.view.ty) (X_arg20 : BufTy.Contents (Elt F) arg20.view.ty) (G_arg25 : BufTy.Contents (Elt F) arg25.view.ty) (G_arg28 : BufTy.Contents (Elt F) arg28.view.ty) (k : ℕ) (_u : PUnit) : sProp 𝕄 :=
  iprop((arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (∃ f, (arg25.view.loc (c : Thread nD τ) ↦[arg25.view.set]{fullShare} f) ∗ ⌜f = arg25.view.writes (Elt F) G_arg25 (upTo (o4 arg18 arg19 arg20 v1 v425 v431 X_arg18 X_arg19 X_arg20) k)⌝) ∗ (∃ f, (arg28.view.loc (c : Thread nD τ) ↦[arg28.view.set]{fullShare} f) ∗ ⌜f = arg28.view.writes (Elt F) G_arg28 (upTo (l4 arg18 arg19 v1 v425 v431 X_arg18 X_arg19) k)⌝))

set_option warn.classDefReducibility false in
/-- Loop 4 by its invariant. -/
@[sl_loop] def loopInv4 (v1 : Elt F .f32) (v425 : FVec F S128x256 .f32) (v431 : IVec S128x256 1) (X_arg18 : BufTy.Contents (Elt F) arg18.view.ty) (X_arg19 : BufTy.Contents (Elt F) arg19.view.ty) (X_arg20 : BufTy.Contents (Elt F) arg20.view.ty) (G_arg25 : BufTy.Contents (Elt F) arg25.view.ty) (G_arg28 : BufTy.Contents (Elt F) arg28.view.ty) :
    LoopInvTy_k0_t4 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v425 v431 where
  inv := inv4 c arg18 arg19 arg20 arg25 arg28 v1 v425 v431 X_arg18 X_arg19 X_arg20 G_arg25 G_arg28
  step k acc := by
    have hk : k.val < 16 := Nat.lt_of_lt_of_le k.isLt k0_t4_abs.2.1
    unfold k0_t4_body
    iintro ⟨HR0, HR1, HR2, ⟨%f0, HW0, %h0⟩, ⟨%f1, HW1, %h1⟩⟩
    sl_exec
    sl_step
    isplitl [HR0]; · iexact HR0
    isplitl [HR1]; · iexact HR1
    isplitl [HR2]; · iexact HR2
    isplitl [HW0]
    · iexists _; isplitl [HW0]; · iexact HW0
      ipureintro; rw [h0, upTo_succ]; rfl
    iexists _; isplitl [HW1]; · iexact HW1
    ipureintro; rw [h1, upTo_succ]; rfl

end Cert.AttnIdeal.Loops

end
-- ==== Proof.AttnStart.lean ====
module

public import proofs.«01_k».proof.Proof.AttnLoops

/-! The attention body's first stage: the tails of the key and value buffers and the new tile behind them. -/

@[expose] public section

set_option maxRecDepth 16384
set_option maxHeartbeats 4000000

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen Cert.AttnIdeal.Loops

variable {F : FTy → Type} [FloatOps F]

local notation "𝕄" => MT nD τ sig Unit (Elt F) ℕ (UR sig nD τ) ℕ

/-- The tile is the first of its sequence. -/
abbrev cond0 (i : grid0.Coords) : Prop := (Scalar.cmpi .ne (Scalar.extui (Scalar.cmpi .eq (BitVec.ofNat 32 (i 2).val) 0#32)) 0#32) = 1#1
/-- The tile is a later one. -/
abbrev cond1 (i : grid0.Coords) : Prop := (Scalar.cmpi .ne (Scalar.extui (Scalar.cmpi .sgt (BitVec.ofNat 32 (i 2).val) 0#32)) 0#32) = 1#1

variable (c : Dev nD) (i : grid0.Coords)
variable (arg3 : Memref sig .tc .smem S16 .f32) (harg3 : arg3.IsWhole)
variable (arg4 : Memref sig .tc .vmem S2048x128 .bf16) (harg4 : arg4.IsWhole)
variable (arg5 : Memref sig .tc .vmem S2048x128 .bf16) (harg5 : arg5.IsWhole)
variable (arg6 : Memref sig .tc .vmem S2048x128 .bf16) (harg6 : arg6.IsWhole)
variable (arg7 : Memref sig .tc .vmem S2048x128 .bf16) (harg7 : arg7.IsWhole)
variable (arg8 : Memref sig .tc .vmem S2048x128 .bf16) (harg8 : arg8.IsWhole)
variable (arg9 : Memref sig .tc .vmem S2048x128 .f32) (harg9 : arg9.IsWhole)
variable (arg10 : Memref sig .tc .vmem S2048x128 .f32) (harg10 : arg10.IsWhole)
variable (arg11 : Memref sig .tc .vmem S2048x128 .f32) (harg11 : arg11.IsWhole)
variable (arg12 : Memref sig .tc .vmem S4x512x128 .f32) (harg12 : arg12.IsWhole)
variable (arg13 : Memref sig .tc .vmem S4x512x128 .f32) (harg13 : arg13.IsWhole)
variable (arg14 : Memref sig .tc .vmem S4x512x128 .f32) (harg14 : arg14.IsWhole)
variable (arg15 : Memref sig .tc .vmem S4x512x128 .bf16) (harg15 : arg15.IsWhole)
variable (arg16 : Memref sig .tc .vmem S4x640x128 .bf16) (harg16 : arg16.IsWhole)
variable (arg17 : Memref sig .tc .vmem S4x640x128 .bf16) (harg17 : arg17.IsWhole)
variable (arg18 : Memref sig .tc .vmem S16x128x128 .bf16) (harg18 : arg18.IsWhole)
variable (arg19 : Memref sig .tc .vmem S16x256x128 .bf16) (harg19 : arg19.IsWhole)
variable (arg20 : Memref sig .tc .vmem S16x256x128 .bf16) (harg20 : arg20.IsWhole)
variable (arg21 : Memref sig .tc .vmem S2176x128 .bf16) (harg21 : arg21.IsWhole)
variable (arg22 : Memref sig .tc .vmem S2176x128 .bf16) (harg22 : arg22.IsWhole)
variable (arg23 : Memref sig .tc .vmem S2048x128 .f32) (harg23 : arg23.IsWhole)
variable (arg24 : Memref sig .tc .vmem S2048x128 .f32) (harg24 : arg24.IsWhole)
variable (arg25 : Memref sig .tc .vmem S2048x128 .f32) (harg25 : arg25.IsWhole)
variable (arg26 : Memref sig .tc .vmem S2048x128 .f32) (harg26 : arg26.IsWhole)
variable (arg27 : Memref sig .tc .vmem S2048x128 .f32) (harg27 : arg27.IsWhole)
variable (arg28 : Memref sig .tc .vmem S2048x128 .f32) (harg28 : arg28.IsWhole)

set_option maxHeartbeats 16000000 in
/-- The body up to its strided copies, on the first tile of a sequence: the carried tails are cleared, the tile is stored. -/
def startA (hc0 : cond0 i) (hc1 : ¬cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) :
    Σ' (L9 : List (View.Piece (Elt F) S2048x128 .f32)) (L10 : List (View.Piece (Elt F) S2048x128 .f32)) (L16 : List (View.Piece (Elt F) S4x640x128 .bf16)) (L17 : List (View.Piece (Elt F) S4x640x128 .bf16)) (L19 : List (View.Piece (Elt F) S16x256x128 .bf16)) (L20 : List (View.Piece (Elt F) S16x256x128 .bf16)) (L21 : List (View.Piece (Elt F) S2176x128 .bf16)) (sl : Elt F .f32) (vv : FVec F S2048x128 .f32), { L22 : List (View.Piece (Elt F) S2176x128 .bf16) //  ∀ (E : Set ℕ) (K : PUnit → sProp 𝕄) (rest : BitVec 32 → Elt F .f32 → FVec F S2048x128 .f32 → Prog (TpuEff nD τ sig (Elt F) Λ₀ .tc) PUnit),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg9.view.loc (c : Thread nD τ) ↦[arg9.view.set]{fullShare} X_arg9) ∗ (arg10.view.loc (c : Thread nD τ) ↦[arg10.view.set]{fullShare} X_arg10) ∗ (arg16.view.loc (c : Thread nD τ) ↦[arg16.view.set]{fullShare} X_arg16) ∗ (arg17.view.loc (c : Thread nD τ) ↦[arg17.view.set]{fullShare} X_arg17) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg9.view.loc (c : Thread nD τ) ↦[arg9.view.set]{fullShare} arg9.view.writes (Elt F) X_arg9 L9) ∗ (arg10.view.loc (c : Thread nD τ) ↦[arg10.view.set]{fullShare} arg10.view.writes (Elt F) X_arg10 L10) ∗ (arg16.view.loc (c : Thread nD τ) ↦[arg16.view.set]{fullShare} arg16.view.writes (Elt F) X_arg16 L16) ∗ (arg17.view.loc (c : Thread nD τ) ↦[arg17.view.set]{fullShare} arg17.view.writes (Elt F) X_arg17 L17) ∗ (arg19.view.loc (c : Thread nD τ) ↦[arg19.view.set]{fullShare} arg19.view.writes (Elt F) X_arg19 L19) ∗ (arg20.view.loc (c : Thread nD τ) ↦[arg20.view.set]{fullShare} arg20.view.writes (Elt F) X_arg20 L20) ∗ (arg21.view.loc (c : Thread nD τ) ↦[arg21.view.set]{fullShare} arg21.view.writes (Elt F) X_arg21 L21) ∗ (arg22.view.loc (c : Thread nD τ) ↦[arg22.view.set]{fullShare} arg22.view.writes (Elt F) X_arg22 L22)) -∗ wp frame (wpE (defs₀ (F := F)) Variants.none c none) E (rest (BitVec.ofNat 32 (i 2).val) sl vv) K))
      ⊢ wp frame (wpE (defs₀ (F := F)) Variants.none c none) E (do
        let ⟨arg2, v1, v27⟩ ← k0_part17 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
        rest arg2 v1 v27) K } := by
  refine ⟨?_, ?_, ?_, ?_, ?_, ?_, ?_, ?_, ?_, ?_, fun E K rest => ?run⟩
  case run =>
    unfold owns
    iintro ⟨⟨%f0, %hf0, H0⟩, ⟨%f1, %hf1, H1⟩, ⟨%f2, %hf2, H2⟩, ⟨%f3, %hf3, H3⟩, ⟨%f4, %hf4, H4⟩, S9, S10, S16, S17, S19, S20, S21, S22, Hk⟩
    obtain rfl := harg3.eq_unread hf0; obtain rfl := harg4.eq_unread hf1; obtain rfl := harg5.eq_unread hf2; obtain rfl := harg6.eq_unread hf3; obtain rfl := harg7.eq_unread hf4
    sl_exec_parts (disch := first | sl_exact hc0 | sl_exact hc1)
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [S9]; · iexact S9
    isplitl [S10]; · iexact S10
    isplitl [S16]; · iexact S16
    isplitl [S17]; · iexact S17
    isplitl [S19]; · iexact S19
    isplitl [S20]; · iexact S20
    isplitl [S21]; · iexact S21
    iexact S22

set_option maxHeartbeats 16000000 in
/-- The same on a later tile: the tails are carried from the buffers' ends, the tile is stored. -/
def startB (hc0 : ¬cond0 i) (hc1 : cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) :
    Σ' (L9 : List (View.Piece (Elt F) S2048x128 .f32)) (L10 : List (View.Piece (Elt F) S2048x128 .f32)) (L16 : List (View.Piece (Elt F) S4x640x128 .bf16)) (L17 : List (View.Piece (Elt F) S4x640x128 .bf16)) (L19 : List (View.Piece (Elt F) S16x256x128 .bf16)) (L20 : List (View.Piece (Elt F) S16x256x128 .bf16)) (L21 : List (View.Piece (Elt F) S2176x128 .bf16)) (sl : Elt F .f32) (vv : FVec F S2048x128 .f32), { L22 : List (View.Piece (Elt F) S2176x128 .bf16) //  ∀ (E : Set ℕ) (K : PUnit → sProp 𝕄) (rest : BitVec 32 → Elt F .f32 → FVec F S2048x128 .f32 → Prog (TpuEff nD τ sig (Elt F) Λ₀ .tc) PUnit),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg9.view.loc (c : Thread nD τ) ↦[arg9.view.set]{fullShare} X_arg9) ∗ (arg10.view.loc (c : Thread nD τ) ↦[arg10.view.set]{fullShare} X_arg10) ∗ (arg16.view.loc (c : Thread nD τ) ↦[arg16.view.set]{fullShare} X_arg16) ∗ (arg17.view.loc (c : Thread nD τ) ↦[arg17.view.set]{fullShare} X_arg17) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg9.view.loc (c : Thread nD τ) ↦[arg9.view.set]{fullShare} arg9.view.writes (Elt F) X_arg9 L9) ∗ (arg10.view.loc (c : Thread nD τ) ↦[arg10.view.set]{fullShare} arg10.view.writes (Elt F) X_arg10 L10) ∗ (arg16.view.loc (c : Thread nD τ) ↦[arg16.view.set]{fullShare} arg16.view.writes (Elt F) X_arg16 L16) ∗ (arg17.view.loc (c : Thread nD τ) ↦[arg17.view.set]{fullShare} arg17.view.writes (Elt F) X_arg17 L17) ∗ (arg19.view.loc (c : Thread nD τ) ↦[arg19.view.set]{fullShare} arg19.view.writes (Elt F) X_arg19 L19) ∗ (arg20.view.loc (c : Thread nD τ) ↦[arg20.view.set]{fullShare} arg20.view.writes (Elt F) X_arg20 L20) ∗ (arg21.view.loc (c : Thread nD τ) ↦[arg21.view.set]{fullShare} arg21.view.writes (Elt F) X_arg21 L21) ∗ (arg22.view.loc (c : Thread nD τ) ↦[arg22.view.set]{fullShare} arg22.view.writes (Elt F) X_arg22 L22)) -∗ wp frame (wpE (defs₀ (F := F)) Variants.none c none) E (rest (BitVec.ofNat 32 (i 2).val) sl vv) K))
      ⊢ wp frame (wpE (defs₀ (F := F)) Variants.none c none) E (do
        let ⟨arg2, v1, v27⟩ ← k0_part17 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
        rest arg2 v1 v27) K } := by
  refine ⟨?_, ?_, ?_, ?_, ?_, ?_, ?_, ?_, ?_, ?_, fun E K rest => ?run⟩
  case run =>
    unfold owns
    iintro ⟨⟨%f0, %hf0, H0⟩, ⟨%f1, %hf1, H1⟩, ⟨%f2, %hf2, H2⟩, ⟨%f3, %hf3, H3⟩, ⟨%f4, %hf4, H4⟩, S9, S10, S16, S17, S19, S20, S21, S22, Hk⟩
    obtain rfl := harg3.eq_unread hf0; obtain rfl := harg4.eq_unread hf1; obtain rfl := harg5.eq_unread hf2; obtain rfl := harg6.eq_unread hf3; obtain rfl := harg7.eq_unread hf4
    sl_exec_parts (disch := first | sl_exact hc0 | sl_exact hc1)
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [S9]; · iexact S9
    isplitl [S10]; · iexact S10
    isplitl [S16]; · iexact S16
    isplitl [S17]; · iexact S17
    isplitl [S19]; · iexact S19
    isplitl [S20]; · iexact S20
    isplitl [S21]; · iexact S21
    iexact S22

end Cert.AttnIdeal.Body

end
-- ==== Proof.AttnFill.lean ====
module

public import proofs.«01_k».proof.Proof.AttnLoops

/-! The attention body's second stage: the tile's rows, taken with strides 4 and 16, into the pattern buffers. -/

@[expose] public section

set_option maxRecDepth 16384
set_option maxHeartbeats 4000000

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen Cert.AttnIdeal.Loops

variable {F : FTy → Type} [FloatOps F]

local notation "𝕄" => MT nD τ sig Unit (Elt F) ℕ (UR sig nD τ) ℕ

variable (c : Dev nD) (i : grid0.Coords)
variable (arg3 : Memref sig .tc .smem S16 .f32) (harg3 : arg3.IsWhole)
variable (arg4 : Memref sig .tc .vmem S2048x128 .bf16) (harg4 : arg4.IsWhole)
variable (arg5 : Memref sig .tc .vmem S2048x128 .bf16) (harg5 : arg5.IsWhole)
variable (arg6 : Memref sig .tc .vmem S2048x128 .bf16) (harg6 : arg6.IsWhole)
variable (arg7 : Memref sig .tc .vmem S2048x128 .bf16) (harg7 : arg7.IsWhole)
variable (arg8 : Memref sig .tc .vmem S2048x128 .bf16) (harg8 : arg8.IsWhole)
variable (arg9 : Memref sig .tc .vmem S2048x128 .f32) (harg9 : arg9.IsWhole)
variable (arg10 : Memref sig .tc .vmem S2048x128 .f32) (harg10 : arg10.IsWhole)
variable (arg11 : Memref sig .tc .vmem S2048x128 .f32) (harg11 : arg11.IsWhole)
variable (arg12 : Memref sig .tc .vmem S4x512x128 .f32) (harg12 : arg12.IsWhole)
variable (arg13 : Memref sig .tc .vmem S4x512x128 .f32) (harg13 : arg13.IsWhole)
variable (arg14 : Memref sig .tc .vmem S4x512x128 .f32) (harg14 : arg14.IsWhole)
variable (arg15 : Memref sig .tc .vmem S4x512x128 .bf16) (harg15 : arg15.IsWhole)
variable (arg16 : Memref sig .tc .vmem S4x640x128 .bf16) (harg16 : arg16.IsWhole)
variable (arg17 : Memref sig .tc .vmem S4x640x128 .bf16) (harg17 : arg17.IsWhole)
variable (arg18 : Memref sig .tc .vmem S16x128x128 .bf16) (harg18 : arg18.IsWhole)
variable (arg19 : Memref sig .tc .vmem S16x256x128 .bf16) (harg19 : arg19.IsWhole)
variable (arg20 : Memref sig .tc .vmem S16x256x128 .bf16) (harg20 : arg20.IsWhole)
variable (arg21 : Memref sig .tc .vmem S2176x128 .bf16) (harg21 : arg21.IsWhole)
variable (arg22 : Memref sig .tc .vmem S2176x128 .bf16) (harg22 : arg22.IsWhole)
variable (arg23 : Memref sig .tc .vmem S2048x128 .f32) (harg23 : arg23.IsWhole)
variable (arg24 : Memref sig .tc .vmem S2048x128 .f32) (harg24 : arg24.IsWhole)
variable (arg25 : Memref sig .tc .vmem S2048x128 .f32) (harg25 : arg25.IsWhole)
variable (arg26 : Memref sig .tc .vmem S2048x128 .f32) (harg26 : arg26.IsWhole)
variable (arg27 : Memref sig .tc .vmem S2048x128 .f32) (harg27 : arg27.IsWhole)
variable (arg28 : Memref sig .tc .vmem S2048x128 .f32) (harg28 : arg28.IsWhole)

set_option maxHeartbeats 16000000 in
/-- The second stage: the strided copies of the tile into the pattern buffers. -/
def fill (arg2 : BitVec 32) (v1 : Elt F .f32) (v27 : FVec F S2048x128 .f32) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) :
    Σ' (L11 : List (View.Piece (Elt F) S2048x128 .f32)) (L12 : List (View.Piece (Elt F) S4x512x128 .f32)) (L13 : List (View.Piece (Elt F) S4x512x128 .f32)) (L14 : List (View.Piece (Elt F) S4x512x128 .f32)) (L15 : List (View.Piece (Elt F) S4x512x128 .bf16)) (L16 : List (View.Piece (Elt F) S4x640x128 .bf16)) (L17 : List (View.Piece (Elt F) S4x640x128 .bf16)) (L18 : List (View.Piece (Elt F) S16x128x128 .bf16)) (L19 : List (View.Piece (Elt F) S16x256x128 .bf16)), { L20 : List (View.Piece (Elt F) S16x256x128 .bf16) //  ∀ (E : Set ℕ) (K : PUnit → sProp 𝕄) (rest : IVec S128x256 1 → FVec F S128x256 .f32 → IVec S128x256 1 → FVec F S128x256 .f32 → BitVec 32 → Vec F S256x128 .bf16 → FVec F S128x256 .f32 → Prog (TpuEff nD τ sig (Elt F) Λ₀ .tc) PUnit),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (iprop((arg3.view.loc (c : Thread nD τ) ↦[arg3.view.set]{fullShare} (harg3.unread x0)) ∗ (arg4.view.loc (c : Thread nD τ) ↦[arg4.view.set]{fullShare} (harg4.unread x1)) ∗ (arg5.view.loc (c : Thread nD τ) ↦[arg5.view.set]{fullShare} (harg5.unread x2)) ∗ (arg6.view.loc (c : Thread nD τ) ↦[arg6.view.set]{fullShare} (harg6.unread x3)) ∗ (arg7.view.loc (c : Thread nD τ) ↦[arg7.view.set]{fullShare} (harg7.unread x4)) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} arg11.view.writes (Elt F) X_arg11 L11) ∗ (arg12.view.loc (c : Thread nD τ) ↦[arg12.view.set]{fullShare} arg12.view.writes (Elt F) X_arg12 L12) ∗ (arg13.view.loc (c : Thread nD τ) ↦[arg13.view.set]{fullShare} arg13.view.writes (Elt F) X_arg13 L13) ∗ (arg14.view.loc (c : Thread nD τ) ↦[arg14.view.set]{fullShare} arg14.view.writes (Elt F) X_arg14 L14) ∗ (arg15.view.loc (c : Thread nD τ) ↦[arg15.view.set]{fullShare} arg15.view.writes (Elt F) X_arg15 L15) ∗ (arg16.view.loc (c : Thread nD τ) ↦[arg16.view.set]{fullShare} arg16.view.writes (Elt F) X_arg16 L16) ∗ (arg17.view.loc (c : Thread nD τ) ↦[arg17.view.set]{fullShare} arg17.view.writes (Elt F) X_arg17 L17) ∗ (arg18.view.loc (c : Thread nD τ) ↦[arg18.view.set]{fullShare} arg18.view.writes (Elt F) X_arg18 L18) ∗ (arg19.view.loc (c : Thread nD τ) ↦[arg19.view.set]{fullShare} arg19.view.writes (Elt F) X_arg19 L19) ∗ (arg20.view.loc (c : Thread nD τ) ↦[arg20.view.set]{fullShare} arg20.view.writes (Elt F) X_arg20 L20) ∗ (arg21.view.loc (c : Thread nD τ) ↦[arg21.view.set]{fullShare} X_arg21) ∗ (arg22.view.loc (c : Thread nD τ) ↦[arg22.view.set]{fullShare} X_arg22)) -∗ wp frame (wpE (defs₀ (F := F)) Variants.none c none) E (rest k0_pay202 (k0_pay203 (F := F)) (k0_pay204 arg2) (k0_pay206 v1) 0#32 (arg22.view.readAt (Elt F) (Rect.unit (s := S2176x128) ![0, 0] S256x128.size inb_S2176x128_S256x128_0_0).toLoadRect X_arg22) (k0_pay207 arg2 v1 (arg4.view.readAt (Elt F) (Rect.unit (s := S2048x128) ![0, 0] S128x128.size inb_S2048x128_S128x128_0_0).toLoadRect (harg4.unread x1)) (arg21.view.readAt (Elt F) (Rect.unit (s := S2176x128) ![0, 0] S256x128.size inb_S2176x128_S256x128_0_0).toLoadRect X_arg21))) K))
      ⊢ wp frame (wpE (defs₀ (F := F)) Variants.none c none) E (do
        k0_part18 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v27
        let ⟨v79, v80⟩ : Σ' (v79 : Vec F S512x128 .f32), Vec F S1x512x128 .f32 ← k0_part19 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
        let v107 : FVec F S512x128 .bf16 ← k0_part20 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v79 v80
        let v135 : FVec F S128x128 .bf16 ← k0_part21 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v107
        k0_part22 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v135
        let v189 : FVec F S128x128 .bf16 ← k0_part23 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
        let v217 : Vec F S1x128x128 .f32 ← k0_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v189
        let v246 : FVec F S1x128x128 .bf16 ← k0_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v217
        let v273 : FVec F S128x128 .bf16 ← k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v246
        k0_part27 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v273
        let ⟨v327, v328⟩ : Σ' (v327 : FVec F S128x128 .bf16), Vec F S1x128x128 .bf16 ← k0_part28 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
        let v356 : FVec F S128x128 .f32 ← k0_part29 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v327 v328
        k0_part30 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v356
        let v411 : FVec F S128x128 .bf16 ← k0_part31 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
        let ⟨v424, v425, v431, v437, c0_i32_397, v447, v451⟩ : Σ' (v424 : IVec S128x256 1) (v425 : FVec F S128x256 .f32) (v431 : IVec S128x256 1) (v437 : FVec F S128x256 .f32) (c0_i32_397 : BitVec 32) (v447 : Vec F S256x128 .bf16), FVec F S128x256 .f32 ← k0_part32 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v411
        rest v424 v425 v431 v437 c0_i32_397 v447 v451) K } := by
  refine ⟨?_, ?_, ?_, ?_, ?_, ?_, ?_, ?_, ?_, ?_, fun E K rest => ?run⟩
  case run =>
    unfold owns
    iintro ⟨⟨%f0, %hf0, H0⟩, ⟨%f1, %hf1, H1⟩, ⟨%f2, %hf2, H2⟩, ⟨%f3, %hf3, H3⟩, ⟨%f4, %hf4, H4⟩, S9, S10, S11, S12, S13, S14, S15, S16, S17, S18, S19, S20, S21, S22, Hk⟩
    obtain rfl := harg3.eq_unread hf0; obtain rfl := harg4.eq_unread hf1; obtain rfl := harg5.eq_unread hf2; obtain rfl := harg6.eq_unread hf3; obtain rfl := harg7.eq_unread hf4
    sl_exec_parts
    iapply Hk
    isplitl [H0]; · iexact H0
    isplitl [H1]; · iexact H1
    isplitl [H2]; · iexact H2
    isplitl [H3]; · iexact H3
    isplitl [H4]; · iexact H4
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    iexact S22

end Cert.AttnIdeal.Body

end
-- ==== Proof.AttnAttend.lean ====
module

public import proofs.«01_k».proof.Proof.AttnLoops

/-! The attention body's last stage: every block of every pattern, then the merge. -/

@[expose] public section

set_option maxRecDepth 16384
set_option maxHeartbeats 4000000

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen Cert.AttnIdeal.Loops

variable {F : FTy → Type} [FloatOps F]

local notation "𝕄" => MT nD τ sig Unit (Elt F) ℕ (UR sig nD τ) ℕ

variable (c : Dev nD) (i : grid0.Coords)
variable (arg3 : Memref sig .tc .smem S16 .f32) (harg3 : arg3.IsWhole)
variable (arg4 : Memref sig .tc .vmem S2048x128 .bf16) (harg4 : arg4.IsWhole)
variable (arg5 : Memref sig .tc .vmem S2048x128 .bf16) (harg5 : arg5.IsWhole)
variable (arg6 : Memref sig .tc .vmem S2048x128 .bf16) (harg6 : arg6.IsWhole)
variable (arg7 : Memref sig .tc .vmem S2048x128 .bf16) (harg7 : arg7.IsWhole)
variable (arg8 : Memref sig .tc .vmem S2048x128 .bf16) (harg8 : arg8.IsWhole)
variable (arg9 : Memref sig .tc .vmem S2048x128 .f32) (harg9 : arg9.IsWhole)
variable (arg10 : Memref sig .tc .vmem S2048x128 .f32) (harg10 : arg10.IsWhole)
variable (arg11 : Memref sig .tc .vmem S2048x128 .f32) (harg11 : arg11.IsWhole)
variable (arg12 : Memref sig .tc .vmem S4x512x128 .f32) (harg12 : arg12.IsWhole)
variable (arg13 : Memref sig .tc .vmem S4x512x128 .f32) (harg13 : arg13.IsWhole)
variable (arg14 : Memref sig .tc .vmem S4x512x128 .f32) (harg14 : arg14.IsWhole)
variable (arg15 : Memref sig .tc .vmem S4x512x128 .bf16) (harg15 : arg15.IsWhole)
variable (arg16 : Memref sig .tc .vmem S4x640x128 .bf16) (harg16 : arg16.IsWhole)
variable (arg17 : Memref sig .tc .vmem S4x640x128 .bf16) (harg17 : arg17.IsWhole)
variable (arg18 : Memref sig .tc .vmem S16x128x128 .bf16) (harg18 : arg18.IsWhole)
variable (arg19 : Memref sig .tc .vmem S16x256x128 .bf16) (harg19 : arg19.IsWhole)
variable (arg20 : Memref sig .tc .vmem S16x256x128 .bf16) (harg20 : arg20.IsWhole)
variable (arg21 : Memref sig .tc .vmem S2176x128 .bf16) (harg21 : arg21.IsWhole)
variable (arg22 : Memref sig .tc .vmem S2176x128 .bf16) (harg22 : arg22.IsWhole)
variable (arg23 : Memref sig .tc .vmem S2048x128 .f32) (harg23 : arg23.IsWhole)
variable (arg24 : Memref sig .tc .vmem S2048x128 .f32) (harg24 : arg24.IsWhole)
variable (arg25 : Memref sig .tc .vmem S2048x128 .f32) (harg25 : arg25.IsWhole)
variable (arg26 : Memref sig .tc .vmem S2048x128 .f32) (harg26 : arg26.IsWhole)
variable (arg27 : Memref sig .tc .vmem S2048x128 .f32) (harg27 : arg27.IsWhole)
variable (arg28 : Memref sig .tc .vmem S2048x128 .f32) (harg28 : arg28.IsWhole)

set_option maxHeartbeats 16000000 in
/-- The last stage: the patterns' blocks and their merge into the output tile. -/
def attend (v1 : Elt F .f32) (v424 : IVec S128x256 1) (v425 : FVec F S128x256 .f32) (v431 : IVec S128x256 1) (v437 : FVec F S128x256 .f32) (c0_i32_397 : BitVec 32) (v447 : Vec F S256x128 .bf16) (v451 : FVec F S128x256 .f32) (X_arg4 : BufTy.Contents (Elt F) arg4.view.ty) (X_arg7 : BufTy.Contents (Elt F) arg7.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (f8 : BufTy.Contents (Elt F) arg8.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) :
    { L8 : List (View.Piece (Elt F) S2048x128 .bf16) // ∀ (E : Set ℕ) (K : PUnit → sProp 𝕄),
      iprop((arg4.view.loc (c : Thread nD τ) ↦[arg4.view.set]{fullShare} X_arg4) ∗ (arg7.view.loc (c : Thread nD τ) ↦[arg7.view.set]{fullShare} X_arg7) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg8.view.loc (c : Thread nD τ) ↦[arg8.view.set]{fullShare} f8) ∗ (arg23.view.loc (c : Thread nD τ) ↦[arg23.view.set]{fullShare} X_arg23) ∗ (arg24.view.loc (c : Thread nD τ) ↦[arg24.view.set]{fullShare} X_arg24) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27) ∗ (arg28.view.loc (c : Thread nD τ) ↦[arg28.view.set]{fullShare} X_arg28) ∗ (iprop((arg4.view.loc (c : Thread nD τ) ↦[arg4.view.set]{fullShare} X_arg4) ∗ (arg7.view.loc (c : Thread nD τ) ↦[arg7.view.set]{fullShare} X_arg7) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg8.view.loc (c : Thread nD τ) ↦[arg8.view.set]{fullShare} arg8.view.writes (Elt F) f8 L8) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f))) -∗ K ⟨⟩))
      ⊢ wp frame (wpE (defs₀ (F := F)) Variants.none c none) E (do
        let v485 : FVec F S128x256 .f32 ← k0_part33 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v424 v425 v431 v437 c0_i32_397 v447 v451
        Scf.Loop.for k0_t3_loop k0_t3_ok ⟨⟩ (k0_t3_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v485)
        Scf.Loop.for k0_t4_loop k0_t4_ok ⟨⟩ (k0_t4_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v425 v431)
        Scf.Loop.for k0_t5_loop k0_t5_ok ⟨⟩ (k0_t5_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28)
        pure ⟨⟩) K } := by
  refine ⟨?_, fun E K => ?run⟩
  case run =>
    iintro ⟨S4, S7, S15, S16, S17, S18, S19, S20, S21, S22, HO, S23, S24, S25, S26, S27, S28, Hk⟩
    sl_exec_parts
    sl_step
    iapply Hk
    isplitl [S4]; · iexact S4
    isplitl [S7]; · iexact S7
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [HO]; · iexact HO
    isplitl [S23]; · iexists _; iexact S23
    isplitl [S24]; · iexists _; iexact S24
    isplitl [S25]; · iexists _; iexact S25
    isplitl [S26]; · iexists _; iexact S26
    isplitl [S27]; · iexists _; iexact S27
    iexists _; iexact S28

end Cert.AttnIdeal.Body

end
-- ==== Proof.AttnRun.lean ====
module

public import proofs.«01_k».proof.Proof.AttnStart
public import proofs.«01_k».proof.Proof.AttnFill
public import proofs.«01_k».proof.Proof.AttnAttend

/-! The attention body put together from its three stages. -/

@[expose] public section

set_option maxRecDepth 16384
set_option maxHeartbeats 4000000

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen Cert.AttnIdeal.Loops

variable {F : FTy → Type} [FloatOps F]

local notation "𝕄" => MT nD τ sig Unit (Elt F) ℕ (UR sig nD τ) ℕ

variable (c : Dev nD) (i : grid0.Coords)
variable (arg3 : Memref sig .tc .smem S16 .f32) (harg3 : arg3.IsWhole)
variable (arg4 : Memref sig .tc .vmem S2048x128 .bf16) (harg4 : arg4.IsWhole)
variable (arg5 : Memref sig .tc .vmem S2048x128 .bf16) (harg5 : arg5.IsWhole)
variable (arg6 : Memref sig .tc .vmem S2048x128 .bf16) (harg6 : arg6.IsWhole)
variable (arg7 : Memref sig .tc .vmem S2048x128 .bf16) (harg7 : arg7.IsWhole)
variable (arg8 : Memref sig .tc .vmem S2048x128 .bf16) (harg8 : arg8.IsWhole)
variable (arg9 : Memref sig .tc .vmem S2048x128 .f32) (harg9 : arg9.IsWhole)
variable (arg10 : Memref sig .tc .vmem S2048x128 .f32) (harg10 : arg10.IsWhole)
variable (arg11 : Memref sig .tc .vmem S2048x128 .f32) (harg11 : arg11.IsWhole)
variable (arg12 : Memref sig .tc .vmem S4x512x128 .f32) (harg12 : arg12.IsWhole)
variable (arg13 : Memref sig .tc .vmem S4x512x128 .f32) (harg13 : arg13.IsWhole)
variable (arg14 : Memref sig .tc .vmem S4x512x128 .f32) (harg14 : arg14.IsWhole)
variable (arg15 : Memref sig .tc .vmem S4x512x128 .bf16) (harg15 : arg15.IsWhole)
variable (arg16 : Memref sig .tc .vmem S4x640x128 .bf16) (harg16 : arg16.IsWhole)
variable (arg17 : Memref sig .tc .vmem S4x640x128 .bf16) (harg17 : arg17.IsWhole)
variable (arg18 : Memref sig .tc .vmem S16x128x128 .bf16) (harg18 : arg18.IsWhole)
variable (arg19 : Memref sig .tc .vmem S16x256x128 .bf16) (harg19 : arg19.IsWhole)
variable (arg20 : Memref sig .tc .vmem S16x256x128 .bf16) (harg20 : arg20.IsWhole)
variable (arg21 : Memref sig .tc .vmem S2176x128 .bf16) (harg21 : arg21.IsWhole)
variable (arg22 : Memref sig .tc .vmem S2176x128 .bf16) (harg22 : arg22.IsWhole)
variable (arg23 : Memref sig .tc .vmem S2048x128 .f32) (harg23 : arg23.IsWhole)
variable (arg24 : Memref sig .tc .vmem S2048x128 .f32) (harg24 : arg24.IsWhole)
variable (arg25 : Memref sig .tc .vmem S2048x128 .f32) (harg25 : arg25.IsWhole)
variable (arg26 : Memref sig .tc .vmem S2048x128 .f32) (harg26 : arg26.IsWhole)
variable (arg27 : Memref sig .tc .vmem S2048x128 .f32) (harg27 : arg27.IsWhole)
variable (arg28 : Memref sig .tc .vmem S2048x128 .f32) (harg28 : arg28.IsWhole)

/-- The last stage as a program. -/
def last (v1 : Elt F .f32) (v424 : IVec S128x256 1) (v425 : FVec F S128x256 .f32) (v431 : IVec S128x256 1) (v437 : FVec F S128x256 .f32) (c0_i32_397 : BitVec 32) (v447 : Vec F S256x128 .bf16) (v451 : FVec F S128x256 .f32) : Prog (TpuEff nD τ sig (Elt F) Λ₀ .tc) PUnit := do
  let v485 : FVec F S128x256 .f32 ← k0_part33 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v424 v425 v431 v437 c0_i32_397 v447 v451
  Scf.Loop.for k0_t3_loop k0_t3_ok ⟨⟩ (k0_t3_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v485)
  Scf.Loop.for k0_t4_loop k0_t4_ok ⟨⟩ (k0_t4_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v425 v431)
  Scf.Loop.for k0_t5_loop k0_t5_ok ⟨⟩ (k0_t5_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28)
  pure ⟨⟩

/-- The second stage and what follows it. -/
def second (arg2 : BitVec 32) (v1 : Elt F .f32) (v27 : FVec F S2048x128 .f32) : Prog (TpuEff nD τ sig (Elt F) Λ₀ .tc) PUnit := do
  k0_part18 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v27
  let ⟨v79, v80⟩ : Σ' (v79 : Vec F S512x128 .f32), Vec F S1x512x128 .f32 ← k0_part19 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
  let v107 : FVec F S512x128 .bf16 ← k0_part20 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v79 v80
  let v135 : FVec F S128x128 .bf16 ← k0_part21 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v107
  k0_part22 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v135
  let v189 : FVec F S128x128 .bf16 ← k0_part23 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
  let v217 : Vec F S1x128x128 .f32 ← k0_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v189
  let v246 : FVec F S1x128x128 .bf16 ← k0_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v217
  let v273 : FVec F S128x128 .bf16 ← k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v246
  k0_part27 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v273
  let ⟨v327, v328⟩ : Σ' (v327 : FVec F S128x128 .bf16), Vec F S1x128x128 .bf16 ← k0_part28 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
  let v356 : FVec F S128x128 .f32 ← k0_part29 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v327 v328
  k0_part30 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v356
  let v411 : FVec F S128x128 .bf16 ← k0_part31 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
  let ⟨v424, v425, v431, v437, c0_i32_397, v447, v451⟩ : Σ' (v424 : IVec S128x256 1) (v425 : FVec F S128x256 .f32) (v431 : IVec S128x256 1) (v437 : FVec F S128x256 .f32) (c0_i32_397 : BitVec 32) (v447 : Vec F S256x128 .bf16), FVec F S128x256 .f32 ← k0_part32 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v411
  last i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v424 v425 v431 v437 c0_i32_397 v447 v451

/-- The body is its first stage, then the second. -/
theorem body_eq : cc0_dilated_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 = (do
    let ⟨arg2, v1, v27⟩ ← k0_part17 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
    second i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27) :=
  by
  rw [cc0_dilated_attn_eq_skeleton]; rfl

theorem last_run (v1 : Elt F .f32) (v424 : IVec S128x256 1) (v425 : FVec F S128x256 .f32) (v431 : IVec S128x256 1) (v437 : FVec F S128x256 .f32) (c0_i32_397 : BitVec 32) (v447 : Vec F S256x128 .bf16) (v451 : FVec F S128x256 .f32) (X_arg4 : BufTy.Contents (Elt F) arg4.view.ty) (X_arg7 : BufTy.Contents (Elt F) arg7.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (f8 : BufTy.Contents (Elt F) arg8.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) (K : PUnit → sProp 𝕄) :
    iprop((arg4.view.loc (c : Thread nD τ) ↦[arg4.view.set]{fullShare} X_arg4) ∗ (arg7.view.loc (c : Thread nD τ) ↦[arg7.view.set]{fullShare} X_arg7) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg8.view.loc (c : Thread nD τ) ↦[arg8.view.set]{fullShare} f8) ∗ (arg23.view.loc (c : Thread nD τ) ↦[arg23.view.set]{fullShare} X_arg23) ∗ (arg24.view.loc (c : Thread nD τ) ↦[arg24.view.set]{fullShare} X_arg24) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27) ∗ (arg28.view.loc (c : Thread nD τ) ↦[arg28.view.set]{fullShare} X_arg28) ∗ (iprop((arg4.view.loc (c : Thread nD τ) ↦[arg4.view.set]{fullShare} X_arg4) ∗ (arg7.view.loc (c : Thread nD τ) ↦[arg7.view.set]{fullShare} X_arg7) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg8.view.loc (c : Thread nD τ) ↦[arg8.view.set]{fullShare} arg8.view.writes (Elt F) f8 (attend c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v424 v425 v431 v437 c0_i32_397 v447 v451 X_arg4 X_arg7 X_arg15 X_arg16 X_arg17 X_arg18 X_arg19 X_arg20 X_arg21 X_arg22 f8 X_arg23 X_arg24 X_arg25 X_arg26 X_arg27 X_arg28).1) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f))) -∗ K ⟨⟩))
      ⊢ wp frame (wpE (defs₀ (F := F)) Variants.none c none) Set.univ (last i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v424 v425 v431 v437 c0_i32_397 v447 v451) K :=
  (attend c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v424 v425 v431 v437 c0_i32_397 v447 v451 X_arg4 X_arg7 X_arg15 X_arg16 X_arg17 X_arg18 X_arg19 X_arg20 X_arg21 X_arg22 f8 X_arg23 X_arg24 X_arg25 X_arg26 X_arg27 X_arg28).2 Set.univ K

variable (arg2 : BitVec 32) (v1 : Elt F .f32) (v27 : FVec F S2048x128 .f32) (x0 : Vec F S16 .f32) (x1 : Vec F S2048x128 .bf16) (x2 : Vec F S2048x128 .bf16) (x3 : Vec F S2048x128 .bf16) (x4 : Vec F S2048x128 .bf16)
variable (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty)

/-- The contents of buffer arg11 after the second stage. -/
def fill11 : BufTy.Contents (Elt F) arg11.view.ty := arg11.view.writes (Elt F) X_arg11 (fill c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22).1

/-- The contents of buffer arg12 after the second stage. -/
def fill12 : BufTy.Contents (Elt F) arg12.view.ty := arg12.view.writes (Elt F) X_arg12 (fill c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22).2.1

/-- The contents of buffer arg13 after the second stage. -/
def fill13 : BufTy.Contents (Elt F) arg13.view.ty := arg13.view.writes (Elt F) X_arg13 (fill c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22).2.2.1

/-- The contents of buffer arg14 after the second stage. -/
def fill14 : BufTy.Contents (Elt F) arg14.view.ty := arg14.view.writes (Elt F) X_arg14 (fill c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22).2.2.2.1

/-- The contents of buffer arg15 after the second stage. -/
def fill15 : BufTy.Contents (Elt F) arg15.view.ty := arg15.view.writes (Elt F) X_arg15 (fill c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22).2.2.2.2.1

/-- The contents of buffer arg16 after the second stage. -/
def fill16 : BufTy.Contents (Elt F) arg16.view.ty := arg16.view.writes (Elt F) X_arg16 (fill c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22).2.2.2.2.2.1

/-- The contents of buffer arg17 after the second stage. -/
def fill17 : BufTy.Contents (Elt F) arg17.view.ty := arg17.view.writes (Elt F) X_arg17 (fill c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22).2.2.2.2.2.2.1

/-- The contents of buffer arg18 after the second stage. -/
def fill18 : BufTy.Contents (Elt F) arg18.view.ty := arg18.view.writes (Elt F) X_arg18 (fill c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22).2.2.2.2.2.2.2.1

/-- The contents of buffer arg19 after the second stage. -/
def fill19 : BufTy.Contents (Elt F) arg19.view.ty := arg19.view.writes (Elt F) X_arg19 (fill c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22).2.2.2.2.2.2.2.2.1

/-- The contents of buffer arg20 after the second stage. -/
def fill20 : BufTy.Contents (Elt F) arg20.view.ty := arg20.view.writes (Elt F) X_arg20 (fill c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22).2.2.2.2.2.2.2.2.2.1

/-- The output tile's contents. -/
def tile (f8 : BufTy.Contents (Elt F) arg8.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) : BufTy.Contents (Elt F) arg8.view.ty := arg8.view.writes (Elt F) f8 (attend c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 k0_pay202 (k0_pay203 (F := F)) (k0_pay204 arg2) (k0_pay206 v1) 0#32 (arg22.view.readAt (Elt F) (Rect.unit (s := S2176x128) ![0, 0] S256x128.size inb_S2176x128_S256x128_0_0).toLoadRect X_arg22) (k0_pay207 arg2 v1 (arg4.view.readAt (Elt F) (Rect.unit (s := S2048x128) ![0, 0] S128x128.size inb_S2048x128_S128x128_0_0).toLoadRect (harg4.unread x1)) (arg21.view.readAt (Elt F) (Rect.unit (s := S2176x128) ![0, 0] S256x128.size inb_S2176x128_S256x128_0_0).toLoadRect X_arg21)) (harg4.unread x1) (harg7.unread x4) (fill15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22) (fill16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22) (fill17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22) (fill18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22) (fill19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22) (fill20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22) X_arg21 X_arg22 f8 X_arg23 X_arg24 X_arg25 X_arg26 X_arg27 X_arg28).1

/-- What the second and last stages leave. -/
abbrev after (f8 : BufTy.Contents (Elt F) arg8.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) : sProp 𝕄 := iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg8.view.loc (c : Thread nD τ) ↦[arg8.view.set]{fullShare} (tile c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22 f8 X_arg23 X_arg24 X_arg25 X_arg26 X_arg27 X_arg28)) ∗ (arg16.view.loc (c : Thread nD τ) ↦[arg16.view.set]{fullShare} (fill16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22)) ∗ (arg17.view.loc (c : Thread nD τ) ↦[arg17.view.set]{fullShare} (fill17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22)) ∗ (arg19.view.loc (c : Thread nD τ) ↦[arg19.view.set]{fullShare} (fill19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22)) ∗ (arg20.view.loc (c : Thread nD τ) ↦[arg20.view.set]{fullShare} (fill20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22)) ∗ (arg21.view.loc (c : Thread nD τ) ↦[arg21.view.set]{fullShare} X_arg21) ∗ (arg22.view.loc (c : Thread nD τ) ↦[arg22.view.set]{fullShare} X_arg22) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg18.view.loc (c : Thread nD τ) ↦[arg18.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)))

set_option maxHeartbeats 16000000 in
theorem second_run (f8 : BufTy.Contents (Elt F) arg8.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg8.view.loc (c : Thread nD τ) ↦[arg8.view.set]{fullShare} f8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27) ∗ (arg28.view.loc (c : Thread nD τ) ↦[arg28.view.set]{fullShare} X_arg28) ∗ ((after c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22 f8 X_arg23 X_arg24 X_arg25 X_arg26 X_arg27 X_arg28) -∗ K ⟨⟩))
      ⊢ wp frame (wpE (defs₀ (F := F)) Variants.none c none) Set.univ (second i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27) K := by
  unfold second
  iintro ⟨H0, H1, H2, H3, H4, HO, S9, S10, S11, S12, S13, S14, S15, S16, S17, S18, S19, S20, S21, S22, S23, S24, S25, S26, S27, S28, Hk⟩
  iapply ((fill c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22).2.2.2.2.2.2.2.2.2.2 Set.univ K (fun v424 v425 v431 v437 c0_i32_397 v447 v451 => last i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v424 v425 v431 v437 c0_i32_397 v447 v451))
  isplitl [H0]; · iexact H0
  isplitl [H1]; · iexact H1
  isplitl [H2]; · iexact H2
  isplitl [H3]; · iexact H3
  isplitl [H4]; · iexact H4
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  iintro ⟨H0, H1, H2, H3, H4, S9, S10, S11, S12, S13, S14, S15, S16, S17, S18, S19, S20, S21, S22⟩
  beta_reduce
  iapply (last_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 k0_pay202 (k0_pay203 (F := F)) (k0_pay204 arg2) (k0_pay206 v1) 0#32 (arg22.view.readAt (Elt F) (Rect.unit (s := S2176x128) ![0, 0] S256x128.size inb_S2176x128_S256x128_0_0).toLoadRect X_arg22) (k0_pay207 arg2 v1 (arg4.view.readAt (Elt F) (Rect.unit (s := S2048x128) ![0, 0] S128x128.size inb_S2048x128_S128x128_0_0).toLoadRect (harg4.unread x1)) (arg21.view.readAt (Elt F) (Rect.unit (s := S2176x128) ![0, 0] S256x128.size inb_S2176x128_S256x128_0_0).toLoadRect X_arg21)) (harg4.unread x1) (harg7.unread x4) (fill15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22) (fill16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22) (fill17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22) (fill18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22) (fill19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22) (fill20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27 x0 x1 x2 x3 x4 X_arg9 X_arg10 X_arg11 X_arg12 X_arg13 X_arg14 X_arg15 X_arg16 X_arg17 X_arg18 X_arg19 X_arg20 X_arg21 X_arg22) X_arg21 X_arg22 f8 X_arg23 X_arg24 X_arg25 X_arg26 X_arg27 X_arg28 K)
  isplitl [H1]; · iexact H1
  isplitl [H4]; · iexact H4
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [HO]; · iexact HO
  isplitl [S23]; · iexact S23
  isplitl [S24]; · iexact S24
  isplitl [S25]; · iexact S25
  isplitl [S26]; · iexact S26
  isplitl [S27]; · iexact S27
  isplitl [S28]; · iexact S28
  iintro ⟨H1, H4, S15, S16, S17, S18, S19, S20, S21, S22, HO, ⟨%e23, S23⟩, ⟨%e24, S24⟩, ⟨%e25, S25⟩, ⟨%e26, S26⟩, ⟨%e27, S27⟩, ⟨%e28, S28⟩⟩
  iapply Hk
  unfold after owns
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [HO]; · iexact HO
  isplitl [S16]; · iexact S16
  isplitl [S17]; · iexact S17
  isplitl [S19]; · iexact S19
  isplitl [S20]; · iexact S20
  isplitl [S21]; · iexact S21
  isplitl [S22]; · iexact S22
  isplitl [S9]; · iexists _; iexact S9
  isplitl [S10]; · iexists _; iexact S10
  isplitl [S11]; · iexists _; iexact S11
  isplitl [S12]; · iexists _; iexact S12
  isplitl [S13]; · iexists _; iexact S13
  isplitl [S14]; · iexists _; iexact S14
  isplitl [S15]; · iexists _; iexact S15
  isplitl [S18]; · iexists _; iexact S18
  isplitl [S23]; · iexists _; iexact S23
  isplitl [S24]; · iexists _; iexact S24
  isplitl [S25]; · iexists _; iexact S25
  isplitl [S26]; · iexists _; iexact S26
  isplitl [S27]; · iexists _; iexact S27
  iexists _; iexact S28

end Cert.AttnIdeal.Body

end
-- ==== Proof.AttnBody.lean ====
module

public import proofs.«01_k».proof.Proof.AttnRun

/-! The attention body on the first tile of a sequence and on a later one: what it leaves in every buffer. -/

@[expose] public section

set_option maxRecDepth 16384
set_option maxHeartbeats 4000000

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen Cert.AttnIdeal.Loops

variable {F : FTy → Type} [FloatOps F]

local notation "𝕄" => MT nD τ sig Unit (Elt F) ℕ (UR sig nD τ) ℕ

variable (c : Dev nD) (i : grid0.Coords)
variable (arg3 : Memref sig .tc .smem S16 .f32) (harg3 : arg3.IsWhole)
variable (arg4 : Memref sig .tc .vmem S2048x128 .bf16) (harg4 : arg4.IsWhole)
variable (arg5 : Memref sig .tc .vmem S2048x128 .bf16) (harg5 : arg5.IsWhole)
variable (arg6 : Memref sig .tc .vmem S2048x128 .bf16) (harg6 : arg6.IsWhole)
variable (arg7 : Memref sig .tc .vmem S2048x128 .bf16) (harg7 : arg7.IsWhole)
variable (arg8 : Memref sig .tc .vmem S2048x128 .bf16) (harg8 : arg8.IsWhole)
variable (arg9 : Memref sig .tc .vmem S2048x128 .f32) (harg9 : arg9.IsWhole)
variable (arg10 : Memref sig .tc .vmem S2048x128 .f32) (harg10 : arg10.IsWhole)
variable (arg11 : Memref sig .tc .vmem S2048x128 .f32) (harg11 : arg11.IsWhole)
variable (arg12 : Memref sig .tc .vmem S4x512x128 .f32) (harg12 : arg12.IsWhole)
variable (arg13 : Memref sig .tc .vmem S4x512x128 .f32) (harg13 : arg13.IsWhole)
variable (arg14 : Memref sig .tc .vmem S4x512x128 .f32) (harg14 : arg14.IsWhole)
variable (arg15 : Memref sig .tc .vmem S4x512x128 .bf16) (harg15 : arg15.IsWhole)
variable (arg16 : Memref sig .tc .vmem S4x640x128 .bf16) (harg16 : arg16.IsWhole)
variable (arg17 : Memref sig .tc .vmem S4x640x128 .bf16) (harg17 : arg17.IsWhole)
variable (arg18 : Memref sig .tc .vmem S16x128x128 .bf16) (harg18 : arg18.IsWhole)
variable (arg19 : Memref sig .tc .vmem S16x256x128 .bf16) (harg19 : arg19.IsWhole)
variable (arg20 : Memref sig .tc .vmem S16x256x128 .bf16) (harg20 : arg20.IsWhole)
variable (arg21 : Memref sig .tc .vmem S2176x128 .bf16) (harg21 : arg21.IsWhole)
variable (arg22 : Memref sig .tc .vmem S2176x128 .bf16) (harg22 : arg22.IsWhole)
variable (arg23 : Memref sig .tc .vmem S2048x128 .f32) (harg23 : arg23.IsWhole)
variable (arg24 : Memref sig .tc .vmem S2048x128 .f32) (harg24 : arg24.IsWhole)
variable (arg25 : Memref sig .tc .vmem S2048x128 .f32) (harg25 : arg25.IsWhole)
variable (arg26 : Memref sig .tc .vmem S2048x128 .f32) (harg26 : arg26.IsWhole)
variable (arg27 : Memref sig .tc .vmem S2048x128 .f32) (harg27 : arg27.IsWhole)
variable (arg28 : Memref sig .tc .vmem S2048x128 .f32) (harg28 : arg28.IsWhole)

/-- The contents of buffer arg9 after the first stage. -/
def first9 (hc0 : cond0 i) (hc1 : ¬cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg9.view.ty := arg9.view.writes (Elt F) X_arg9 (startA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).1

/-- The contents of buffer arg10 after the first stage. -/
def first10 (hc0 : cond0 i) (hc1 : ¬cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg10.view.ty := arg10.view.writes (Elt F) X_arg10 (startA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.1

/-- The contents of buffer arg16 after the first stage. -/
def first16 (hc0 : cond0 i) (hc1 : ¬cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg16.view.ty := arg16.view.writes (Elt F) X_arg16 (startA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.1

/-- The contents of buffer arg17 after the first stage. -/
def first17 (hc0 : cond0 i) (hc1 : ¬cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg17.view.ty := arg17.view.writes (Elt F) X_arg17 (startA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.1

/-- The contents of buffer arg19 after the first stage. -/
def first19 (hc0 : cond0 i) (hc1 : ¬cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg19.view.ty := arg19.view.writes (Elt F) X_arg19 (startA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.1

/-- The contents of buffer arg20 after the first stage. -/
def first20 (hc0 : cond0 i) (hc1 : ¬cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg20.view.ty := arg20.view.writes (Elt F) X_arg20 (startA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.1

/-- The contents of buffer arg21 after the first stage. -/
def first21 (hc0 : cond0 i) (hc1 : ¬cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg21.view.ty := arg21.view.writes (Elt F) X_arg21 (startA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.1

/-- The contents of buffer arg22 after the first stage. -/
def first22 (hc0 : cond0 i) (hc1 : ¬cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg22.view.ty := arg22.view.writes (Elt F) X_arg22 (startA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.2.2.2.1

set_option maxHeartbeats 16000000 in
theorem first_run (hc0 : cond0 i) (hc1 : ¬cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (f8 : BufTy.Contents (Elt F) arg8.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg8.view.loc (c : Thread nD τ) ↦[arg8.view.set]{fullShare} f8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27) ∗ (arg28.view.loc (c : Thread nD τ) ↦[arg28.view.set]{fullShare} X_arg28) ∗ ((after c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 (i 2).val) (startA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.2.1 (startA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.2.2.1 x0 x1 x2 x3 x4 (first9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (first10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) X_arg11 X_arg12 X_arg13 X_arg14 X_arg15 (first16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (first17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) X_arg18 (first19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (first20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (first21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (first22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) f8 X_arg23 X_arg24 X_arg25 X_arg26 X_arg27 X_arg28) -∗ K ⟨⟩))
      ⊢ wp frame (wpE (defs₀ (F := F)) Variants.none c none) Set.univ (cc0_dilated_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  rw [body_eq]
  iintro ⟨H0, H1, H2, H3, H4, HO, S9, S10, S11, S12, S13, S14, S15, S16, S17, S18, S19, S20, S21, S22, S23, S24, S25, S26, S27, S28, Hk⟩
  iapply ((startA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.2.2.2.2 Set.univ K (fun arg2 v1 v27 => second i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27))
  isplitl [H0]; · iexact H0
  isplitl [H1]; · iexact H1
  isplitl [H2]; · iexact H2
  isplitl [H3]; · iexact H3
  isplitl [H4]; · iexact H4
  isplitl [S9]; · iexact S9
  isplitl [S10]; · iexact S10
  isplitl [S16]; · iexact S16
  isplitl [S17]; · iexact S17
  isplitl [S19]; · iexact S19
  isplitl [S20]; · iexact S20
  isplitl [S21]; · iexact S21
  isplitl [S22]; · iexact S22
  iintro ⟨H0, H1, H2, H3, H4, S9, S10, S16, S17, S19, S20, S21, S22⟩
  beta_reduce
  iapply (second_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 (i 2).val) (startA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.2.1 (startA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.2.2.1 x0 x1 x2 x3 x4 (first9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (first10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) X_arg11 X_arg12 X_arg13 X_arg14 X_arg15 (first16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (first17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) X_arg18 (first19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (first20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (first21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (first22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) f8 X_arg23 X_arg24 X_arg25 X_arg26 X_arg27 X_arg28 K)
  isplitl [H0]; · iexact H0
  isplitl [H1]; · iexact H1
  isplitl [H2]; · iexact H2
  isplitl [H3]; · iexact H3
  isplitl [H4]; · iexact H4
  isplitl [HO]; · iexact HO
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  iexact Hk

/-- The contents of buffer arg9 after the first stage. -/
def next9 (hc0 : ¬cond0 i) (hc1 : cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg9.view.ty := arg9.view.writes (Elt F) X_arg9 (startB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).1

/-- The contents of buffer arg10 after the first stage. -/
def next10 (hc0 : ¬cond0 i) (hc1 : cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg10.view.ty := arg10.view.writes (Elt F) X_arg10 (startB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.1

/-- The contents of buffer arg16 after the first stage. -/
def next16 (hc0 : ¬cond0 i) (hc1 : cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg16.view.ty := arg16.view.writes (Elt F) X_arg16 (startB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.1

/-- The contents of buffer arg17 after the first stage. -/
def next17 (hc0 : ¬cond0 i) (hc1 : cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg17.view.ty := arg17.view.writes (Elt F) X_arg17 (startB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.1

/-- The contents of buffer arg19 after the first stage. -/
def next19 (hc0 : ¬cond0 i) (hc1 : cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg19.view.ty := arg19.view.writes (Elt F) X_arg19 (startB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.1

/-- The contents of buffer arg20 after the first stage. -/
def next20 (hc0 : ¬cond0 i) (hc1 : cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg20.view.ty := arg20.view.writes (Elt F) X_arg20 (startB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.1

/-- The contents of buffer arg21 after the first stage. -/
def next21 (hc0 : ¬cond0 i) (hc1 : cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg21.view.ty := arg21.view.writes (Elt F) X_arg21 (startB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.1

/-- The contents of buffer arg22 after the first stage. -/
def next22 (hc0 : ¬cond0 i) (hc1 : cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg16 : BufTy.Contents (Elt F) arg16.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) : BufTy.Contents (Elt F) arg22.view.ty := arg22.view.writes (Elt F) X_arg22 (startB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.2.2.2.1

set_option maxHeartbeats 16000000 in
theorem next_run (hc0 : ¬cond0 i) (hc1 : cond1 i) (x0 : Vec F S16 .f32) (x1 : Vec F S2048x128 .bf16) (x2 : Vec F S2048x128 .bf16) (x3 : Vec F S2048x128 .bf16) (x4 : Vec F S2048x128 .bf16) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (f8 : BufTy.Contents (Elt F) arg8.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg8.view.loc (c : Thread nD τ) ↦[arg8.view.set]{fullShare} f8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27) ∗ (arg28.view.loc (c : Thread nD τ) ↦[arg28.view.set]{fullShare} X_arg28) ∗ ((after c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 (i 2).val) (startB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.2.1 (startB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.2.2.1 x0 x1 x2 x3 x4 (next9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (next10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) X_arg11 X_arg12 X_arg13 X_arg14 X_arg15 (next16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (next17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) X_arg18 (next19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (next20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (next21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (next22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) f8 X_arg23 X_arg24 X_arg25 X_arg26 X_arg27 X_arg28) -∗ K ⟨⟩))
      ⊢ wp frame (wpE (defs₀ (F := F)) Variants.none c none) Set.univ (cc0_dilated_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  rw [body_eq]
  iintro ⟨H0, H1, H2, H3, H4, HO, S9, S10, S11, S12, S13, S14, S15, S16, S17, S18, S19, S20, S21, S22, S23, S24, S25, S26, S27, S28, Hk⟩
  iapply ((startB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.2.2.2.2 Set.univ K (fun arg2 v1 v27 => second i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v1 v27))
  isplitl [H0]; · iexact H0
  isplitl [H1]; · iexact H1
  isplitl [H2]; · iexact H2
  isplitl [H3]; · iexact H3
  isplitl [H4]; · iexact H4
  isplitl [S9]; · iexact S9
  isplitl [S10]; · iexact S10
  isplitl [S16]; · iexact S16
  isplitl [S17]; · iexact S17
  isplitl [S19]; · iexact S19
  isplitl [S20]; · iexact S20
  isplitl [S21]; · iexact S21
  isplitl [S22]; · iexact S22
  iintro ⟨H0, H1, H2, H3, H4, S9, S10, S16, S17, S19, S20, S21, S22⟩
  beta_reduce
  iapply (second_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 (i 2).val) (startB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.2.1 (startB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22).2.2.2.2.2.2.2.2.1 x0 x1 x2 x3 x4 (next9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (next10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) X_arg11 X_arg12 X_arg13 X_arg14 X_arg15 (next16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (next17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) X_arg18 (next19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (next20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (next21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) (next22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 X_arg9 X_arg10 X_arg16 X_arg17 X_arg19 X_arg20 X_arg21 X_arg22) f8 X_arg23 X_arg24 X_arg25 X_arg26 X_arg27 X_arg28 K)
  isplitl [H0]; · iexact H0
  isplitl [H1]; · iexact H1
  isplitl [H2]; · iexact H2
  isplitl [H3]; · iexact H3
  isplitl [H4]; · iexact H4
  isplitl [HO]; · iexact HO
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  iexact Hk

set_option maxHeartbeats 16000000 in
/-- Whatever the buffers held, the body runs and gives them back. -/
theorem any_run (h : (cond0 i ∧ ¬cond1 i) ∨ (¬cond0 i ∧ cond1 i)) (x0 : Vec F S16 .f32) (x1 : Vec F S2048x128 .bf16) (x2 : Vec F S2048x128 .bf16) (x3 : Vec F S2048x128 .bf16) (x4 : Vec F S2048x128 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f))) -∗ K ⟨⟩))
      ⊢ wp frame (wpE (defs₀ (F := F)) Variants.none c none) Set.univ (cc0_dilated_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  iintro ⟨H0, H1, H2, H3, H4, ⟨%g8, HO⟩, ⟨%g9, S9⟩, ⟨%g10, S10⟩, ⟨%g11, S11⟩, ⟨%g12, S12⟩, ⟨%g13, S13⟩, ⟨%g14, S14⟩, ⟨%g15, S15⟩, ⟨%g16, S16⟩, ⟨%g17, S17⟩, ⟨%g18, S18⟩, ⟨%g19, S19⟩, ⟨%g20, S20⟩, ⟨%g21, S21⟩, ⟨%g22, S22⟩, ⟨%g23, S23⟩, ⟨%g24, S24⟩, ⟨%g25, S25⟩, ⟨%g26, S26⟩, ⟨%g27, S27⟩, ⟨%g28, S28⟩, Hk⟩
  rcases h with ⟨h0, h1⟩ | ⟨h0, h1⟩
  · iapply (first_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h0 h1 x0 x1 x2 x3 x4 g9 g10 g11 g12 g13 g14 g15 g16 g17 g18 g19 g20 g21 g22 g8 g23 g24 g25 g26 g27 g28 K)
    isplitl [H0]; · iexact H0
    isplitl [H1]; · iexact H1
    isplitl [H2]; · iexact H2
    isplitl [H3]; · iexact H3
    isplitl [H4]; · iexact H4
    isplitl [HO]; · iexact HO
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    iintro ⟨H0, H1, H2, H3, H4, HO, S16, S17, S19, S20, S21, S22, S9, S10, S11, S12, S13, S14, S15, S18, S23, S24, S25, S26, S27, S28⟩
    iapply Hk
    isplitl [H0]; · iexact H0
    isplitl [H1]; · iexact H1
    isplitl [H2]; · iexact H2
    isplitl [H3]; · iexact H3
    isplitl [H4]; · iexact H4
    isplitl [HO]; · iexists _; iexact HO
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexists _; iexact S16
    isplitl [S17]; · iexists _; iexact S17
    isplitl [S18]; · iexact S18
    isplitl [S19]; · iexists _; iexact S19
    isplitl [S20]; · iexists _; iexact S20
    isplitl [S21]; · iexists _; iexact S21
    isplitl [S22]; · iexists _; iexact S22
    isplitl [S23]; · iexact S23
    isplitl [S24]; · iexact S24
    isplitl [S25]; · iexact S25
    isplitl [S26]; · iexact S26
    isplitl [S27]; · iexact S27
    iexact S28
  · iapply (next_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h0 h1 x0 x1 x2 x3 x4 g9 g10 g11 g12 g13 g14 g15 g16 g17 g18 g19 g20 g21 g22 g8 g23 g24 g25 g26 g27 g28 K)
    isplitl [H0]; · iexact H0
    isplitl [H1]; · iexact H1
    isplitl [H2]; · iexact H2
    isplitl [H3]; · iexact H3
    isplitl [H4]; · iexact H4
    isplitl [HO]; · iexact HO
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    iintro ⟨H0, H1, H2, H3, H4, HO, S16, S17, S19, S20, S21, S22, S9, S10, S11, S12, S13, S14, S15, S18, S23, S24, S25, S26, S27, S28⟩
    iapply Hk
    isplitl [H0]; · iexact H0
    isplitl [H1]; · iexact H1
    isplitl [H2]; · iexact H2
    isplitl [H3]; · iexact H3
    isplitl [H4]; · iexact H4
    isplitl [HO]; · iexists _; iexact HO
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexists _; iexact S16
    isplitl [S17]; · iexists _; iexact S17
    isplitl [S18]; · iexact S18
    isplitl [S19]; · iexists _; iexact S19
    isplitl [S20]; · iexists _; iexact S20
    isplitl [S21]; · iexists _; iexact S21
    isplitl [S22]; · iexists _; iexact S22
    isplitl [S23]; · iexact S23
    isplitl [S24]; · iexact S24
    isplitl [S25]; · iexact S25
    isplitl [S26]; · iexact S26
    isplitl [S27]; · iexact S27
    iexact S28

end Cert.AttnIdeal.Body

end
-- ==== Proof.AttnFrame.lean ====
module

public import proofs.«01_k».proof.Proof.AttnBody

/-! The attention call runs from any memory and leaves its arguments unchanged. -/

@[expose] public section

set_option maxRecDepth 16384
set_option maxHeartbeats 4000000

noncomputable section

namespace Cert.AttnIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen Cert.AttnIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem raw_of_owns (c : Dev nD) {sp : Space} {s : Shape} {e : EltTy} (M : Memref sig .tc sp s e) (X) :
    (owns (c : Thread nD τ) M fullShare X : sProp 𝕄) ⊢ iprop(∃ f, M.view.loc (c : Thread nD τ) ↦[M.view.set]{fullShare} f) := by
  unfold owns
  iintro ⟨%f, %hf, H⟩
  iexists f; iexact H

theorem owns_of_raw (c : Dev nD) {sp : Space} {s : Shape} {e : EltTy} (M : Memref sig .tc sp s e) :
    (iprop(∃ f, M.view.loc (c : Thread nD τ) ↦[M.view.set]{fullShare} f) : sProp 𝕄) ⊢ iprop(∃ X, owns (c : Thread nD τ) M fullShare X) := by
  unfold owns
  iintro ⟨%f, H⟩
  iexists _; iexists f
  isplitr
  · ipureintro; rfl
  iexact H

/-- The call's scratch buffers, each at some contents, and the generator register. -/
theorem scratch_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch16) fullShare d) ∗ (∃ d, owns (c : Thread nD τ) (Memref.whole cc0_scratch17) fullShare d) ∗ (∃ d, owns (c : Thread nD τ) (Memref.whole cc0_scratch18) fullShare d) ∗ (∃ d, owns (c : Thread nD τ) (Memref.whole cc0_scratch19) fullShare d)) ∗ (∃ r, prngReg c r)) := by
  unfold Pipeline.ΦA; rw [scopedRest0_eq]; simp only [owns_whole]; try rfl

/-- A tile is the first of its sequence or a later one. -/
theorem conds : ∀ t : Fin grid0.N, (cond0 (grid0.coords t) ∧ ¬cond1 (grid0.coords t)) ∨ (¬cond0 (grid0.coords t) ∧ cond1 (grid0.coords t)) := by
  decide +kernel

/-- The output's contents are not named here. -/
def forget : Fin cfg0.W → Bool := ![false, false, false, false, false, true]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d

set_option maxHeartbeats 16000000 in
theorem sound_body (c : Dev nD) (t : Fin cfg0.N) :
    iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ X, owns (c : Thread nD τ) (win0_5.stage (cfg0.slots t 5)) fullShare X))
      ⊢ wp frame (wpE (defs₀ (F := F)) Variants.none c none) Set.univ (bodyAt0 t) (fun _ =>
        iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ (∃ X, owns (c : Thread nD τ) (win0_5.stage (cfg0.slots t 5)) fullShare X))) := by
  simp only [before_0, before_1, before_2, before_3, before_4, after_0, after_1, after_2, after_3, after_4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, scratch_eq]
  iintro ⟨⟨⟨⟨%d0, S0⟩, ⟨%d1, S1⟩, ⟨%d2, S2⟩, ⟨%d3, S3⟩, ⟨%d4, S4⟩, ⟨%d5, S5⟩, ⟨%d6, S6⟩, ⟨%d7, S7⟩, ⟨%d8, S8⟩, ⟨%d9, S9⟩, ⟨%d10, S10⟩, ⟨%d11, S11⟩, ⟨%d12, S12⟩, ⟨%d13, S13⟩, ⟨%d14, S14⟩, ⟨%d15, S15⟩, ⟨%d16, S16⟩, ⟨%d17, S17⟩, ⟨%d18, S18⟩, ⟨%d19, S19⟩⟩, Hg⟩, Ho, ⟨%e0, H0⟩, ⟨%e1, H1⟩, ⟨%e2, H2⟩, ⟨%e3, H3⟩, ⟨%e4, H4⟩, ⟨%e5, HO⟩⟩
  iapply (any_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (conds t) (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [HO]; · iapply (raw_of_owns c _ _); iexact HO
  isplitl [S0]; · iapply (raw_of_owns c _ _); iexact S0
  isplitl [S1]; · iapply (raw_of_owns c _ _); iexact S1
  isplitl [S2]; · iapply (raw_of_owns c _ _); iexact S2
  isplitl [S3]; · iapply (raw_of_owns c _ _); iexact S3
  isplitl [S4]; · iapply (raw_of_owns c _ _); iexact S4
  isplitl [S5]; · iapply (raw_of_owns c _ _); iexact S5
  isplitl [S6]; · iapply (raw_of_owns c _ _); iexact S6
  isplitl [S7]; · iapply (raw_of_owns c _ _); iexact S7
  isplitl [S8]; · iapply (raw_of_owns c _ _); iexact S8
  isplitl [S9]; · iapply (raw_of_owns c _ _); iexact S9
  isplitl [S10]; · iapply (raw_of_owns c _ _); iexact S10
  isplitl [S11]; · iapply (raw_of_owns c _ _); iexact S11
  isplitl [S12]; · iapply (raw_of_owns c _ _); iexact S12
  isplitl [S13]; · iapply (raw_of_owns c _ _); iexact S13
  isplitl [S14]; · iapply (raw_of_owns c _ _); iexact S14
  isplitl [S15]; · iapply (raw_of_owns c _ _); iexact S15
  isplitl [S16]; · iapply (raw_of_owns c _ _); iexact S16
  isplitl [S17]; · iapply (raw_of_owns c _ _); iexact S17
  isplitl [S18]; · iapply (raw_of_owns c _ _); iexact S18
  isplitl [S19]; · iapply (raw_of_owns c _ _); iexact S19
  iintro ⟨H0, H1, H2, H3, H4, HO, S0, S1, S2, S3, S4, S5, S6, S7, S8, S9, S10, S11, S12, S13, S14, S15, S16, S17, S18, S19⟩
  isplitl [S0 S1 S2 S3 S4 S5 S6 S7 S8 S9 S10 S11 S12 S13 S14 S15 S16 S17 S18 S19 Hg]
  · isplitr [Hg]
    swap; · iexact Hg
    isplitl [S0]; · iapply (owns_of_raw c _); iexact S0
    isplitl [S1]; · iapply (owns_of_raw c _); iexact S1
    isplitl [S2]; · iapply (owns_of_raw c _); iexact S2
    isplitl [S3]; · iapply (owns_of_raw c _); iexact S3
    isplitl [S4]; · iapply (owns_of_raw c _); iexact S4
    isplitl [S5]; · iapply (owns_of_raw c _); iexact S5
    isplitl [S6]; · iapply (owns_of_raw c _); iexact S6
    isplitl [S7]; · iapply (owns_of_raw c _); iexact S7
    isplitl [S8]; · iapply (owns_of_raw c _); iexact S8
    isplitl [S9]; · iapply (owns_of_raw c _); iexact S9
    isplitl [S10]; · iapply (owns_of_raw c _); iexact S10
    isplitl [S11]; · iapply (owns_of_raw c _); iexact S11
    isplitl [S12]; · iapply (owns_of_raw c _); iexact S12
    isplitl [S13]; · iapply (owns_of_raw c _); iexact S13
    isplitl [S14]; · iapply (owns_of_raw c _); iexact S14
    isplitl [S15]; · iapply (owns_of_raw c _); iexact S15
    isplitl [S16]; · iapply (owns_of_raw c _); iexact S16
    isplitl [S17]; · iapply (owns_of_raw c _); iexact S17
    isplitl [S18]; · iapply (owns_of_raw c _); iexact S18
    iapply (owns_of_raw c _); iexact S19
  isplitl [Ho]; · iexact Ho
  isplitl [H0]; · iexact H0
  isplitl [H1]; · iexact H1
  isplitl [H2]; · iexact H2
  isplitl [H3]; · iexact H3
  isplitl [H4]; · iexact H4
  iapply (owns_of_raw c _); iexact HO

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ forget := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r =>
    (Pipeline.RDat.FramePost cfg0 (fun c => (dats m 0 c).toRForget forget) (V m)) r ∧ r.2.sem = fun _ => 0) :=
  Pipeline.θ_run_frame_forget_shared (Q' := _) cfgs (dats m) (0 : Fin 1) launch₀0 defs₀ Variants.none forget m ρ main
    (hbody := body_obligation m) (hq := fun _ _ _ => rfl) (howed := fun _ _ => rfl) (V := V m)
    (hmain := hmain m Variants.none) (hA := A_eq m) (hΦ := fun _ _ => rfl)

/-- The call runs, its arguments end unchanged, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1.arr_in c 4 rfl).trans ((A_eq m c 4).trans (V_main_arg0 m c)),
      (h.1.arr_in c 0 rfl).trans ((A_eq m c 0).trans (V_main_arg1 m c))⟩, h.2⟩) (run_main m ρ)

end Cert.AttnIdeal.Frame

end
-- ==== Proof.AttnMath.lean ====
/-
  Softmax over a masked row of real scores, and the mixture of three of them, over the extended reals.

  A row of scores is a real number at the positions its mask keeps and minus infinity elsewhere. The kernel divides the
  weighted sum by the row's total and the reference divides each weight; both leave the quotient of the same two sums of
  exponentials. The mixture by the rows' log-totals is then one quotient of the patterns' sums added up.
-/
module

public import Idealize.ShloMosaic.Lib.Pointwise
public import Idealize.ShloMosaic.Lib.Claim

@[expose] public section

noncomputable section

open Idealize.ShloMosaic

namespace Cert.AttnIdeal.Softmax

/-- A row of scores: real where the mask keeps it, minus infinity elsewhere. -/
def row {ι : Type} (P : ι → Prop) [DecidablePred P] (r : ι → ℝ) (k : ι) : EReal := if P k then ((r k : ℝ) : EReal) else ⊥

/-- The row's total of exponentials over the kept positions. -/
def total {ι : Type} [Fintype ι] (P : ι → Prop) [DecidablePred P] (r : ι → ℝ) : ℝ := ∑ k, if P k then Real.exp (r k) else 0

/-- The same sum weighted by values. -/
def weighted {ι : Type} [Fintype ι] (P : ι → Prop) [DecidablePred P] (r v : ι → ℝ) : ℝ :=
  ∑ k, if P k then Real.exp (r k) * v k else 0

theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

variable {ι : Type} [Fintype ι] (P : ι → Prop) [DecidablePred P] (r v : ι → ℝ)

theorem total_pos (h : ∃ k, P k) : 0 < total P r := by
  obtain ⟨k, hk⟩ := h
  refine Finset.sum_pos' (fun i _ => ?_) ⟨k, Finset.mem_univ _, ?_⟩
  · split
    · exact (Real.exp_pos _).le
    · exact le_refl _
  · rw [if_pos hk]; exact Real.exp_pos _

/-- The row's maximum is real as soon as the mask keeps a position. -/
theorem fold_max_real (h : ∃ k, P k) : ∃ M : ℝ, (Finset.univ : Finset ι).fold max (⊥ : EReal) (row P r) = (M : EReal) := by
  obtain ⟨k, hk⟩ := h
  have hne : (Finset.univ : Finset ι).fold max (⊥ : EReal) (row P r) ≠ ⊥ := fun e => by
    have : row P r k ≤ ⊥ := by
      rw [← e]; exact (Finset.le_fold_max _).2 (Or.inr ⟨k, Finset.mem_univ _, le_refl _⟩)
    rw [row, if_pos hk] at this
    exact absurd (le_bot_iff.1 this) (EReal.coe_ne_bot _)
  have hlt : (Finset.univ : Finset ι).fold max (⊥ : EReal) (row P r) < ⊤ := by
    rw [Finset.fold_max_lt]
    refine ⟨bot_lt_top, fun i _ => ?_⟩
    rw [row]; split
    · exact EReal.coe_lt_top _
    · exact bot_lt_top
  exact ⟨EReal.toReal _, (EReal.coe_toReal hlt.ne hne).symm⟩

theorem exp_row_sub (k : ι) (M : ℝ) :
    Ideal.exp (row P r k - (M : EReal)) = (((if P k then Real.exp (r k) else 0) * Real.exp (-M) : ℝ) : EReal) := by
  rw [row]; split
  · rw [← EReal.coe_sub, Ideal.exp_coe, sub_eq_add_neg, Real.exp_add]
  · rw [EReal.bot_sub, Ideal.exp_bot, zero_mul, EReal.coe_zero]

theorem sum_exp (M : ℝ) : ∑ k, Ideal.exp (row P r k - (M : EReal)) = ((total P r * Real.exp (-M) : ℝ) : EReal) := by
  simp only [exp_row_sub]
  rw [← coe_sum, ← Finset.sum_mul]; rfl

theorem sum_exp_mul (M : ℝ) :
    ∑ k, Ideal.exp (row P r k - (M : EReal)) * ((v k : ℝ) : EReal) = ((weighted P r v * Real.exp (-M) : ℝ) : EReal) := by
  simp only [exp_row_sub, ← EReal.coe_mul]
  rw [← coe_sum, weighted, Finset.sum_mul]
  refine congrArg _ (Finset.sum_congr rfl fun k _ => ?_)
  split <;> ring

/-- The log-total, from any real shift. -/
theorem lse (h : ∃ k, P k) (M : ℝ) :
    (M : EReal) + Ideal.log ((total P r * Real.exp (-M) : ℝ) : EReal) = ((Real.log (total P r) : ℝ) : EReal) := by
  have hp := total_pos P r h
  rw [Ideal.log_coe, if_neg (not_le.2 (mul_pos hp (Real.exp_pos _))), ← EReal.coe_add,
    Real.log_mul hp.ne' (Real.exp_pos _).ne', Real.log_exp]
  congr 1; ring

/-- The kernel's quotient: the weighted sum times the total's reciprocal. -/
theorem quotient (h : ∃ k, P k) (M : ℝ) :
    ((weighted P r v * Real.exp (-M) : ℝ) : EReal) * Ideal.div ((1 : ℝ) : EReal) ((total P r * Real.exp (-M) : ℝ) : EReal)
      = ((weighted P r v / total P r : ℝ) : EReal) := by
  have hp := total_pos P r h
  have he := (Real.exp_pos (-M)).ne'
  rw [Ideal.div_coe (mul_ne_zero hp.ne' he), ← EReal.coe_mul, ← EReal.coe_mul]
  congr 1
  field_simp

/-- The reference's weights already carry the quotient. -/
theorem sum_normalized (h : ∃ k, P k) :
    ∑ k, ((v k : ℝ) : EReal) * Ideal.exp (row P r k - ((Real.log (total P r) : ℝ) : EReal))
      = ((weighted P r v / total P r : ℝ) : EReal) := by
  have hp := total_pos P r h
  simp only [mul_comm ((_ : ℝ) : EReal) (Ideal.exp _)]
  rw [sum_exp_mul, Real.exp_neg, Real.exp_log hp, div_eq_mul_inv]

/-- The mixture of three normalized rows by their log-totals, shifted by any real. -/
theorem mix3 (W N : Fin 3 → ℝ) (hW : ∀ p, 0 < W p) (M : ℝ) :
    (∑ p, Real.exp (Real.log (W p) - M) * (N p / W p)) / (∑ p, Real.exp (Real.log (W p) - M)) = (∑ p, N p) / ∑ p, W p := by
  have e : ∀ p, Real.exp (Real.log (W p) - M) = W p * Real.exp (-M) := fun p => by
    rw [sub_eq_add_neg, Real.exp_add, Real.exp_log (hW p)]
  have e' : ∀ p, W p * Real.exp (-M) * (N p / W p) = N p * Real.exp (-M) := fun p => by
    have := (hW p).ne'; field_simp
  simp only [e, e', ← Finset.sum_mul]
  exact mul_div_mul_right _ _ (Real.exp_pos _).ne'

theorem sum_pos3 (W : Fin 3 → ℝ) (hW : ∀ p, 0 < W p) (M : ℝ) : (0 : ℝ) < ∑ p, Real.exp (Real.log (W p) - M) :=
  Finset.sum_pos (fun p _ => Real.exp_pos _) ⟨0, Finset.mem_univ _⟩

/-- The kernel's mixture. -/
theorem merge (W N : Fin 3 → ℝ) (hW : ∀ p, 0 < W p) (M : ℝ) :
    (Ideal.exp (((Real.log (W 0) : ℝ) : EReal) - (M : EReal)) * ((N 0 / W 0 : ℝ) : EReal)
      + Ideal.exp (((Real.log (W 1) : ℝ) : EReal) - (M : EReal)) * ((N 1 / W 1 : ℝ) : EReal)
      + Ideal.exp (((Real.log (W 2) : ℝ) : EReal) - (M : EReal)) * ((N 2 / W 2 : ℝ) : EReal))
      * Ideal.div ((1 : ℝ) : EReal) (Ideal.exp (((Real.log (W 0) : ℝ) : EReal) - (M : EReal))
        + Ideal.exp (((Real.log (W 1) : ℝ) : EReal) - (M : EReal)) + Ideal.exp (((Real.log (W 2) : ℝ) : EReal) - (M : EReal)))
      = (((∑ p, N p) / ∑ p, W p : ℝ) : EReal) := by
  have h := mix3 W N hW M
  have hp := sum_pos3 W hW M
  rw [Fin.sum_univ_three] at hp
  rw [← h, Fin.sum_univ_three, Fin.sum_univ_three]
  simp only [← EReal.coe_sub, Ideal.exp_coe, ← EReal.coe_mul, ← EReal.coe_add]
  rw [Ideal.div_coe hp.ne', ← EReal.coe_mul, ← EReal.coe_mul]
  congr 1; ring

/-- The reference's mixture: each pattern's share, times its row, added up. -/
theorem mixture (W N : Fin 3 → ℝ) (hW : ∀ p, 0 < W p) (M : ℝ) :
    ∑ p, Ideal.div (Ideal.exp (((Real.log (W p) : ℝ) : EReal) - (M : EReal)))
        (∑ p, Ideal.exp (((Real.log (W p) : ℝ) : EReal) - (M : EReal))) * ((N p / W p : ℝ) : EReal)
      = (((∑ p, N p) / ∑ p, W p : ℝ) : EReal) := by
  have hp := sum_pos3 W hW M
  rw [← mix3 W N hW M]
  simp only [← EReal.coe_sub, Ideal.exp_coe, ← coe_sum, Ideal.div_coe hp.ne', ← EReal.coe_mul]
  congr 1
  rw [Finset.sum_div]
  exact Finset.sum_congr rfl fun p _ => by ring

end Cert.AttnIdeal.Softmax
-- ==== Proof.AttnSpec.lean ====
/-
  The attention in real arithmetic: per pattern the weights of the keys it keeps, and the mixture of the three patterns.

  The argument's entries are read by row and column numbers, so that the two programs' own index computations meet in
  plain arithmetic.
-/
module

public import proofs.«01_k».proof.Proof.AttnMath
public import Idealize.ShloMosaic.Lib.ValueIdx

@[expose] public section

noncomputable section

open Idealize.ShloMosaic

namespace Cert.AttnIdeal.Spec

open Cert.AttnIdeal.Softmax

/-- An entry of the projections, by row and column. -/
def at2 (x : (⟨2, ![16384, 12288]⟩ : Shape).Idx → EReal) (r c : ℕ) : ℝ :=
  if h : r < 16384 ∧ c < 12288 then (x (ix2 ⟨r, h.1⟩ ⟨c, h.2⟩)).toReal else 0

/-- A head's slope. -/
def at1 (x : (⟨1, ![16]⟩ : Shape).Idx → EReal) (h : ℕ) : ℝ :=
  if hh : h < 16 then (x (ix1 ⟨h, hh⟩)).toReal else 0

/-- Every entry is a real number. -/
def Real {s : Shape} (x : s.Idx → EReal) : Prop := ∀ i, x i ≠ ⊤ ∧ x i ≠ ⊥

theorem coe_at2 {x : (⟨2, ![16384, 12288]⟩ : Shape).Idx → EReal} (hx : Real x) (i : (⟨2, ![16384, 12288]⟩ : Shape).Idx) {r c : ℕ}
    (h0 : (i 0).val = r) (h1 : (i 1).val = c) : x i = ((at2 x r c : ℝ) : EReal) := by
  subst h0 h1
  have b0 : (i 0).val < 16384 := (i 0).isLt
  have b1 : (i 1).val < 12288 := (i 1).isLt
  have e : ix2 ⟨(i 0).val, b0⟩ ⟨(i 1).val, b1⟩ = i := by
    funext a; match a with | ⟨0, _⟩ => rfl | ⟨1, _⟩ => rfl
  rw [at2, dif_pos ⟨b0, b1⟩]
  refine (EReal.coe_toReal (hx i).1 (hx i).2).symm.trans (congrArg (fun j => ((x j).toReal : EReal)) e.symm)

theorem coe_at1 {x : (⟨1, ![16]⟩ : Shape).Idx → EReal} (hx : Real x) (i : (⟨1, ![16]⟩ : Shape).Idx) {r : ℕ}
    (h0 : (i 0).val = r) : x i = ((at1 x r : ℝ) : EReal) := by
  subst h0
  have b0 : (i 0).val < 16 := (i 0).isLt
  have e : ix1 ⟨(i 0).val, b0⟩ = i := by funext a; match a with | ⟨0, _⟩ => rfl
  rw [at1, dif_pos b0]
  refine (EReal.coe_toReal (hx i).1 (hx i).2).symm.trans (congrArg (fun j => ((x j).toReal : EReal)) e.symm)

/-- The scores' scale, the reciprocal square root of the head size as the two programs round it. -/
def scale : ℝ := (FloatOps.ofBits (F := Ideal) .f32 0x3DB504F3#32 : EReal).toReal

theorem coe_scale : (FloatOps.ofBits (F := Ideal) .f32 0x3DB504F3#32 : EReal) = ((scale : ℝ) : EReal) := by
  have h : ∃ r : ℝ, (FloatOps.ofBits (F := Ideal) .f32 0x3DB504F3#32 : EReal) = (r : EReal) := by
    show ∃ r : ℝ, Ideal.ofBits .f32 0x3DB504F3#32 = (r : EReal)
    simp only [Ideal.ofBits, Ideal.ieee]
    rw [if_neg (by decide), if_neg (by decide)]
    exact ⟨_, rfl⟩
  obtain ⟨r, hr⟩ := h
  rw [scale, hr, EReal.toReal_coe]

/-- The three patterns' strides. -/
def dil (p : Fin 3) : ℕ := match p with | 0 => 1 | 1 => 4 | 2 => 16

/-- Pattern `p` keeps key `s` for query `t`: not after it, within 128 strides, and a whole number of strides back. -/
def Keeps (p : Fin 3) (t s : ℕ) : Prop := s ≤ t ∧ t - s ≤ 128 * dil p ∧ (t - s) % dil p = 0

instance (p : Fin 3) (t : ℕ) : DecidablePred (Keeps p t) := fun s => by unfold Keeps; infer_instance

variable (X : ℕ → ℕ → ℝ) (Sl : ℕ → ℝ) (b h t : ℕ)

/-- The score of key `s` for query `t`, with the head's linear bias. -/
def score (s : ℕ) : ℝ :=
  (∑ e : Fin 128, X (b * 8192 + t) (h * 128 + e.val) * X (b * 8192 + s) (2048 + (h * 128 + e.val))) * scale
    + -(Sl h) * ((t : ℝ) - (s : ℝ))

/-- Pattern `p`'s total weight. -/
def W (p : Fin 3) : ℝ := total (fun s : Fin 8192 => Keeps p t s.val) fun s => score X Sl b h t s.val

/-- Pattern `p`'s weighted values at feature `e`. -/
def N (e : ℕ) (p : Fin 3) : ℝ :=
  weighted (fun s : Fin 8192 => Keeps p t s.val) (fun s => score X Sl b h t s.val)
    fun s => X (b * 8192 + s.val) (4096 + (h * 128 + e))

/-- The mixture of the three patterns. -/
def mixed (e : ℕ) : ℝ := (∑ p, N X Sl b h t e p) / ∑ p, W X Sl b h t p

theorem keeps_self (p : Fin 3) (t : ℕ) : Keeps p t t := ⟨le_refl _, by simp, by simp⟩

theorem W_pos (ht : t < 8192) (p : Fin 3) : 0 < W X Sl b h t p :=
  total_pos _ _ ⟨⟨t, ht⟩, keeps_self p t⟩

end Cert.AttnIdeal.Spec
-- ==== Proof.AttnUnit.lean ====
/-
  One block of a pattern: 128 queries against the 256 keys of its band, over the extended reals.

  The score block enters through its rows alone: each is real where the mask keeps a key and minus infinity elsewhere.
-/
module

public import proofs.«01_k».proof.Proof.Gen.AttnIdeal.Skeleton
public import proofs.«01_k».proof.Proof.AttnSpec
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.AttnIdeal.Unit

open Cert.AttnIdeal Cert.AttnIdeal.Gen Cert.AttnIdeal.Softmax

theorem negInf : (FloatOps.ofBits (F := Ideal) .f32 0xFF800000#32 : EReal) = ⊥ := by
  show Ideal.ofBits .f32 0xFF800000#32 = ⊥
  simp [Ideal.ofBits, Ideal.ieee]

theorem one : (FloatOps.ofBits (F := Ideal) .f32 0x3F800000#32 : EReal) = 1 := by
  show Ideal.ofBits .f32 0x3F800000#32 = 1
  simp [Ideal.ofBits, Ideal.ieee, -EReal.coe_mul]; norm_num

variable (S : FVec Ideal S128x256 .f32) (v : FVec Ideal S256x128 .bf16)
variable (P : Fin 256 → Prop) [DecidablePred P] (r V : Fin 256 → ℝ)

/-- A row's maximum is a real number. -/
theorem max_real (a : Fin 128) (hS : ∀ k, S (ix2 a k) = row P r k) (h : ∃ k, P k) :
    ∃ M : ℝ, ∀ i : S128x1.Idx, (i 0).val = a.val → k0_pay208 S i = ((M : ℝ) : EReal) := by
  obtain ⟨M, hM⟩ := fold_max_real P r h
  refine ⟨M, fun i hi => ?_⟩
  unfold k0_pay208
  refine (shapeCast_apply _ shapeCasts_S128_S128x1 i (ix1 a) ?_).trans ?_
  · rewrite [Shape.rowMajor_val_one, Shape.rowMajor_val_two]
    have h1 : (i 1).val < 1 := (i 1).isLt
    show a.val = (i 0).val * 1 + (i 1).val
    omega
  refine (Ideal.multiReduction_maximumf_single (φ := .f32) S 0xFF800000#32 reduces_S128x256_S128 (.inl rfl) rfl (ix1 a)).trans ?_
  rw [negInf, ← hM]
  refine congrArg (fun f => (Finset.univ : Finset (Fin 256)).fold max (⊥ : EReal) f) (funext fun k => ?_)
  refine Eq.trans ?_ (hS k)
  exact congrArg S (funext fun d => Fin.ext (by match d with | ⟨0, _⟩ => rfl | ⟨1, _⟩ => rfl))

theorem exps (a : Fin 128) (M : ℝ) (hM : ∀ i : S128x1.Idx, (i 0).val = a.val → k0_pay208 S i = ((M : ℝ) : EReal)) (k : Fin 256) :
    k0_pay209 S (ix2 a k) = Ideal.exp (S (ix2 a k) - (M : EReal)) := by
  unfold k0_pay209
  pointwise
  rw [hM _ rfl]

theorem sums (a : Fin 128) (M : ℝ) (hM : ∀ i : S128x1.Idx, (i 0).val = a.val → k0_pay208 S i = ((M : ℝ) : EReal))
    (hS : ∀ k, S (ix2 a k) = row P r k) (i : S128x1.Idx) (hi : (i 0).val = a.val) :
    k0_pay210 S i = ((total P r * Real.exp (-M) : ℝ) : EReal) := by
  unfold k0_pay210
  refine (shapeCast_apply _ shapeCasts_S128_S128x1 i (ix1 a) ?_).trans ?_
  · rewrite [Shape.rowMajor_val_one, Shape.rowMajor_val_two]
    have h1 : (i 1).val < 1 := (i 1).isLt
    show a.val = (i 0).val * 1 + (i 1).val
    omega
  refine (Ideal.multiReduction_add_single (φ := .f32) (k0_pay209 S) 0x00000000#32 reduces_S128x256_S128 (.inl rfl) rfl (ix1 a)).trans ?_
  rw [← sum_exp]
  refine Finset.sum_congr rfl fun k _ => ?_
  refine Eq.trans ?_ ((exps S a M hM k).trans (by rw [hS k]))
  exact congrArg (k0_pay209 S) (funext fun d => Fin.ext (by match d with | ⟨0, _⟩ => rfl | ⟨1, _⟩ => rfl))

theorem unitL (a : Fin 128) (e : Fin 128) (hS : ∀ k, S (ix2 a k) = row P r k) (h : ∃ k, P k) :
    k0_pay212 S (ix2 a e) = ((Real.log (total P r) : ℝ) : EReal) := by
  obtain ⟨M, hM⟩ := max_real S P r a hS h
  unfold k0_pay212
  pointwise
  rw [hM _ rfl, sums S P r a M hM hS _ rfl]
  exact lse P r h M

theorem unitO (a : Fin 128) (e : Fin 128) (hS : ∀ k, S (ix2 a k) = row P r k) (h : ∃ k, P k)
    (hV : ∀ k, v (ix2 k e) = ((V k : ℝ) : EReal)) :
    k0_pay211 v S (ix2 a e) = ((weighted P r V / total P r : ℝ) : EReal) := by
  obtain ⟨M, hM⟩ := max_real S P r a hS h
  unfold k0_pay211
  pointwise
  rw [sums S P r a M hM hS _ rfl]
  refine Eq.trans ?_ (quotient P r V h M)
  rw [← sum_exp_mul, EReal.coe_one]
  refine congrArg (· * _) (Finset.sum_congr rfl fun k _ => ?_)
  rw [exps S a M hM, hS, hV]

end Cert.AttnIdeal.Unit
-- ==== Proof.AttnBand.lean ====
/-
  The keys of a block, numbered by position in the sequence.

  The kernel takes the keys of a pattern's block from a buffer of 256 rows; the reference takes them from the whole
  sequence. Row `k` of the buffer is position `2048 j + d (128 n + k) + r - 128 d`.
-/
module

public import proofs.«01_k».proof.Proof.AttnSpec

@[expose] public section

noncomputable section

namespace Cert.AttnIdeal.Band

/-- The rows of the 256 a query `a` of the block keeps. -/
def Kept (first : Prop) (a k : ℕ) : Prop := k ≤ 128 + a ∧ a ≤ k ∧ (first → 128 ≤ k)

instance (first : Prop) [Decidable first] (a : ℕ) : DecidablePred (Kept first a) := fun k => by unfold Kept; infer_instance

/-- The position of row `k`. -/
def pos (d j n r k : ℕ) : ℕ := 2048 * j + d * (128 * n + k) + r - 128 * d

theorem kept_self (first : Prop) {a : ℕ} : Kept first a (128 + a) := ⟨le_refl _, by omega, fun _ => by omega⟩

theorem pos_self (d j n r a : ℕ) : pos d j n r (128 + a) = 2048 * j + d * (128 * n + a) + r := by
  unfold pos
  have : d * (128 * n + (128 + a)) = d * (128 * n + a) + 128 * d := by ring
  omega

variable {d j n a r : ℕ}

theorem pos_kept (hd : d = 1 ∨ d = 4 ∨ d = 16) (hj : j < 4) (hn : d * n < 16) (ha : a < 128) (hr : r < d) {k : ℕ}
    (hk : Kept (j = 0 ∧ n = 0) a k) :
    ∃ q ≤ 128, k + q = 128 + a ∧ pos d j n r k + d * q = 2048 * j + d * (128 * n + a) + r ∧ pos d j n r k < 8192 := by
  obtain ⟨h1, h2, h3⟩ := hk
  refine ⟨128 + a - k, by omega, by omega, ?_⟩
  obtain ⟨q, hq⟩ : ∃ q, q = 128 + a - k := ⟨_, rfl⟩
  rw [← hq]
  have hk' : k = 128 + a - q := by omega
  unfold pos
  by_cases hz : j = 0 ∧ n = 0
  · have := h3 hz
    obtain ⟨rfl, rfl⟩ := hz
    rcases hd with rfl | rfl | rfl <;> constructor <;> omega
  · rcases hd with rfl | rfl | rfl <;> constructor <;> omega

theorem row_of (hd : d = 1 ∨ d = 4 ∨ d = 16) (hn : d * n < 16) (ha : a < 128) (hr : r < d) {s : ℕ}
    (h1 : s ≤ 2048 * j + d * (128 * n + a) + r) (h2 : 2048 * j + d * (128 * n + a) + r - s ≤ 128 * d)
    (h3 : (2048 * j + d * (128 * n + a) + r - s) % d = 0) :
    ∃ q ≤ 128, 2048 * j + d * (128 * n + a) + r = s + d * q ∧ (2048 * j + d * (128 * n + a) + r - s) / d = q
      ∧ Kept (j = 0 ∧ n = 0) a (128 + a - q) ∧ pos d j n r (128 + a - q) = s := by
  obtain ⟨q, hq⟩ : d ∣ 2048 * j + d * (128 * n + a) + r - s := Nat.dvd_of_mod_eq_zero h3
  have hd0 : 0 < d := by omega
  rw [hq] at h2 ⊢
  have hq128 : q ≤ 128 := by
    rcases hd with rfl | rfl | rfl <;> omega
  refine ⟨q, hq128, by omega, Nat.mul_div_cancel_left _ hd0, ⟨by omega, by omega, ?_⟩, ?_⟩
  · rintro ⟨rfl, rfl⟩
    rcases hd with rfl | rfl | rfl <;> omega
  · unfold pos
    rcases hd with rfl | rfl | rfl <;> omega

theorem band (hd : d = 1 ∨ d = 4 ∨ d = 16) (hj : j < 4) (hn : d * n < 16) (ha : a < 128) (hr : r < d) (F : ℕ → ℝ) :
    (∑ k : Fin 256, if Kept (j = 0 ∧ n = 0) a k.val then F (pos d j n r k.val) else 0)
      = ∑ s : Fin 8192, if s.val ≤ 2048 * j + d * (128 * n + a) + r ∧ 2048 * j + d * (128 * n + a) + r - s.val ≤ 128 * d
          ∧ (2048 * j + d * (128 * n + a) + r - s.val) % d = 0 then F s.val else 0 := by
  rw [← Finset.sum_filter, ← Finset.sum_filter]
  have hd0 : 0 < d := by omega
  refine Finset.sum_nbij' (fun k => ⟨pos d j n r k.val % 8192, Nat.mod_lt _ (by norm_num)⟩)
    (fun s => ⟨(128 + a - (2048 * j + d * (128 * n + a) + r - s.val) / d) % 256, Nat.mod_lt _ (by norm_num)⟩) ?_ ?_ ?_ ?_ ?_
  · intro k hk
    simp only [Finset.mem_filter, Finset.mem_univ, true_and] at hk ⊢
    obtain ⟨q, hq, hkq, he, hp⟩ := pos_kept hd hj hn ha hr hk
    rw [Nat.mod_eq_of_lt hp, ← he, Nat.add_sub_cancel_left]
    exact ⟨by omega, by rw [mul_comm]; exact Nat.mul_le_mul_right _ hq, Nat.mul_mod_right _ _⟩
  · intro s hs
    simp only [Finset.mem_filter, Finset.mem_univ, true_and] at hs ⊢
    obtain ⟨q, hq, he, hdiv, hk, hp⟩ := row_of hd hn ha hr hs.1 hs.2.1 hs.2.2
    rw [hdiv, Nat.mod_eq_of_lt (by omega)]
    exact hk
  · intro k hk
    have hk2 := k.isLt
    simp only [Finset.mem_filter, Finset.mem_univ, true_and] at hk ⊢
    obtain ⟨q, hq, hkq, he, hp⟩ := pos_kept hd hj hn ha hr hk
    apply Fin.ext
    show (128 + a - (2048 * j + d * (128 * n + a) + r - pos d j n r k.val % 8192) / d) % 256 = k.val
    rw [Nat.mod_eq_of_lt hp, ← he, Nat.add_sub_cancel_left, Nat.mul_div_cancel_left _ hd0]
    omega
  · intro s hs
    simp only [Finset.mem_filter, Finset.mem_univ, true_and] at hs ⊢
    obtain ⟨q, hq, he, hdiv, hk, hp⟩ := row_of hd hn ha hr hs.1 hs.2.1 hs.2.2
    apply Fin.ext
    show pos d j n r ((128 + a - (2048 * j + d * (128 * n + a) + r - s.val) / d) % 256) % 8192 = s.val
    rw [hdiv, Nat.mod_eq_of_lt (show 128 + a - q < 256 by omega), hp, Nat.mod_eq_of_lt s.isLt]
  · intro k hk
    simp only [Finset.mem_filter, Finset.mem_univ, true_and] at hk
    obtain ⟨q, hq, hkq, he, hp⟩ := pos_kept hd hj hn ha hr hk
    show F _ = F (pos d j n r k.val % 8192)
    rw [Nat.mod_eq_of_lt hp]

end Cert.AttnIdeal.Band
-- ==== Proof.AttnScore.lean ====
/-
  The scores of one block of the attention, in real arithmetic: the products of its queries and keys, scaled, plus the
  linear bias where the band keeps the pair and minus infinity elsewhere.
-/
module

public import proofs.«01_k».proof.Proof.AttnUnit
public import proofs.«01_k».proof.Proof.AttnBand
public import proofs.«01_k».proof.Proof.AttnSpec
public import Idealize.ShloMosaic.Lib.Pointwise
public import Idealize.ShloMosaic.Lib.KernelVsHost
public import Idealize.ShloMosaic.Lib.ValueLayout
public import Idealize.ShloMosaic.PureOps.Ideal.Laws

@[expose] public section

set_option maxRecDepth 16384

noncomputable section

open Idealize.ShloMosaic Idealize.ShloMosaic.TcCoe Idealize.SL.Sem

namespace Cert.AttnIdeal.Score

open Cert.AttnIdeal Cert.AttnIdeal.Gen Cert.AttnIdeal.Softmax Cert.AttnIdeal.Spec Cert.AttnIdeal.Band

/-- The distance between query `a` and key `k` of a block, as an integer. -/
theorem rel_toInt (a : Fin 128) (k : Fin 256) : (k0_pay201 (ix2 a k)).toInt = 128 + (a.val : ℤ) - k.val := by
  have ha := a.isLt
  have hk := k.isLt
  unfold k0_pay201
  pointwise
  simp only [IntOp.subi, IntOp.addi, BitVec.toInt_eq_toNat_bmod, BitVec.toNat_sub, BitVec.toNat_add, BitVec.toNat_ofNat, Int.bmod]
  omega

theorem valid (a : Fin 128) (k : Fin 256) : k0_pay202 (ix2 a k) = 1#1 ↔ Kept False a.val k.val := by
  have ha := a.isLt
  have hk := k.isLt
  have h := rel_toInt a k
  unfold k0_pay202
  pointwise
  rw [IntOp.andi_eq_one, IntOp.cmpi_sge, IntOp.cmpi_sle, h]
  have hz : (0#32 : BitVec 32).toInt = 0 := rfl
  have hz' : (128#32 : BitVec 32).toInt = 128 := rfl
  rw [hz, hz']
  unfold Kept
  constructor
  · rintro ⟨h1, h2⟩; exact ⟨by omega, by omega, fun h => h.elim⟩
  · rintro ⟨h1, h2, -⟩; exact ⟨by omega, by omega⟩

/-- In a sequence's first tile the keys of the block before are not kept. -/
theorem first_valid (j : Fin 4) (a : Fin 128) (k : Fin 256) :
    k0_pay204 (BitVec.ofNat 32 j.val) (ix2 a k) = 1#1 ↔ Kept (j.val = 0) a.val k.val := by
  have hk := k.isLt
  have hv := valid a k
  unfold k0_pay204
  pointwise
  rw [IntOp.andi_eq_one, hv, IntOp.cmpi_sge]
  have e : (IntOp.muli 128#32 (IntOp.subi 1#32 (IntOp.minsi (BitVec.ofNat 32 j.val) 1#32))).toInt = if j.val = 0 then 128 else 0 := by
    fin_cases j <;> rfl
  have e2 : (BitVec.ofNat 32 k.val).toInt = k.val := by
    simp only [BitVec.toInt_eq_toNat_bmod, BitVec.toNat_ofNat, Int.bmod]; omega
  have hk2 : ∀ h : k.val < 256, (BitVec.ofNat 32 k.val).toInt = k.val := fun _ => e2
  have e' := e
  simp only [Scalar.muli, Scalar.subi, Scalar.minsi] at e' ⊢
  rw [e', e2]
  unfold Kept
  by_cases hj : j.val = 0 <;> simp [hj] <;> omega

theorem rel_real (a : Fin 128) (k : Fin 256) : k0_pay203 (F := Ideal) (ix2 a k) = ((128 + (a.val : ℝ) - k.val : ℝ) : EReal) := by
  have h := rel_toInt a k
  unfold k0_pay203
  pointwise
  show (((k0_pay201 (ix2 a k)).toInt : ℝ) : EReal) = _
  rw [h]; push_cast; rfl

/-- The products of a block's queries with its keys. -/
theorem products (Q : FVec Ideal S128x128 .bf16) (K : FVec Ideal S256x128 .bf16) (a : Fin 128) (k : Fin 256) :
    matmul (F := Ideal) dot_S128x128_S256x128_S128x256_1_1_0_0_n_n none Q K (constant (F := Ideal) S128x256 .f32 0x00000000#32) (ix2 a k)
      = ∑ e : Fin 128, Q (ix2 a e) * K (ix2 k e) := by
  pointwise

variable (X : ℕ → ℕ → ℝ) (Sl : ℕ → ℝ) (b h : ℕ)

/-- Row `x` of a tile's keys (or values) with the tile before it in front: nothing precedes a sequence's first tile. -/
def Z (off j x e : ℕ) : ℝ := if j = 0 ∧ x < 2048 then 0 else X (b * 8192 + (2048 * j + x - 2048)) (off + (h * 128 + e))

variable {p : Fin 3} {j n r : ℕ} {a : Fin 128}

theorem strides (p : Fin 3) : dil p = 1 ∨ dil p = 4 ∨ dil p = 16 := by fin_cases p <;> simp [dil]

/-- A kept row lies in the sequence. -/
theorem Z_kept (off : ℕ) (hj : j < 4) (hn : dil p * n < 16) (hr : r < dil p) {k : ℕ} (hk : Kept (j = 0 ∧ n = 0) a.val k) (e : ℕ) :
    Z X b h off j (2048 + dil p * (128 * n + k) + r - 128 * dil p) e
      = X (b * 8192 + pos (dil p) j n r k) (off + (h * 128 + e)) := by
  obtain ⟨h1, h2, h3⟩ := hk
  have hm : j = 0 → 128 * dil p ≤ dil p * (128 * n + k) := by
    intro h0
    rcases Nat.eq_zero_or_pos n with hn0 | hn0
    · have := h3 ⟨h0, hn0⟩
      rw [mul_comm 128]; exact Nat.mul_le_mul_left _ (by omega)
    · rw [mul_comm 128]; exact Nat.mul_le_mul_left _ (by omega)
  have hd : 128 * dil p ≤ 2048 := by rcases strides p with e | e | e <;> omega
  unfold Z pos
  generalize dil p * (128 * n + k) = m at *
  generalize 128 * dil p = q at *
  rw [if_neg (by omega)]
  have e : 2048 * j + (2048 + m + r - q) - 2048 = 2048 * j + m + r - q := by
    rcases Nat.eq_zero_or_pos j with h0 | h0
    · have := hm h0; omega
    · omega
  rw [e]

variable (S M : FVec Ideal S128x256 .f32) (Q : FVec Ideal S128x128 .bf16) (K V : FVec Ideal S256x128 .bf16)

/-- A block's scores, from its queries, keys and bias. -/
theorem scores (hj : j < 4) (hn : dil p * n < 16) (hr : r < dil p)
    (hS : ∀ k : Fin 256, S (ix2 a k) = (∑ e : Fin 128, Q (ix2 a e) * K (ix2 k e)) * (FloatOps.ofBits (F := Ideal) .f32 0x3DB504F3#32 : EReal) + M (ix2 a k))
    (hM : ∀ k : Fin 256, M (ix2 a k) = if Kept (j = 0 ∧ n = 0) a.val k.val then
      (((128 + (a.val : ℝ) - k.val) * (0 - Sl h * dil p) : ℝ) : EReal) else ⊥)
    (hQ : ∀ e : Fin 128, Q (ix2 a e) = ((X (b * 8192 + (2048 * j + dil p * (128 * n + a.val) + r)) (h * 128 + e.val) : ℝ) : EReal))
    (hK : ∀ (k : Fin 256) (e : Fin 128), K (ix2 k e) = ((Z X b h 2048 j (2048 + dil p * (128 * n + k.val) + r - 128 * dil p) e.val : ℝ) : EReal))
    (k : Fin 256) :
    S (ix2 a k) = row (fun k : Fin 256 => Kept (j = 0 ∧ n = 0) a.val k.val)
      (fun k => score X Sl b h (2048 * j + dil p * (128 * n + a.val) + r) (pos (dil p) j n r k.val)) k := by
  rw [hS, hM, row]
  by_cases hk : Kept (j = 0 ∧ n = 0) a.val k.val
  · rw [if_pos hk, if_pos hk, coe_scale]
    simp only [hQ, hK, Z_kept X b h 2048 hj hn hr hk, ← EReal.coe_mul]
    rw [← coe_sum, ← EReal.coe_mul, ← EReal.coe_add, score]
    congr 1
    obtain ⟨q, -, hq1, hq2, -⟩ := pos_kept (strides p) hj hn a.isLt hr hk
    have e1 : (k.val : ℝ) + q = 128 + (a.val : ℝ) := by exact_mod_cast hq1
    have e2 : (pos (dil p) j n r k.val : ℝ) + dil p * q = ((2048 * j + dil p * (128 * n + a.val) + r : ℕ) : ℝ) := by exact_mod_cast hq2
    rw [← e2, ← e1]
    ring
  · rw [if_neg hk, if_neg hk, EReal.add_bot]

theorem total_eq (hj : j < 4) (hn : dil p * n < 16) (hr : r < dil p) :
    total (fun k : Fin 256 => Kept (j = 0 ∧ n = 0) a.val k.val)
      (fun k => score X Sl b h (2048 * j + dil p * (128 * n + a.val) + r) (pos (dil p) j n r k.val))
      = W X Sl b h (2048 * j + dil p * (128 * n + a.val) + r) p :=
  (band (strides p) hj hn a.isLt hr fun s => Real.exp (score X Sl b h (2048 * j + dil p * (128 * n + a.val) + r) s)).trans
    (Finset.sum_congr rfl fun s _ => if_congr Iff.rfl rfl rfl)

theorem weighted_eq (hj : j < 4) (hn : dil p * n < 16) (hr : r < dil p) (e : ℕ) :
    weighted (fun k : Fin 256 => Kept (j = 0 ∧ n = 0) a.val k.val)
      (fun k => score X Sl b h (2048 * j + dil p * (128 * n + a.val) + r) (pos (dil p) j n r k.val))
      (fun k => Z X b h 4096 j (2048 + dil p * (128 * n + k.val) + r - 128 * dil p) e)
      = N X Sl b h (2048 * j + dil p * (128 * n + a.val) + r) e p := by
  refine Eq.trans (Finset.sum_congr rfl fun k _ => ?_) ((band (strides p) hj hn a.isLt hr fun s =>
    Real.exp (score X Sl b h (2048 * j + dil p * (128 * n + a.val) + r) s) * X (b * 8192 + s) (4096 + (h * 128 + e))).trans
      (Finset.sum_congr rfl fun s _ => if_congr Iff.rfl rfl rfl))
  by_cases hk : Kept (j = 0 ∧ n = 0) a.val k.val
  · rw [if_pos hk, if_pos hk]
    exact congrArg (_ * ·) (Z_kept X b h 4096 hj hn hr hk e)
  · rw [if_neg hk, if_neg hk]

/-- A block's log-denominators are its pattern's. -/
theorem blockL (hj : j < 4) (hn : dil p * n < 16) (hr : r < dil p) (e : Fin 128)
    (hS : ∀ k, S (ix2 a k) = row (fun k : Fin 256 => Kept (j = 0 ∧ n = 0) a.val k.val)
      (fun k => score X Sl b h (2048 * j + dil p * (128 * n + a.val) + r) (pos (dil p) j n r k.val)) k) :
    k0_pay212 S (ix2 a e) = ((Real.log (W X Sl b h (2048 * j + dil p * (128 * n + a.val) + r) p) : ℝ) : EReal) := by
  rw [Unit.unitL S _ _ a e hS ⟨⟨128 + a.val, by omega⟩, kept_self _⟩, total_eq X Sl b h hj hn hr]

/-- A block's outputs are its pattern's. -/
theorem blockO (hj : j < 4) (hn : dil p * n < 16) (hr : r < dil p) (e : Fin 128)
    (hS : ∀ k, S (ix2 a k) = row (fun k : Fin 256 => Kept (j = 0 ∧ n = 0) a.val k.val)
      (fun k => score X Sl b h (2048 * j + dil p * (128 * n + a.val) + r) (pos (dil p) j n r k.val)) k)
    (hV : ∀ k : Fin 256, V (ix2 k e) = ((Z X b h 4096 j (2048 + dil p * (128 * n + k.val) + r - 128 * dil p) e.val : ℝ) : EReal)) :
    k0_pay211 V S (ix2 a e) = ((N X Sl b h (2048 * j + dil p * (128 * n + a.val) + r) e.val p
      / W X Sl b h (2048 * j + dil p * (128 * n + a.val) + r) p : ℝ) : EReal) := by
  rw [Unit.unitO S V _ _ _ a e hS ⟨⟨128 + a.val, by omega⟩, kept_self _⟩ hV, total_eq X Sl b h hj hn hr, weighted_eq X Sl b h hj hn hr]

/-- The bias of a head at a pattern's distances. -/
theorem bias (sl : ℝ) (d : EReal) (dn : ℕ) (hd : d = ((dn : ℝ) : EReal)) (a : Fin 128) (k : Fin 256) :
    k0_pay203 (F := Ideal) (ix2 a k) * ((0 : EReal) - (sl : EReal) * d) = (((128 + (a.val : ℝ) - k.val) * (0 - sl * dn) : ℝ) : EReal) := by
  rw [rel_real, hd, ← EReal.coe_mul, ← EReal.coe_zero, ← EReal.coe_sub, ← EReal.coe_mul]

theorem one' : (FloatOps.ofBits (F := Ideal) .f32 0x3F800000#32 : EReal) = ((1 : ℕ) : ℝ) := by
  rw [Unit.one]; simp

theorem four : (FloatOps.ofBits (F := Ideal) .f32 0x40800000#32 : EReal) = ((4 : ℕ) : ℝ) := by
  show Ideal.ofBits .f32 0x40800000#32 = _
  simp [Ideal.ofBits, Ideal.ieee, -EReal.coe_mul]; norm_num

theorem sixteen : (FloatOps.ofBits (F := Ideal) .f32 0x41800000#32 : EReal) = ((16 : ℕ) : ℝ) := by
  show Ideal.ofBits .f32 0x41800000#32 = _
  simp [Ideal.ofBits, Ideal.ieee, -EReal.coe_mul]; norm_num

theorem kept_later {j n a k : ℕ} (hn : n ≠ 0) : Kept (j = 0 ∧ n = 0) a k ↔ Kept False a k := by
  unfold Kept; simp [hn]

theorem kept_first {j a k : ℕ} : Kept (j = 0 ∧ (0 : ℕ) = 0) a k ↔ Kept (j = 0) a k := by
  unfold Kept; simp

variable (sl : ℝ)

/-- The bias of the first pattern's later blocks. -/
theorem bias1 (hn : n ≠ 0) (k : Fin 256) : k0_pay206 (F := Ideal) (sl : EReal) (ix2 a k)
    = if Kept (j = 0 ∧ n = 0) a.val k.val then (((128 + (a.val : ℝ) - k.val) * (0 - sl * dil 0) : ℝ) : EReal) else ⊥ := by
  unfold k0_pay206 k0_pay205
  pointwise
  simp only [kept_later hn, ← valid a k]
  refine if_congr Iff.rfl ?_ Unit.negInf
  have hb := bias sl _ 1 one' a k
  rwa [Unit.one, mul_one] at hb

/-- The bias of the second pattern's later blocks. -/
theorem bias4 (hn : n ≠ 0) (k : Fin 256) : k0_pay220 (F := Ideal) (sl : EReal) k0_pay202 k0_pay203 (ix2 a k)
    = if Kept (j = 0 ∧ n = 0) a.val k.val then (((128 + (a.val : ℝ) - k.val) * (0 - sl * dil 1) : ℝ) : EReal) else ⊥ := by
  unfold k0_pay220 k0_pay219
  pointwise
  simp only [kept_later hn, ← valid a k]
  refine if_congr Iff.rfl ?_ Unit.negInf
  exact bias sl _ 4 four a k

/-- The bias of the second pattern's first blocks. -/
theorem bias4' (jj : Fin 4) (hj : j = jj.val) (k : Fin 256) :
    k0_pay221 (F := Ideal) (sl : EReal) k0_pay203 (k0_pay204 (BitVec.ofNat 32 jj.val)) (ix2 a k)
    = if Kept (j = 0 ∧ (0 : ℕ) = 0) a.val k.val then (((128 + (a.val : ℝ) - k.val) * (0 - sl * dil 1) : ℝ) : EReal) else ⊥ := by
  subst hj
  unfold k0_pay221 k0_pay219
  pointwise
  simp only [kept_first, ← first_valid jj a k]
  refine if_congr Iff.rfl ?_ Unit.negInf
  exact bias sl _ 4 four a k

/-- The scores of the first pattern's first block. -/
theorem first1 (jj : Fin 4) (hj : j = jj.val) (k : Fin 256) :
    k0_pay207 (F := Ideal) (BitVec.ofNat 32 jj.val) (sl : EReal) Q K (ix2 a k)
    = (∑ e : Fin 128, Q (ix2 a e) * K (ix2 k e)) * (FloatOps.ofBits (F := Ideal) .f32 0x3DB504F3#32 : EReal)
      + if Kept (j = 0 ∧ (0 : ℕ) = 0) a.val k.val then (((128 + (a.val : ℝ) - k.val) * (0 - sl * dil 0) : ℝ) : EReal) else ⊥ := by
  subst hj
  unfold k0_pay207 k0_pay205
  pointwise
  simp only [kept_first, ← first_valid jj a k]
  refine congrArg₂ (· + ·) rfl (if_congr Iff.rfl ?_ Unit.negInf)
  have hb := bias sl _ 1 one' a k
  rwa [Unit.one, mul_one] at hb

/-- The scores of the third pattern's blocks. -/
theorem first16 (jj : Fin 4) (hj : j = jj.val) (q : Vec Ideal S1x128x128 .bf16) (kk : Vec Ideal S1x256x128 .bf16)
    (hq : ∀ a e : Fin 128, q (ix3 0 a e) = Q (ix2 a e)) (hk : ∀ (a : Fin 256) (e : Fin 128), kk (ix3 0 a e) = K (ix2 a e)) (k : Fin 256) :
    k0_pay7 (F := Ideal) (sl : EReal) k0_pay203 (k0_pay204 (BitVec.ofNat 32 jj.val)) q kk (ix2 a k)
    = (∑ e : Fin 128, Q (ix2 a e) * K (ix2 k e)) * (FloatOps.ofBits (F := Ideal) .f32 0x3DB504F3#32 : EReal)
      + if Kept (j = 0 ∧ (0 : ℕ) = 0) a.val k.val then (((128 + (a.val : ℝ) - k.val) * (0 - sl * dil 2) : ℝ) : EReal) else ⊥ := by
  subst hj
  unfold k0_pay7
  pointwise
  simp only [kept_first, ← first_valid jj a k]
  refine congrArg₂ (· + ·) (congrArg (· * _) (Finset.sum_congr rfl fun e _ => ?_)) (if_congr Iff.rfl ?_ Unit.negInf)
  · refine congrArg₂ (· * ·) (hq _ _) (hk _ _)
  exact bias sl _ 16 sixteen a k

/-- The scores of the second pattern's blocks, over either bias. -/
theorem any4 (q : Vec Ideal S1x128x128 .bf16) (kk : Vec Ideal S1x256x128 .bf16)
    (hq : ∀ a e : Fin 128, q (ix3 0 a e) = Q (ix2 a e)) (hk : ∀ (a : Fin 256) (e : Fin 128), kk (ix3 0 a e) = K (ix2 a e)) (k : Fin 256) :
    k0_pay97 (F := Ideal) M q kk (ix2 a k)
    = (∑ e : Fin 128, Q (ix2 a e) * K (ix2 k e)) * (FloatOps.ofBits (F := Ideal) .f32 0x3DB504F3#32 : EReal) + M (ix2 a k) := by
  unfold k0_pay97
  pointwise
  refine congrArg (· + _) (congrArg (· * _) (Finset.sum_congr rfl fun e _ => ?_))
  exact congrArg₂ (· * ·) (hq _ _) (hk _ _)

/-- The scores of the first pattern's later blocks. -/
theorem any1 (k : Fin 256) : k0_pay213 (F := Ideal) M (k0_pay96 Q K) (ix2 a k)
    = (∑ e : Fin 128, Q (ix2 a e) * K (ix2 k e)) * (FloatOps.ofBits (F := Ideal) .f32 0x3DB504F3#32 : EReal) + M (ix2 a k) := by
  unfold k0_pay213 k0_pay96
  pointwise

end Cert.AttnIdeal.Score

end
-- ==== Proof.AttnPieces.lean ====
module

public import proofs.«01_k».proof.Proof.AttnAttend

/-
  The pieces that the attention stage stores, loop by loop, as plain lists.
-/

@[expose] public section

set_option maxRecDepth 16384
set_option maxHeartbeats 4000000

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen Cert.AttnIdeal.Loops

variable {F : FTy → Type} [FloatOps F]

local notation "𝕄" => MT nD τ sig Unit (Elt F) ℕ (UR sig nD τ) ℕ

variable (c : Dev nD) (i : grid0.Coords)
variable (arg3 : Memref sig .tc .smem S16 .f32) (harg3 : arg3.IsWhole)
variable (arg4 : Memref sig .tc .vmem S2048x128 .bf16) (harg4 : arg4.IsWhole)
variable (arg5 : Memref sig .tc .vmem S2048x128 .bf16) (harg5 : arg5.IsWhole)
variable (arg6 : Memref sig .tc .vmem S2048x128 .bf16) (harg6 : arg6.IsWhole)
variable (arg7 : Memref sig .tc .vmem S2048x128 .bf16) (harg7 : arg7.IsWhole)
variable (arg8 : Memref sig .tc .vmem S2048x128 .bf16) (harg8 : arg8.IsWhole)
variable (arg9 : Memref sig .tc .vmem S2048x128 .f32) (harg9 : arg9.IsWhole)
variable (arg10 : Memref sig .tc .vmem S2048x128 .f32) (harg10 : arg10.IsWhole)
variable (arg11 : Memref sig .tc .vmem S2048x128 .f32) (harg11 : arg11.IsWhole)
variable (arg12 : Memref sig .tc .vmem S4x512x128 .f32) (harg12 : arg12.IsWhole)
variable (arg13 : Memref sig .tc .vmem S4x512x128 .f32) (harg13 : arg13.IsWhole)
variable (arg14 : Memref sig .tc .vmem S4x512x128 .f32) (harg14 : arg14.IsWhole)
variable (arg15 : Memref sig .tc .vmem S4x512x128 .bf16) (harg15 : arg15.IsWhole)
variable (arg16 : Memref sig .tc .vmem S4x640x128 .bf16) (harg16 : arg16.IsWhole)
variable (arg17 : Memref sig .tc .vmem S4x640x128 .bf16) (harg17 : arg17.IsWhole)
variable (arg18 : Memref sig .tc .vmem S16x128x128 .bf16) (harg18 : arg18.IsWhole)
variable (arg19 : Memref sig .tc .vmem S16x256x128 .bf16) (harg19 : arg19.IsWhole)
variable (arg20 : Memref sig .tc .vmem S16x256x128 .bf16) (harg20 : arg20.IsWhole)
variable (arg21 : Memref sig .tc .vmem S2176x128 .bf16) (harg21 : arg21.IsWhole)
variable (arg22 : Memref sig .tc .vmem S2176x128 .bf16) (harg22 : arg22.IsWhole)
variable (arg23 : Memref sig .tc .vmem S2048x128 .f32) (harg23 : arg23.IsWhole)
variable (arg24 : Memref sig .tc .vmem S2048x128 .f32) (harg24 : arg24.IsWhole)
variable (arg25 : Memref sig .tc .vmem S2048x128 .f32) (harg25 : arg25.IsWhole)
variable (arg26 : Memref sig .tc .vmem S2048x128 .f32) (harg26 : arg26.IsWhole)
variable (arg27 : Memref sig .tc .vmem S2048x128 .f32) (harg27 : arg27.IsWhole)
variable (arg28 : Memref sig .tc .vmem S2048x128 .f32) (harg28 : arg28.IsWhole)

theorem upTo_step {n : ℕ} {α : Type*} (g : Fin n → α) (k : ℕ) :
    upTo g (k + 1) = if h : k < n then g ⟨k, h⟩ :: upTo g k else upTo g k := rfl

/-- What a trip of the first loop stores of the outputs. -/
def o1 (v437 : FVec F S128x256 .f32) (X_arg4 : BufTy.Contents (Elt F) arg4.view.ty) (X_arg21 : BufTy.Contents (Elt F) arg21.view.ty) (X_arg22 : BufTy.Contents (Elt F) arg22.view.ty) (k : Fin k0_t1_loop.trips) : View.Piece (Elt F) S2048x128 .f32 :=
  ⟨Rect.unit (s := S2048x128) (k0_off5 k) S128x128.size (k0_off5_inb k), k0_pay217 v437 (arg22.view.readAt (Elt F) (Rect.unit (s := S2176x128) (k0_off4 k) S256x128.size (k0_off4_inb k)).toLoadRect X_arg22) (k0_pay96 (arg4.view.readAt (Elt F) (Rect.unit (s := S2048x128) (k0_off3 k) S128x128.size (k0_off3_inb k)).toLoadRect X_arg4) (arg21.view.readAt (Elt F) (Rect.unit (s := S2176x128) (k0_off4 k) S256x128.size (k0_off4_inb k)).toLoadRect X_arg21))⟩

/-- What a trip of the first loop stores of the log-denominators. -/
def l1 (v437 : FVec F S128x256 .f32) (X_arg4 : BufTy.Contents (Elt F) arg4.view.ty) (X_arg21 : BufTy.Contents (Elt F) arg21.view.ty) (k : Fin k0_t1_loop.trips) : View.Piece (Elt F) S2048x128 .f32 :=
  ⟨Rect.unit (s := S2048x128) (k0_off5 k) S128x128.size (k0_off5_inb k), k0_pay218 v437 (k0_pay96 (arg4.view.readAt (Elt F) (Rect.unit (s := S2048x128) (k0_off3 k) S128x128.size (k0_off3_inb k)).toLoadRect X_arg4) (arg21.view.readAt (Elt F) (Rect.unit (s := S2176x128) (k0_off4 k) S256x128.size (k0_off4_inb k)).toLoadRect X_arg21))⟩

/-- What a trip of the merging loop stores. -/
def m5 (X_arg7 : BufTy.Contents (Elt F) arg7.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) (k : Fin k0_t5_loop.trips) : View.Piece (Elt F) S2048x128 .bf16 :=
  ⟨Rect.unit (s := S2048x128) (k0_off15 k) S128x128.size (k0_off15_inb k), k0_pay105 (arg26.view.readAt (Elt F) (Rect.unit (s := S2048x128) (k0_off15 k) S128x128.size (k0_off15_inb k)).toLoadRect X_arg26) (arg27.view.readAt (Elt F) (Rect.unit (s := S2048x128) (k0_off15 k) S128x128.size (k0_off15_inb k)).toLoadRect X_arg27) (arg28.view.readAt (Elt F) (Rect.unit (s := S2048x128) (k0_off15 k) S128x128.size (k0_off15_inb k)).toLoadRect X_arg28) (arg23.view.readAt (Elt F) (Rect.unit (s := S2048x128) (k0_off15 k) S128x128.size (k0_off15_inb k)).toLoadRect X_arg23) (arg24.view.readAt (Elt F) (Rect.unit (s := S2048x128) (k0_off15 k) S128x128.size (k0_off15_inb k)).toLoadRect X_arg24) (arg25.view.readAt (Elt F) (Rect.unit (s := S2048x128) (k0_off15 k) S128x128.size (k0_off15_inb k)).toLoadRect X_arg25) (arg7.view.readAt (Elt F) (Rect.unit (s := S2048x128) (k0_off15 k) S128x128.size (k0_off15_inb k)).toLoadRect X_arg7)⟩

theorem trip1 (v1 : Elt F .f32) (v424 : IVec S128x256 1) (v425 : FVec F S128x256 .f32) (v431 : IVec S128x256 1) (v437 : FVec F S128x256 .f32) (c0_i32_397 : BitVec 32) (v447 : Vec F S256x128 .bf16) (v451 : FVec F S128x256 .f32) (X_arg4 : BufTy.Contents (Elt F) arg4.view.ty) (X_arg21 : BufTy.Contents (Elt F) arg21.view.ty) (X_arg22 : BufTy.Contents (Elt F) arg22.view.ty) (k : Fin k0_t1_loop.trips) :
    tripL_k0_t1 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v424 v425 v431 v437 c0_i32_397 v447 v451 X_arg4 X_arg21 X_arg22 k
      = ([o1 arg4 arg21 arg22 v437 X_arg4 X_arg21 X_arg22 k], [l1 arg4 arg21 v437 X_arg4 X_arg21 k]) := by
  unfold tripL_k0_t1 trip_k0_t1
  rfl

theorem pieces1 (v1 : Elt F .f32) (v424 : IVec S128x256 1) (v425 : FVec F S128x256 .f32) (v431 : IVec S128x256 1) (v437 : FVec F S128x256 .f32) (c0_i32_397 : BitVec 32) (v447 : Vec F S256x128 .bf16) (v451 : FVec F S128x256 .f32) (X_arg4 : BufTy.Contents (Elt F) arg4.view.ty) (X_arg21 : BufTy.Contents (Elt F) arg21.view.ty) (X_arg22 : BufTy.Contents (Elt F) arg22.view.ty) (n : ℕ) :
    pb_k0_t1 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v424 v425 v431 v437 c0_i32_397 v447 v451 X_arg4 X_arg21 X_arg22 n
      = (upTo (o1 arg4 arg21 arg22 v437 X_arg4 X_arg21 X_arg22) n, upTo (l1 arg4 arg21 v437 X_arg4 X_arg21) n) := by
  induction n with
  | zero => rfl
  | succ n ih =>
    rw [pb_k0_t1.eq_2, ih]
    rw [upTo_step, upTo_step]
    unfold pb_k0_t1Step
    split
    · rw [trip1]; rfl
    · rfl

theorem trip5 (X_arg7 : BufTy.Contents (Elt F) arg7.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) (k : Fin k0_t5_loop.trips) :
    tripL_k0_t5 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 X_arg7 X_arg23 X_arg24 X_arg25 X_arg26 X_arg27 X_arg28 k = [m5 arg7 arg23 arg24 arg25 arg26 arg27 arg28 X_arg7 X_arg23 X_arg24 X_arg25 X_arg26 X_arg27 X_arg28 k] := by
  unfold tripL_k0_t5 trip_k0_t5
  rfl

theorem pieces5 (X_arg7 : BufTy.Contents (Elt F) arg7.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) (n : ℕ) :
    pb_k0_t5 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 X_arg7 X_arg23 X_arg24 X_arg25 X_arg26 X_arg27 X_arg28 n = upTo (m5 arg7 arg23 arg24 arg25 arg26 arg27 arg28 X_arg7 X_arg23 X_arg24 X_arg25 X_arg26 X_arg27 X_arg28) n := by
  induction n with
  | zero => rfl
  | succ n ih =>
    rw [pb_k0_t5.eq_2, ih]
    rw [upTo_step]
    unfold pb_k0_t5Step
    split
    · rw [trip5]; rfl
    · rfl

set_option maxHeartbeats 4000000 in
/-- The pieces of the output tile, over the pieces of the patterns' outputs and log-denominators. -/
theorem attend_pieces (v1 : Elt F .f32) (v424 : IVec S128x256 1) (v425 : FVec F S128x256 .f32) (v431 : IVec S128x256 1) (v437 : FVec F S128x256 .f32) (c0_i32_397 : BitVec 32) (v447 : Vec F S256x128 .bf16) (v451 : FVec F S128x256 .f32) (X_arg4 : BufTy.Contents (Elt F) arg4.view.ty) (X_arg7 : BufTy.Contents (Elt F) arg7.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (f8 : BufTy.Contents (Elt F) arg8.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) :
    (attend c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1 v424 v425 v431 v437 c0_i32_397 v447 v451 X_arg4 X_arg7 X_arg15 X_arg16 X_arg17 X_arg18 X_arg19 X_arg20 X_arg21 X_arg22 f8 X_arg23 X_arg24 X_arg25 X_arg26 X_arg27 X_arg28).1 = upTo (m5 arg7 arg23 arg24 arg25 arg26 arg27 arg28 X_arg7 (arg23.view.writes (Elt F) X_arg23 (upTo (o1 arg4 arg21 arg22 v437 X_arg4 X_arg21 X_arg22) 15 ++ [⟨Rect.unit (s := S2048x128) k0_off2 S128x128.size k0_off2_inb, k0_pay211 v447 v451⟩])) (arg24.view.writes (Elt F) X_arg24 (upTo (o3 arg15 arg16 arg17 (k0_pay220 v1 v424 v425) X_arg15 X_arg16 X_arg17) 12 ++ upTo (o2 arg15 arg16 arg17 v1 v425 v431 X_arg15 X_arg16 X_arg17) 4)) (arg25.view.writes (Elt F) X_arg25 (upTo (o4 arg18 arg19 arg20 v1 v425 v431 X_arg18 X_arg19 X_arg20) 16)) (arg26.view.writes (Elt F) X_arg26 (upTo (l1 arg4 arg21 v437 X_arg4 X_arg21) 15 ++ [⟨Rect.unit (s := S2048x128) k0_off2 S128x128.size k0_off2_inb, k0_pay212 v451⟩])) (arg27.view.writes (Elt F) X_arg27 (upTo (l3 arg15 arg16 (k0_pay220 v1 v424 v425) X_arg15 X_arg16) 12 ++ upTo (l2 arg15 arg16 v1 v425 v431 X_arg15 X_arg16) 4)) (arg28.view.writes (Elt F) X_arg28 (upTo (l4 arg18 arg19 v1 v425 v431 X_arg18 X_arg19) 16))) 16 := by
  unfold attend
  dsimp only
  rw [pieces5, pieces1]
  rfl

end Cert.AttnIdeal.Body

end
-- ==== Proof.AttnTile.lean ====
/-
  What the attention stage stores, in real arithmetic: every block's outputs and log-denominators are its pattern's, and
  the merging loop stores the mixture under its gate.
-/
module

public import proofs.«01_k».proof.Proof.AttnScore
public import proofs.«01_k».proof.Proof.AttnPieces

@[expose] public section

set_option maxRecDepth 16384

noncomputable section

open Idealize.ShloMosaic Idealize.ShloMosaic.TcCoe Idealize.SL.Sem

namespace Cert.AttnIdeal.Tile

open Cert.AttnIdeal Cert.AttnIdeal.Gen Cert.AttnIdeal.Softmax Cert.AttnIdeal.Spec Cert.AttnIdeal.Band Cert.AttnIdeal.Score
open Cert.AttnIdeal.Loops Cert.AttnIdeal.Body

variable (X : ℕ → ℕ → ℝ) (Sl : ℕ → ℝ) (b h : ℕ) (jj : Fin 4)

/-- A pattern's outputs over the tile. -/
def Go (p : Fin 3) (y : S2048x128.Idx) : EReal :=
  ((N X Sl b h (2048 * jj.val + (y 0).val) (y 1).val p / W X Sl b h (2048 * jj.val + (y 0).val) p : ℝ) : EReal)

/-- A pattern's log-denominators over the tile. -/
def Gl (p : Fin 3) (y : S2048x128.Idx) : EReal := ((Real.log (W X Sl b h (2048 * jj.val + (y 0).val) p) : ℝ) : EReal)

theorem Go_at {p : Fin 3} {y : S2048x128.Idx} {m e : ℕ} (h0 : 2048 * jj.val + (y 0).val = m) (h1 : (y 1).val = e) :
    ((N X Sl b h m e p / W X Sl b h m p : ℝ) : EReal) = Go X Sl b h jj p y := by subst h0 h1; rfl

theorem Gl_at {p : Fin 3} {y : S2048x128.Idx} {m : ℕ} (h0 : 2048 * jj.val + (y 0).val = m) :
    ((Real.log (W X Sl b h m p) : ℝ) : EReal) = Gl X Sl b h jj p y := by subst h0; rfl

theorem X_at {m m' c c' : ℕ} (hm : m = m') (hc : c = c') : ((X m c : ℝ) : EReal) = ((X m' c' : ℝ) : EReal) := by rw [hm, hc]

theorem Z_at {o m m' c c' : ℕ} (hm : m = m') (hc : c = c') :
    ((Z X b h o jj.val m c : ℝ) : EReal) = ((Z X b h o jj.val m' c' : ℝ) : EReal) := by rw [hm, hc]

theorem mem_set2 (r : LoadRect S2048x128) (y : S2048x128.Idx) (a0 a1 : ℕ) (h0 : a0 < r.size 0) (h1 : a1 < r.size 1)
    (e0 : (y 0).val = r.off 0 + r.stride 0 * a0) (e1 : (y 1).val = r.off 1 + r.stride 1 * a1) : y ∈ r.set := by
  rw [LoadRect.mem_set]
  exact Fin.forall_fin_two.2 ⟨⟨a0, h0, e0⟩, ⟨a1, h1, e1⟩⟩

theorem ix2_of (x : S128x128.Idx) : ∃ a e : Fin 128, x = ix2 a e :=
  ⟨x 0, x 1, by funext d; match d with | ⟨0, _⟩ => rfl | ⟨1, _⟩ => rfl⟩

/-- The first pattern's blocks. -/
theorem pattern1 (n : ℕ) (hn : n < 16) (S M : FVec Ideal S128x256 .f32) (Q : FVec Ideal S128x128 .bf16) (K V : FVec Ideal S256x128 .bf16)
    (hS : ∀ (a : Fin 128) (k : Fin 256), S (ix2 a k) = (∑ e : Fin 128, Q (ix2 a e) * K (ix2 k e)) * (FloatOps.ofBits (F := Ideal) .f32 0x3DB504F3#32 : EReal) + M (ix2 a k))
    (hM : ∀ (a : Fin 128) (k : Fin 256), M (ix2 a k) = if Kept (jj.val = 0 ∧ n = 0) a.val k.val then
      (((128 + (a.val : ℝ) - k.val) * (0 - Sl h * dil 0) : ℝ) : EReal) else ⊥)
    (hQ : ∀ a e : Fin 128, (Q (ix2 a e) : EReal) = ((X (b * 8192 + (2048 * jj.val + (128 * n + a.val))) (h * 128 + e.val) : ℝ) : EReal))
    (hK : ∀ (k : Fin 256) (e : Fin 128), (K (ix2 k e) : EReal) = ((Z X b h 2048 jj.val (1920 + (128 * n + k.val)) e.val : ℝ) : EReal))
    (hV : ∀ (k : Fin 256) (e : Fin 128), (V (ix2 k e) : EReal) = ((Z X b h 4096 jj.val (1920 + (128 * n + k.val)) e.val : ℝ) : EReal))
    (a e : Fin 128) :
    (k0_pay211 V S (ix2 a e) : EReal) = ((N X Sl b h (2048 * jj.val + (128 * n + a.val)) e.val 0 / W X Sl b h (2048 * jj.val + (128 * n + a.val)) 0 : ℝ) : EReal)
      ∧ (k0_pay212 S (ix2 a e) : EReal) = ((Real.log (W X Sl b h (2048 * jj.val + (128 * n + a.val)) 0) : ℝ) : EReal) := by
  have hd : dil 0 = 1 := rfl
  have et : 2048 * jj.val + (128 * n + a.val) = 2048 * jj.val + dil 0 * (128 * n + a.val) + 0 := by rw [hd]; omega
  have hs := scores X Sl b h (p := 0) (j := jj.val) (n := n) (r := 0) (a := a) S M Q K jj.isLt (by rw [hd]; omega) (by rw [hd]; omega) (hS a) (hM a)
    (fun e => (hQ a e).trans (X_at X (by rw [hd]; omega) rfl)) (fun k e => (hK k e).trans (Z_at X b h jj (by rw [hd]; omega) rfl))
  rw [et]
  exact ⟨blockO X Sl b h S V jj.isLt (by rw [hd]; omega) (by rw [hd]; omega) e hs (fun k => (hV k e).trans (Z_at X b h jj (by rw [hd]; omega) rfl)),
    blockL X Sl b h S jj.isLt (by rw [hd]; omega) (by rw [hd]; omega) e hs⟩

/-- The second pattern's blocks. -/
theorem pattern4 (n : ℕ) (hn : n < 4) (r : ℕ) (hr : r < 4) (M : FVec Ideal S128x256 .f32) (q : Vec Ideal S1x128x128 .bf16) (kk vv : Vec Ideal S1x256x128 .bf16)
    (hM : ∀ (a : Fin 128) (k : Fin 256), M (ix2 a k) = if Kept (jj.val = 0 ∧ n = 0) a.val k.val then
      (((128 + (a.val : ℝ) - k.val) * (0 - Sl h * dil 1) : ℝ) : EReal) else ⊥)
    (hQ : ∀ a e : Fin 128, (q (ix3 0 a e) : EReal) = ((X (b * 8192 + (2048 * jj.val + (4 * (128 * n + a.val) + r))) (h * 128 + e.val) : ℝ) : EReal))
    (hK : ∀ (k : Fin 256) (e : Fin 128), (kk (ix3 0 k e) : EReal) = ((Z X b h 2048 jj.val (1536 + (4 * (128 * n + k.val) + r)) e.val : ℝ) : EReal))
    (hV : ∀ (k : Fin 256) (e : Fin 128), (vv (ix3 0 k e) : EReal) = ((Z X b h 4096 jj.val (1536 + (4 * (128 * n + k.val) + r)) e.val : ℝ) : EReal))
    (a e : Fin 128) :
    (k0_pay101 M q kk vv (ix2 a e) : EReal) = ((N X Sl b h (2048 * jj.val + (4 * (128 * n + a.val) + r)) e.val 1 / W X Sl b h (2048 * jj.val + (4 * (128 * n + a.val) + r)) 1 : ℝ) : EReal)
      ∧ (k0_pay102 M q kk (ix2 a e) : EReal) = ((Real.log (W X Sl b h (2048 * jj.val + (4 * (128 * n + a.val) + r)) 1) : ℝ) : EReal) := by
  have hd : dil 1 = 4 := rfl
  have et : 2048 * jj.val + (4 * (128 * n + a.val) + r) = 2048 * jj.val + dil 1 * (128 * n + a.val) + r := by rw [hd]; omega
  have hs := scores X Sl b h (p := 1) (j := jj.val) (n := n) (r := r) (a := a) (k0_pay97 M q kk) M (fun y => q (ix3 0 (y 0) (y 1))) (fun y => kk (ix3 0 (y 0) (y 1)))
    jj.isLt (by rw [hd]; omega) (by rw [hd]; omega) (fun k => any4 M (fun y => q (ix3 0 (y 0) (y 1)) : FVec Ideal S128x128 .bf16) (fun y => kk (ix3 0 (y 0) (y 1)) : FVec Ideal S256x128 .bf16) q kk (fun _ _ => rfl) (fun _ _ => rfl) k) (hM a)
    (fun e => (hQ a e).trans (X_at X (by rw [hd]; omega) rfl)) (fun k e => (hK k e).trans (Z_at X b h jj (by rw [hd]; omega) rfl))
  rw [et]
  exact ⟨blockO X Sl b h _ (shapeCast S256x128 vv shapeCasts_S1x256x128_S256x128) jj.isLt (by rw [hd]; omega) (by rw [hd]; omega) e hs
      (fun k => (ValueIdx.shapeCast_1ab_ab_apply vv _ k e).trans ((hV k e).trans (Z_at X b h jj (by rw [hd]; omega) rfl))),
    blockL X Sl b h _ jj.isLt (by rw [hd]; omega) (by rw [hd]; omega) e hs⟩

/-- The third pattern's blocks. -/
theorem pattern16 (r : ℕ) (hr : r < 16) (q : Vec Ideal S1x128x128 .bf16) (kk vv : Vec Ideal S1x256x128 .bf16)
    (hQ : ∀ a e : Fin 128, (q (ix3 0 a e) : EReal) = ((X (b * 8192 + (2048 * jj.val + (16 * (128 * 0 + a.val) + r))) (h * 128 + e.val) : ℝ) : EReal))
    (hK : ∀ (k : Fin 256) (e : Fin 128), (kk (ix3 0 k e) : EReal) = ((Z X b h 2048 jj.val (0 + (16 * (128 * 0 + k.val) + r)) e.val : ℝ) : EReal))
    (hV : ∀ (k : Fin 256) (e : Fin 128), (vv (ix3 0 k e) : EReal) = ((Z X b h 4096 jj.val (0 + (16 * (128 * 0 + k.val) + r)) e.val : ℝ) : EReal))
    (a e : Fin 128) :
    (k0_pay11 (F := Ideal) ((Sl h : ℝ) : EReal) k0_pay203 (k0_pay204 (BitVec.ofNat 32 jj.val)) q kk vv (ix2 a e) : EReal) = ((N X Sl b h (2048 * jj.val + (16 * (128 * 0 + a.val) + r)) e.val 2 / W X Sl b h (2048 * jj.val + (16 * (128 * 0 + a.val) + r)) 2 : ℝ) : EReal)
      ∧ (k0_pay12 (F := Ideal) ((Sl h : ℝ) : EReal) k0_pay203 (k0_pay204 (BitVec.ofNat 32 jj.val)) q kk (ix2 a e) : EReal) = ((Real.log (W X Sl b h (2048 * jj.val + (16 * (128 * 0 + a.val) + r)) 2) : ℝ) : EReal) := by
  have hd : dil 2 = 16 := rfl
  have et : 2048 * jj.val + (16 * (128 * 0 + a.val) + r) = 2048 * jj.val + dil 2 * (128 * 0 + a.val) + r := by rw [hd]; omega
  have hs := scores X Sl b h (p := 2) (j := jj.val) (n := 0) (r := r) (a := a) (k0_pay7 (F := Ideal) ((Sl h : ℝ) : EReal) k0_pay203 (k0_pay204 (BitVec.ofNat 32 jj.val)) q kk) (fun y => if Kept (jj.val = 0 ∧ (0 : ℕ) = 0) (y 0).val (y 1).val then (((128 + ((y 0).val : ℝ) - (y 1).val) * (0 - Sl h * dil 2) : ℝ) : EReal) else ⊥) (fun y => q (ix3 0 (y 0) (y 1))) (fun y => kk (ix3 0 (y 0) (y 1)))
    jj.isLt (by rw [hd]; omega) (by rw [hd]; omega) (fun k => first16 (fun y => q (ix3 0 (y 0) (y 1)) : FVec Ideal S128x128 .bf16) (fun y => kk (ix3 0 (y 0) (y 1)) : FVec Ideal S256x128 .bf16) (Sl h) jj rfl q kk (fun _ _ => rfl) (fun _ _ => rfl) k) (fun k => rfl)
    (fun e => (hQ a e).trans (X_at X (by rw [hd]; omega) rfl)) (fun k e => (hK k e).trans (Z_at X b h jj (by rw [hd]; omega) rfl))
  rw [et]
  exact ⟨blockO X Sl b h _ (shapeCast S256x128 vv shapeCasts_S1x256x128_S256x128) jj.isLt (by rw [hd]; omega) (by rw [hd]; omega) e hs
      (fun k => (ValueIdx.shapeCast_1ab_ab_apply vv _ k e).trans ((hV k e).trans (Z_at X b h jj (by rw [hd]; omega) rfl))),
    blockL X Sl b h _ jj.isLt (by rw [hd]; omega) (by rw [hd]; omega) e hs⟩

theorem off1_at : ∀ k : Fin k0_t1_loop.trips, k0_off3 k 0 = 128 * (k.val + 1) ∧ k0_off3 k 1 = 0 ∧ k0_off4 k 0 = 128 * (k.val + 1) ∧ k0_off4 k 1 = 0
    ∧ k0_off5 k 0 = 128 * (k.val + 1) ∧ k0_off5 k 1 = 0 ∧ k.val < 15 := by decide +kernel
theorem off2_at : ∀ k : Fin k0_t2_loop.trips, k0_off6 k 0 = k.val ∧ k0_off6 k 1 = 0 ∧ k0_off6 k 2 = 0 ∧ k0_off7 k 0 = k.val ∧ k0_off7 k 1 = 0
    ∧ k0_off7 k 2 = 0 ∧ k0_off8 k 0 = k.val ∧ k0_off8 k 1 = 0 ∧ k.val < 4 := by decide +kernel
theorem off3_at : ∀ k : Fin k0_t3_loop.trips, k0_off9 k 0 = k.val / 3 ∧ k0_off9 k 1 = 128 * (k.val % 3 + 1) ∧ k0_off9 k 2 = 0
    ∧ k0_off10 k 0 = k.val / 3 ∧ k0_off10 k 1 = 128 * (k.val % 3 + 1) ∧ k0_off10 k 2 = 0
    ∧ k0_off11 k 0 = 512 * (k.val % 3 + 1) + k.val / 3 ∧ k0_off11 k 1 = 0 ∧ k.val < 12 := by decide +kernel
theorem off4_at : ∀ k : Fin k0_t4_loop.trips, k0_off12 k 0 = k.val ∧ k0_off12 k 1 = 0 ∧ k0_off12 k 2 = 0 ∧ k0_off13 k 0 = k.val ∧ k0_off13 k 1 = 0
    ∧ k0_off13 k 2 = 0 ∧ k0_off14 k 0 = k.val ∧ k0_off14 k 1 = 0 ∧ k.val < 16 := by decide +kernel
theorem off5_at : ∀ k : Fin k0_t5_loop.trips, k0_off15 k 0 = 128 * k.val ∧ k0_off15 k 1 = 0 ∧ k.val < 16 := by decide +kernel

theorem mem_upTo {n : ℕ} {α : Type*} (g : Fin n → α) (m : ℕ) (x : α) : x ∈ upTo g m ↔ ∃ k : Fin n, k.val < m ∧ g k = x := by
  induction m with
  | zero => simp [upTo]
  | succ m ih =>
    rw [upTo_step]
    split
    · rename_i hm
      rw [List.mem_cons, ih]
      constructor
      · rintro (rfl | ⟨k, hk, rfl⟩)
        · exact ⟨⟨m, hm⟩, Nat.lt_succ_self m, rfl⟩
        · exact ⟨k, by omega, rfl⟩
      · rintro ⟨k, hk, rfl⟩
        rcases Nat.lt_or_ge k.val m with h | h
        · exact Or.inr ⟨k, h, rfl⟩
        · exact Or.inl (congrArg g (Fin.ext (by show k.val = m; omega)))
    · rename_i hm
      rw [ih]
      exact ⟨fun ⟨k, hk, e⟩ => ⟨k, by omega, e⟩, fun ⟨k, hk, e⟩ => ⟨k, by have := k.isLt; omega, e⟩⟩

variable (arg4 : Memref sig .tc .vmem S2048x128 .bf16)
variable (arg7 : Memref sig .tc .vmem S2048x128 .bf16)
variable (arg15 : Memref sig .tc .vmem S4x512x128 .bf16)
variable (arg16 : Memref sig .tc .vmem S4x640x128 .bf16)
variable (arg17 : Memref sig .tc .vmem S4x640x128 .bf16)
variable (arg18 : Memref sig .tc .vmem S16x128x128 .bf16)
variable (arg19 : Memref sig .tc .vmem S16x256x128 .bf16)
variable (arg20 : Memref sig .tc .vmem S16x256x128 .bf16)
variable (arg21 : Memref sig .tc .vmem S2176x128 .bf16)
variable (arg22 : Memref sig .tc .vmem S2176x128 .bf16)
variable (arg23 : Memref sig .tc .vmem S2048x128 .f32)
variable (arg24 : Memref sig .tc .vmem S2048x128 .f32)
variable (arg25 : Memref sig .tc .vmem S2048x128 .f32)
variable (arg26 : Memref sig .tc .vmem S2048x128 .f32)
variable (arg27 : Memref sig .tc .vmem S2048x128 .f32)
variable (arg28 : Memref sig .tc .vmem S2048x128 .f32)
variable (X_arg4 : BufTy.Contents (Elt Ideal) arg4.view.ty)
variable (X_arg7 : BufTy.Contents (Elt Ideal) arg7.view.ty)
variable (X_arg15 : BufTy.Contents (Elt Ideal) arg15.view.ty)
variable (X_arg16 : BufTy.Contents (Elt Ideal) arg16.view.ty)
variable (X_arg17 : BufTy.Contents (Elt Ideal) arg17.view.ty)
variable (X_arg18 : BufTy.Contents (Elt Ideal) arg18.view.ty)
variable (X_arg19 : BufTy.Contents (Elt Ideal) arg19.view.ty)
variable (X_arg20 : BufTy.Contents (Elt Ideal) arg20.view.ty)
variable (X_arg21 : BufTy.Contents (Elt Ideal) arg21.view.ty)
variable (X_arg22 : BufTy.Contents (Elt Ideal) arg22.view.ty)
variable (X_arg23 : BufTy.Contents (Elt Ideal) arg23.view.ty)
variable (X_arg24 : BufTy.Contents (Elt Ideal) arg24.view.ty)
variable (X_arg25 : BufTy.Contents (Elt Ideal) arg25.view.ty)
variable (X_arg26 : BufTy.Contents (Elt Ideal) arg26.view.ty)
variable (X_arg27 : BufTy.Contents (Elt Ideal) arg27.view.ty)
variable (X_arg28 : BufTy.Contents (Elt Ideal) arg28.view.ty)
theorem pieces2_at (R15 : ∀ y : S4x512x128.Idx, (arg15.view.read (Elt Ideal) X_arg15 y : EReal) = ((X (b * 8192 + (2048 * jj.val + (4 * (y 1).val + (y 0).val))) (h * 128 + (y 2).val) : ℝ) : EReal)) (R16 : ∀ y : S4x640x128.Idx, (arg16.view.read (Elt Ideal) X_arg16 y : EReal) = ((Z X b h 2048 jj.val (1536 + (4 * (y 1).val + (y 0).val)) (y 2).val : ℝ) : EReal)) (R17 : ∀ y : S4x640x128.Idx, (arg17.view.read (Elt Ideal) X_arg17 y : EReal) = ((Z X b h 4096 jj.val (1536 + (4 * (y 1).val + (y 0).val)) (y 2).val : ℝ) : EReal))
    (k : Fin k0_t2_loop.trips) (x : S128x128.Idx) :
    ((o2 (F := Ideal) arg15 arg16 arg17 ((Sl h : ℝ) : EReal) k0_pay203 (k0_pay204 (BitVec.ofNat 32 jj.val)) X_arg15 X_arg16 X_arg17) k).2 x = Go X Sl b h jj 1 (((o2 (F := Ideal) arg15 arg16 arg17 ((Sl h : ℝ) : EReal) k0_pay203 (k0_pay204 (BitVec.ofNat 32 jj.val)) X_arg15 X_arg16 X_arg17) k).1.emb x) ∧ ((l2 (F := Ideal) arg15 arg16 ((Sl h : ℝ) : EReal) k0_pay203 (k0_pay204 (BitVec.ofNat 32 jj.val)) X_arg15 X_arg16) k).2 x = Gl X Sl b h jj 1 (((l2 (F := Ideal) arg15 arg16 ((Sl h : ℝ) : EReal) k0_pay203 (k0_pay204 (BitVec.ofNat 32 jj.val)) X_arg15 X_arg16) k).1.emb x) := by
  obtain ⟨q0, q1, q2, k0, k1, k2, s0, s1, hk⟩ := off2_at k
  obtain ⟨a, e, rfl⟩ := ix2_of x
  have key := pattern4 X Sl b h jj 0 (by omega) k.val hk _ (arg15.view.readAt (Elt Ideal) (Rect.unit (s := S4x512x128) (k0_off6 k) S1x128x128.size (k0_off6_inb k)).toLoadRect X_arg15) (arg16.view.readAt (Elt Ideal) (Rect.unit (s := S4x640x128) (k0_off7 k) S1x256x128.size (k0_off7_inb k)).toLoadRect X_arg16) (arg17.view.readAt (Elt Ideal) (Rect.unit (s := S4x640x128) (k0_off7 k) S1x256x128.size (k0_off7_inb k)).toLoadRect X_arg17) (fun a m => bias4' (Sl h) jj rfl m)
    (fun a e => (R15 _).trans (X_at X (by show b * 8192 + (2048 * jj.val + (4 * (k0_off6 k 1 + 1 * a.val) + (k0_off6 k 0 + 1 * 0))) = _; omega)
      (by show h * 128 + (k0_off6 k 2 + 1 * e.val) = _; omega)))
    (fun m e => (R16 _).trans (Z_at X b h jj (by show 1536 + (4 * (k0_off7 k 1 + 1 * m.val) + (k0_off7 k 0 + 1 * 0)) = _; omega)
      (by show k0_off7 k 2 + 1 * e.val = _; omega)))
    (fun m e => (R17 _).trans (Z_at X b h jj (by show 1536 + (4 * (k0_off7 k 1 + 1 * m.val) + (k0_off7 k 0 + 1 * 0)) = _; omega)
      (by show k0_off7 k 2 + 1 * e.val = _; omega))) a e
  have e0 : 2048 * jj.val + (k0_off8 k 0 + 4 * a.val) = 2048 * jj.val + (4 * (128 * 0 + a.val) + k.val) := by omega
  exact ⟨key.1.trans (Go_at X Sl b h jj e0 (by show k0_off8 k 1 + 1 * e.val = _; omega)), key.2.trans (Gl_at X Sl b h jj e0)⟩

theorem pieces3_at (R15 : ∀ y : S4x512x128.Idx, (arg15.view.read (Elt Ideal) X_arg15 y : EReal) = ((X (b * 8192 + (2048 * jj.val + (4 * (y 1).val + (y 0).val))) (h * 128 + (y 2).val) : ℝ) : EReal)) (R16 : ∀ y : S4x640x128.Idx, (arg16.view.read (Elt Ideal) X_arg16 y : EReal) = ((Z X b h 2048 jj.val (1536 + (4 * (y 1).val + (y 0).val)) (y 2).val : ℝ) : EReal)) (R17 : ∀ y : S4x640x128.Idx, (arg17.view.read (Elt Ideal) X_arg17 y : EReal) = ((Z X b h 4096 jj.val (1536 + (4 * (y 1).val + (y 0).val)) (y 2).val : ℝ) : EReal))
    (k : Fin k0_t3_loop.trips) (x : S128x128.Idx) :
    ((o3 (F := Ideal) arg15 arg16 arg17 (k0_pay220 (F := Ideal) ((Sl h : ℝ) : EReal) k0_pay202 k0_pay203) X_arg15 X_arg16 X_arg17) k).2 x = Go X Sl b h jj 1 (((o3 (F := Ideal) arg15 arg16 arg17 (k0_pay220 (F := Ideal) ((Sl h : ℝ) : EReal) k0_pay202 k0_pay203) X_arg15 X_arg16 X_arg17) k).1.emb x) ∧ ((l3 (F := Ideal) arg15 arg16 (k0_pay220 (F := Ideal) ((Sl h : ℝ) : EReal) k0_pay202 k0_pay203) X_arg15 X_arg16) k).2 x = Gl X Sl b h jj 1 (((l3 (F := Ideal) arg15 arg16 (k0_pay220 (F := Ideal) ((Sl h : ℝ) : EReal) k0_pay202 k0_pay203) X_arg15 X_arg16) k).1.emb x) := by
  obtain ⟨q0, q1, q2, k0, k1, k2, s0, s1, hk⟩ := off3_at k
  obtain ⟨a, e, rfl⟩ := ix2_of x
  have key := pattern4 X Sl b h jj (k.val % 3 + 1) (by omega) (k.val / 3) (by omega) _ (arg15.view.readAt (Elt Ideal) (Rect.unit (s := S4x512x128) (k0_off9 k) S1x128x128.size (k0_off9_inb k)).toLoadRect X_arg15) (arg16.view.readAt (Elt Ideal) (Rect.unit (s := S4x640x128) (k0_off10 k) S1x256x128.size (k0_off10_inb k)).toLoadRect X_arg16) (arg17.view.readAt (Elt Ideal) (Rect.unit (s := S4x640x128) (k0_off10 k) S1x256x128.size (k0_off10_inb k)).toLoadRect X_arg17) (fun a m => bias4 (Sl h) (by omega) m)
    (fun a e => (R15 _).trans (X_at X (by show b * 8192 + (2048 * jj.val + (4 * (k0_off9 k 1 + 1 * a.val) + (k0_off9 k 0 + 1 * 0))) = _; omega)
      (by show h * 128 + (k0_off9 k 2 + 1 * e.val) = _; omega)))
    (fun m e => (R16 _).trans (Z_at X b h jj (by show 1536 + (4 * (k0_off10 k 1 + 1 * m.val) + (k0_off10 k 0 + 1 * 0)) = _; omega)
      (by show k0_off10 k 2 + 1 * e.val = _; omega)))
    (fun m e => (R17 _).trans (Z_at X b h jj (by show 1536 + (4 * (k0_off10 k 1 + 1 * m.val) + (k0_off10 k 0 + 1 * 0)) = _; omega)
      (by show k0_off10 k 2 + 1 * e.val = _; omega))) a e
  have e0 : 2048 * jj.val + (k0_off11 k 0 + 4 * a.val) = 2048 * jj.val + (4 * (128 * (k.val % 3 + 1) + a.val) + k.val / 3) := by omega
  exact ⟨key.1.trans (Go_at X Sl b h jj e0 (by show k0_off11 k 1 + 1 * e.val = _; omega)), key.2.trans (Gl_at X Sl b h jj e0)⟩

theorem pieces4_at (R18 : ∀ y : S16x128x128.Idx, (arg18.view.read (Elt Ideal) X_arg18 y : EReal) = ((X (b * 8192 + (2048 * jj.val + (16 * (y 1).val + (y 0).val))) (h * 128 + (y 2).val) : ℝ) : EReal)) (R19 : ∀ y : S16x256x128.Idx, (arg19.view.read (Elt Ideal) X_arg19 y : EReal) = ((Z X b h 2048 jj.val (16 * (y 1).val + (y 0).val) (y 2).val : ℝ) : EReal)) (R20 : ∀ y : S16x256x128.Idx, (arg20.view.read (Elt Ideal) X_arg20 y : EReal) = ((Z X b h 4096 jj.val (16 * (y 1).val + (y 0).val) (y 2).val : ℝ) : EReal))
    (k : Fin k0_t4_loop.trips) (x : S128x128.Idx) :
    ((o4 (F := Ideal) arg18 arg19 arg20 ((Sl h : ℝ) : EReal) k0_pay203 (k0_pay204 (BitVec.ofNat 32 jj.val)) X_arg18 X_arg19 X_arg20) k).2 x = Go X Sl b h jj 2 (((o4 (F := Ideal) arg18 arg19 arg20 ((Sl h : ℝ) : EReal) k0_pay203 (k0_pay204 (BitVec.ofNat 32 jj.val)) X_arg18 X_arg19 X_arg20) k).1.emb x) ∧ ((l4 (F := Ideal) arg18 arg19 ((Sl h : ℝ) : EReal) k0_pay203 (k0_pay204 (BitVec.ofNat 32 jj.val)) X_arg18 X_arg19) k).2 x = Gl X Sl b h jj 2 (((l4 (F := Ideal) arg18 arg19 ((Sl h : ℝ) : EReal) k0_pay203 (k0_pay204 (BitVec.ofNat 32 jj.val)) X_arg18 X_arg19) k).1.emb x) := by
  obtain ⟨q0, q1, q2, k0, k1, k2, s0, s1, hk⟩ := off4_at k
  obtain ⟨a, e, rfl⟩ := ix2_of x
  have key := pattern16 X Sl b h jj k.val hk (arg18.view.readAt (Elt Ideal) (Rect.unit (s := S16x128x128) (k0_off12 k) S1x128x128.size (k0_off12_inb k)).toLoadRect X_arg18) (arg19.view.readAt (Elt Ideal) (Rect.unit (s := S16x256x128) (k0_off13 k) S1x256x128.size (k0_off13_inb k)).toLoadRect X_arg19) (arg20.view.readAt (Elt Ideal) (Rect.unit (s := S16x256x128) (k0_off13 k) S1x256x128.size (k0_off13_inb k)).toLoadRect X_arg20)
    (fun a e => (R18 _).trans (X_at X (by show b * 8192 + (2048 * jj.val + (16 * (k0_off12 k 1 + 1 * a.val) + (k0_off12 k 0 + 1 * 0))) = _; omega)
      (by show h * 128 + (k0_off12 k 2 + 1 * e.val) = _; omega)))
    (fun m e => (R19 _).trans (Z_at X b h jj (by show (16 * (k0_off13 k 1 + 1 * m.val) + (k0_off13 k 0 + 1 * 0)) = _; omega)
      (by show k0_off13 k 2 + 1 * e.val = _; omega)))
    (fun m e => (R20 _).trans (Z_at X b h jj (by show (16 * (k0_off13 k 1 + 1 * m.val) + (k0_off13 k 0 + 1 * 0)) = _; omega)
      (by show k0_off13 k 2 + 1 * e.val = _; omega))) a e
  have e0 : 2048 * jj.val + (k0_off14 k 0 + 16 * a.val) = 2048 * jj.val + (16 * (128 * 0 + a.val) + k.val) := by omega
  exact ⟨key.1.trans (Go_at X Sl b h jj e0 (by show k0_off14 k 1 + 1 * e.val = _; omega)), key.2.trans (Gl_at X Sl b h jj e0)⟩

theorem pieces1_at (R4 : ∀ y : S2048x128.Idx, (arg4.view.read (Elt Ideal) X_arg4 y : EReal) = ((X (b * 8192 + (2048 * jj.val + (y 0).val)) (h * 128 + (y 1).val) : ℝ) : EReal)) (R21 : ∀ y : S2176x128.Idx, (arg21.view.read (Elt Ideal) X_arg21 y : EReal) = ((Z X b h 2048 jj.val (1920 + (y 0).val) (y 1).val : ℝ) : EReal)) (R22 : ∀ y : S2176x128.Idx, (arg22.view.read (Elt Ideal) X_arg22 y : EReal) = ((Z X b h 4096 jj.val (1920 + (y 0).val) (y 1).val : ℝ) : EReal))
    (k : Fin k0_t1_loop.trips) (x : S128x128.Idx) :
    ((o1 (F := Ideal) arg4 arg21 arg22 (k0_pay206 ((Sl h : ℝ) : EReal)) X_arg4 X_arg21 X_arg22) k).2 x = Go X Sl b h jj 0 (((o1 (F := Ideal) arg4 arg21 arg22 (k0_pay206 ((Sl h : ℝ) : EReal)) X_arg4 X_arg21 X_arg22) k).1.emb x) ∧ ((l1 (F := Ideal) arg4 arg21 (k0_pay206 ((Sl h : ℝ) : EReal)) X_arg4 X_arg21) k).2 x = Gl X Sl b h jj 0 (((l1 (F := Ideal) arg4 arg21 (k0_pay206 ((Sl h : ℝ) : EReal)) X_arg4 X_arg21) k).1.emb x) := by
  obtain ⟨q0, q1, k0, k1, s0, s1, hk⟩ := off1_at k
  obtain ⟨a, e, rfl⟩ := ix2_of x
  have key := pattern1 X Sl b h jj (k.val + 1) (by omega) (k0_pay213 (F := Ideal) (k0_pay206 ((Sl h : ℝ) : EReal)) (k0_pay96 (arg4.view.readAt (Elt Ideal) (Rect.unit (s := S2048x128) (k0_off3 k) S128x128.size (k0_off3_inb k)).toLoadRect X_arg4) (arg21.view.readAt (Elt Ideal) (Rect.unit (s := S2176x128) (k0_off4 k) S256x128.size (k0_off4_inb k)).toLoadRect X_arg21))) (k0_pay206 (F := Ideal) ((Sl h : ℝ) : EReal)) (arg4.view.readAt (Elt Ideal) (Rect.unit (s := S2048x128) (k0_off3 k) S128x128.size (k0_off3_inb k)).toLoadRect X_arg4) (arg21.view.readAt (Elt Ideal) (Rect.unit (s := S2176x128) (k0_off4 k) S256x128.size (k0_off4_inb k)).toLoadRect X_arg21) (arg22.view.readAt (Elt Ideal) (Rect.unit (s := S2176x128) (k0_off4 k) S256x128.size (k0_off4_inb k)).toLoadRect X_arg22)
    (fun a m => any1 _ _ _ m) (fun a m => bias1 (Sl h) (by omega) m)
    (fun a e => (R4 _).trans (X_at X (by show b * 8192 + (2048 * jj.val + (k0_off3 k 0 + 1 * a.val)) = _; omega)
      (by show h * 128 + (k0_off3 k 1 + 1 * e.val) = _; omega)))
    (fun m e => (R21 _).trans (Z_at X b h jj (by show 1920 + (k0_off4 k 0 + 1 * m.val) = _; omega) (by show k0_off4 k 1 + 1 * e.val = _; omega)))
    (fun m e => (R22 _).trans (Z_at X b h jj (by show 1920 + (k0_off4 k 0 + 1 * m.val) = _; omega) (by show k0_off4 k 1 + 1 * e.val = _; omega))) a e
  have e0 : 2048 * jj.val + (k0_off5 k 0 + 1 * a.val) = 2048 * jj.val + (128 * (k.val + 1) + a.val) := by omega
  exact ⟨key.1.trans (Go_at X Sl b h jj e0 (by show k0_off5 k 1 + 1 * e.val = _; omega)), key.2.trans (Gl_at X Sl b h jj e0)⟩

theorem piece0_at (R4 : ∀ y : S2048x128.Idx, (arg4.view.read (Elt Ideal) X_arg4 y : EReal) = ((X (b * 8192 + (2048 * jj.val + (y 0).val)) (h * 128 + (y 1).val) : ℝ) : EReal)) (R21 : ∀ y : S2176x128.Idx, (arg21.view.read (Elt Ideal) X_arg21 y : EReal) = ((Z X b h 2048 jj.val (1920 + (y 0).val) (y 1).val : ℝ) : EReal)) (R22 : ∀ y : S2176x128.Idx, (arg22.view.read (Elt Ideal) X_arg22 y : EReal) = ((Z X b h 4096 jj.val (1920 + (y 0).val) (y 1).val : ℝ) : EReal))
    (x : S128x128.Idx) :
    ((⟨Rect.unit (s := S2048x128) k0_off2 S128x128.size k0_off2_inb, k0_pay211 (arg22.view.readAt (Elt Ideal) (Rect.unit (s := S2176x128) ![0, 0] S256x128.size inb_S2176x128_S256x128_0_0).toLoadRect X_arg22) (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)).2 x = Go X Sl b h jj 0 (((⟨Rect.unit (s := S2048x128) k0_off2 S128x128.size k0_off2_inb, k0_pay211 (arg22.view.readAt (Elt Ideal) (Rect.unit (s := S2176x128) ![0, 0] S256x128.size inb_S2176x128_S256x128_0_0).toLoadRect X_arg22) (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)).1.emb x) ∧ ((⟨Rect.unit (s := S2048x128) k0_off2 S128x128.size k0_off2_inb, k0_pay212 (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)).2 x = Gl X Sl b h jj 0 (((⟨Rect.unit (s := S2048x128) k0_off2 S128x128.size k0_off2_inb, k0_pay212 (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)).1.emb x) := by
  obtain ⟨a, e, rfl⟩ := ix2_of x
  have key := pattern1 X Sl b h jj 0 (by omega) (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21)) (fun y => if Kept (jj.val = 0 ∧ (0 : ℕ) = 0) (y 0).val (y 1).val then (((128 + ((y 0).val : ℝ) - (y 1).val) * (0 - Sl h * dil 0) : ℝ) : EReal) else ⊥) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21) (arg22.view.readAt (Elt Ideal) (Rect.unit (s := S2176x128) ![0, 0] S256x128.size inb_S2176x128_S256x128_0_0).toLoadRect X_arg22)
    (fun a m => first1 _ _ (Sl h) jj rfl m) (fun a m => rfl)
    (fun a e => (R4 _).trans (X_at X (by show b * 8192 + (2048 * jj.val + (0 + 1 * a.val)) = _; omega) (by show h * 128 + (0 + 1 * e.val) = _; omega)))
    (fun m e => (R21 _).trans (Z_at X b h jj (by show 1920 + (0 + 1 * m.val) = _; omega) (by show 0 + 1 * e.val = _; omega)))
    (fun m e => (R22 _).trans (Z_at X b h jj (by show 1920 + (0 + 1 * m.val) = _; omega) (by show 0 + 1 * e.val = _; omega))) a e
  have e0 : 2048 * jj.val + (0 + 1 * a.val) = 2048 * jj.val + (128 * 0 + a.val) := by omega
  exact ⟨key.1.trans (Go_at X Sl b h jj e0 (by show 0 + 1 * e.val = _; omega)), key.2.trans (Gl_at X Sl b h jj e0)⟩

theorem read_o4 (R18 : ∀ y : S16x128x128.Idx, (arg18.view.read (Elt Ideal) X_arg18 y : EReal) = ((X (b * 8192 + (2048 * jj.val + (16 * (y 1).val + (y 0).val))) (h * 128 + (y 2).val) : ℝ) : EReal)) (R19 : ∀ y : S16x256x128.Idx, (arg19.view.read (Elt Ideal) X_arg19 y : EReal) = ((Z X b h 2048 jj.val (16 * (y 1).val + (y 0).val) (y 2).val : ℝ) : EReal)) (R20 : ∀ y : S16x256x128.Idx, (arg20.view.read (Elt Ideal) X_arg20 y : EReal) = ((Z X b h 4096 jj.val (16 * (y 1).val + (y 0).val) (y 2).val : ℝ) : EReal)) (y : S2048x128.Idx) :
    (arg25.view.read (Elt Ideal) (arg25.view.writes (Elt Ideal) X_arg25 (upTo (o4 (F := Ideal) arg18 arg19 arg20 ((Sl h : ℝ) : EReal) k0_pay203 (k0_pay204 (BitVec.ofNat 32 jj.val)) X_arg18 X_arg19 X_arg20) 16)) y : EReal) = Go X Sl b h jj 2 y := by
  have hy0 : (y 0).val < 2048 := (y 0).isLt
  have hy1 : (y 1).val < 128 := (y 1).isLt
  refine View.read_writes_apply_of_pieces arg25.view X_arg25 (Go X Sl b h jj 2) _ ?_ y ?_
  · intro p hp x
    obtain ⟨k, -, rfl⟩ := (mem_upTo _ _ _).1 hp
    exact (pieces4_at X Sl b h jj arg18 arg19 arg20 X_arg18 X_arg19 X_arg20 R18 R19 R20 k x).1
  · obtain ⟨k, hk⟩ : ∃ k : Fin k0_t4_loop.trips, k.val = (y 0).val % 16 := ⟨⟨(y 0).val % 16, by show _ < 16; omega⟩, rfl⟩
    obtain ⟨s0, s1, -⟩ := (off4_at k).2.2.2.2.2.2
    refine ⟨_, (mem_upTo _ _ _).2 ⟨k, by omega, rfl⟩, ?_⟩
    exact mem_set2 _ y ((y 0).val / 16) (y 1).val (by show _ < 128; omega) (by show _ < 128; omega) (by show (y 0).val = k0_off14 k 0 + 16 * ((y 0).val / 16); omega) (by show (y 1).val = k0_off14 k 1 + 1 * (y 1).val; omega)

theorem read_l4 (R18 : ∀ y : S16x128x128.Idx, (arg18.view.read (Elt Ideal) X_arg18 y : EReal) = ((X (b * 8192 + (2048 * jj.val + (16 * (y 1).val + (y 0).val))) (h * 128 + (y 2).val) : ℝ) : EReal)) (R19 : ∀ y : S16x256x128.Idx, (arg19.view.read (Elt Ideal) X_arg19 y : EReal) = ((Z X b h 2048 jj.val (16 * (y 1).val + (y 0).val) (y 2).val : ℝ) : EReal)) (R20 : ∀ y : S16x256x128.Idx, (arg20.view.read (Elt Ideal) X_arg20 y : EReal) = ((Z X b h 4096 jj.val (16 * (y 1).val + (y 0).val) (y 2).val : ℝ) : EReal)) (y : S2048x128.Idx) :
    (arg28.view.read (Elt Ideal) (arg28.view.writes (Elt Ideal) X_arg28 (upTo (l4 (F := Ideal) arg18 arg19 ((Sl h : ℝ) : EReal) k0_pay203 (k0_pay204 (BitVec.ofNat 32 jj.val)) X_arg18 X_arg19) 16)) y : EReal) = Gl X Sl b h jj 2 y := by
  have hy0 : (y 0).val < 2048 := (y 0).isLt
  have hy1 : (y 1).val < 128 := (y 1).isLt
  refine View.read_writes_apply_of_pieces arg28.view X_arg28 (Gl X Sl b h jj 2) _ ?_ y ?_
  · intro p hp x
    obtain ⟨k, -, rfl⟩ := (mem_upTo _ _ _).1 hp
    exact (pieces4_at X Sl b h jj arg18 arg19 arg20 X_arg18 X_arg19 X_arg20 R18 R19 R20 k x).2
  · obtain ⟨k, hk⟩ : ∃ k : Fin k0_t4_loop.trips, k.val = (y 0).val % 16 := ⟨⟨(y 0).val % 16, by show _ < 16; omega⟩, rfl⟩
    obtain ⟨s0, s1, -⟩ := (off4_at k).2.2.2.2.2.2
    refine ⟨_, (mem_upTo _ _ _).2 ⟨k, by omega, rfl⟩, ?_⟩
    exact mem_set2 _ y ((y 0).val / 16) (y 1).val (by show _ < 128; omega) (by show _ < 128; omega) (by show (y 0).val = k0_off14 k 0 + 16 * ((y 0).val / 16); omega) (by show (y 1).val = k0_off14 k 1 + 1 * (y 1).val; omega)

theorem read_o2 (R15 : ∀ y : S4x512x128.Idx, (arg15.view.read (Elt Ideal) X_arg15 y : EReal) = ((X (b * 8192 + (2048 * jj.val + (4 * (y 1).val + (y 0).val))) (h * 128 + (y 2).val) : ℝ) : EReal)) (R16 : ∀ y : S4x640x128.Idx, (arg16.view.read (Elt Ideal) X_arg16 y : EReal) = ((Z X b h 2048 jj.val (1536 + (4 * (y 1).val + (y 0).val)) (y 2).val : ℝ) : EReal)) (R17 : ∀ y : S4x640x128.Idx, (arg17.view.read (Elt Ideal) X_arg17 y : EReal) = ((Z X b h 4096 jj.val (1536 + (4 * (y 1).val + (y 0).val)) (y 2).val : ℝ) : EReal)) (y : S2048x128.Idx) :
    (arg24.view.read (Elt Ideal) (arg24.view.writes (Elt Ideal) X_arg24 (upTo (o3 (F := Ideal) arg15 arg16 arg17 (k0_pay220 (F := Ideal) ((Sl h : ℝ) : EReal) k0_pay202 k0_pay203) X_arg15 X_arg16 X_arg17) 12 ++ upTo (o2 (F := Ideal) arg15 arg16 arg17 ((Sl h : ℝ) : EReal) k0_pay203 (k0_pay204 (BitVec.ofNat 32 jj.val)) X_arg15 X_arg16 X_arg17) 4)) y : EReal) = Go X Sl b h jj 1 y := by
  have hy0 : (y 0).val < 2048 := (y 0).isLt
  have hy1 : (y 1).val < 128 := (y 1).isLt
  refine View.read_writes_apply_of_pieces arg24.view X_arg24 (Go X Sl b h jj 1) _ ?_ y ?_
  · intro p hp x
    rcases List.mem_append.1 hp with hp | hp
    · obtain ⟨k, -, rfl⟩ := (mem_upTo _ _ _).1 hp
      exact (pieces3_at X Sl b h jj arg15 arg16 arg17 X_arg15 X_arg16 X_arg17 R15 R16 R17 k x).1
    · obtain ⟨k, -, rfl⟩ := (mem_upTo _ _ _).1 hp
      exact (pieces2_at X Sl b h jj arg15 arg16 arg17 X_arg15 X_arg16 X_arg17 R15 R16 R17 k x).1
  · obtain ⟨n, hn⟩ : ∃ n, n = (y 0).val / 512 := ⟨_, rfl⟩
    rcases Nat.eq_zero_or_pos n with h0 | h0
    · obtain ⟨k, hk⟩ : ∃ k : Fin k0_t2_loop.trips, k.val = (y 0).val % 4 := ⟨⟨(y 0).val % 4, by show _ < 4; omega⟩, rfl⟩
      obtain ⟨s0, s1, -⟩ := (off2_at k).2.2.2.2.2.2
      refine ⟨_, List.mem_append_right _ ((mem_upTo _ _ _).2 ⟨k, by omega, rfl⟩), ?_⟩
      exact mem_set2 _ y ((y 0).val / 4) (y 1).val (by show _ < 128; omega) (by show _ < 128; omega) (by show (y 0).val = k0_off8 k 0 + 4 * ((y 0).val / 4); omega) (by show (y 1).val = k0_off8 k 1 + 1 * (y 1).val; omega)
    · obtain ⟨k, hk⟩ : ∃ k : Fin k0_t3_loop.trips, k.val = 3 * ((y 0).val % 4) + (n - 1) := ⟨⟨3 * ((y 0).val % 4) + (n - 1), by show _ < 12; omega⟩, rfl⟩
      obtain ⟨s0, s1, -⟩ := (off3_at k).2.2.2.2.2.2
      refine ⟨_, List.mem_append_left _ ((mem_upTo _ _ _).2 ⟨k, by omega, rfl⟩), ?_⟩
      exact mem_set2 _ y ((y 0).val / 4 - 128 * n) (y 1).val (by show _ < 128; omega) (by show _ < 128; omega) (by show (y 0).val = k0_off11 k 0 + 4 * ((y 0).val / 4 - 128 * n); omega) (by show (y 1).val = k0_off11 k 1 + 1 * (y 1).val; omega)

theorem read_l2 (R15 : ∀ y : S4x512x128.Idx, (arg15.view.read (Elt Ideal) X_arg15 y : EReal) = ((X (b * 8192 + (2048 * jj.val + (4 * (y 1).val + (y 0).val))) (h * 128 + (y 2).val) : ℝ) : EReal)) (R16 : ∀ y : S4x640x128.Idx, (arg16.view.read (Elt Ideal) X_arg16 y : EReal) = ((Z X b h 2048 jj.val (1536 + (4 * (y 1).val + (y 0).val)) (y 2).val : ℝ) : EReal)) (R17 : ∀ y : S4x640x128.Idx, (arg17.view.read (Elt Ideal) X_arg17 y : EReal) = ((Z X b h 4096 jj.val (1536 + (4 * (y 1).val + (y 0).val)) (y 2).val : ℝ) : EReal)) (y : S2048x128.Idx) :
    (arg27.view.read (Elt Ideal) (arg27.view.writes (Elt Ideal) X_arg27 (upTo (l3 (F := Ideal) arg15 arg16 (k0_pay220 (F := Ideal) ((Sl h : ℝ) : EReal) k0_pay202 k0_pay203) X_arg15 X_arg16) 12 ++ upTo (l2 (F := Ideal) arg15 arg16 ((Sl h : ℝ) : EReal) k0_pay203 (k0_pay204 (BitVec.ofNat 32 jj.val)) X_arg15 X_arg16) 4)) y : EReal) = Gl X Sl b h jj 1 y := by
  have hy0 : (y 0).val < 2048 := (y 0).isLt
  have hy1 : (y 1).val < 128 := (y 1).isLt
  refine View.read_writes_apply_of_pieces arg27.view X_arg27 (Gl X Sl b h jj 1) _ ?_ y ?_
  · intro p hp x
    rcases List.mem_append.1 hp with hp | hp
    · obtain ⟨k, -, rfl⟩ := (mem_upTo _ _ _).1 hp
      exact (pieces3_at X Sl b h jj arg15 arg16 arg17 X_arg15 X_arg16 X_arg17 R15 R16 R17 k x).2
    · obtain ⟨k, -, rfl⟩ := (mem_upTo _ _ _).1 hp
      exact (pieces2_at X Sl b h jj arg15 arg16 arg17 X_arg15 X_arg16 X_arg17 R15 R16 R17 k x).2
  · obtain ⟨n, hn⟩ : ∃ n, n = (y 0).val / 512 := ⟨_, rfl⟩
    rcases Nat.eq_zero_or_pos n with h0 | h0
    · obtain ⟨k, hk⟩ : ∃ k : Fin k0_t2_loop.trips, k.val = (y 0).val % 4 := ⟨⟨(y 0).val % 4, by show _ < 4; omega⟩, rfl⟩
      obtain ⟨s0, s1, -⟩ := (off2_at k).2.2.2.2.2.2
      refine ⟨_, List.mem_append_right _ ((mem_upTo _ _ _).2 ⟨k, by omega, rfl⟩), ?_⟩
      exact mem_set2 _ y ((y 0).val / 4) (y 1).val (by show _ < 128; omega) (by show _ < 128; omega) (by show (y 0).val = k0_off8 k 0 + 4 * ((y 0).val / 4); omega) (by show (y 1).val = k0_off8 k 1 + 1 * (y 1).val; omega)
    · obtain ⟨k, hk⟩ : ∃ k : Fin k0_t3_loop.trips, k.val = 3 * ((y 0).val % 4) + (n - 1) := ⟨⟨3 * ((y 0).val % 4) + (n - 1), by show _ < 12; omega⟩, rfl⟩
      obtain ⟨s0, s1, -⟩ := (off3_at k).2.2.2.2.2.2
      refine ⟨_, List.mem_append_left _ ((mem_upTo _ _ _).2 ⟨k, by omega, rfl⟩), ?_⟩
      exact mem_set2 _ y ((y 0).val / 4 - 128 * n) (y 1).val (by show _ < 128; omega) (by show _ < 128; omega) (by show (y 0).val = k0_off11 k 0 + 4 * ((y 0).val / 4 - 128 * n); omega) (by show (y 1).val = k0_off11 k 1 + 1 * (y 1).val; omega)

theorem read_o1 (R4 : ∀ y : S2048x128.Idx, (arg4.view.read (Elt Ideal) X_arg4 y : EReal) = ((X (b * 8192 + (2048 * jj.val + (y 0).val)) (h * 128 + (y 1).val) : ℝ) : EReal)) (R21 : ∀ y : S2176x128.Idx, (arg21.view.read (Elt Ideal) X_arg21 y : EReal) = ((Z X b h 2048 jj.val (1920 + (y 0).val) (y 1).val : ℝ) : EReal)) (R22 : ∀ y : S2176x128.Idx, (arg22.view.read (Elt Ideal) X_arg22 y : EReal) = ((Z X b h 4096 jj.val (1920 + (y 0).val) (y 1).val : ℝ) : EReal)) (y : S2048x128.Idx) :
    (arg23.view.read (Elt Ideal) (arg23.view.writes (Elt Ideal) X_arg23 (upTo (o1 (F := Ideal) arg4 arg21 arg22 (k0_pay206 ((Sl h : ℝ) : EReal)) X_arg4 X_arg21 X_arg22) 15 ++ [(⟨Rect.unit (s := S2048x128) k0_off2 S128x128.size k0_off2_inb, k0_pay211 (arg22.view.readAt (Elt Ideal) (Rect.unit (s := S2176x128) ![0, 0] S256x128.size inb_S2176x128_S256x128_0_0).toLoadRect X_arg22) (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)])) y : EReal) = Go X Sl b h jj 0 y := by
  have hy0 : (y 0).val < 2048 := (y 0).isLt
  have hy1 : (y 1).val < 128 := (y 1).isLt
  refine View.read_writes_apply_of_pieces arg23.view X_arg23 (Go X Sl b h jj 0) _ ?_ y ?_
  · intro p hp x
    rcases List.mem_append.1 hp with hp | hp
    · obtain ⟨k, -, rfl⟩ := (mem_upTo _ _ _).1 hp
      exact (pieces1_at X Sl b h jj arg4 arg21 arg22 X_arg4 X_arg21 X_arg22 R4 R21 R22 k x).1
    · obtain rfl := List.mem_singleton.1 hp
      exact (piece0_at X Sl b h jj arg4 arg21 arg22 X_arg4 X_arg21 X_arg22 R4 R21 R22 x).1
  · obtain ⟨n, hn⟩ : ∃ n, n = (y 0).val / 128 := ⟨_, rfl⟩
    rcases Nat.eq_zero_or_pos n with h0 | h0
    · refine ⟨_, List.mem_append_right _ (List.mem_singleton.2 rfl), ?_⟩
      exact mem_set2 _ y ((y 0).val) (y 1).val (by show _ < 128; omega) (by show _ < 128; omega) (by show (y 0).val = 0 + 1 * ((y 0).val); omega) (by show (y 1).val = 0 + 1 * (y 1).val; omega)
    · obtain ⟨k, hk⟩ : ∃ k : Fin k0_t1_loop.trips, k.val = n - 1 := ⟨⟨n - 1, by show _ < 15; omega⟩, rfl⟩
      obtain ⟨s0, s1, -⟩ := (off1_at k).2.2.2.2
      refine ⟨_, List.mem_append_left _ ((mem_upTo _ _ _).2 ⟨k, by omega, rfl⟩), ?_⟩
      exact mem_set2 _ y ((y 0).val - 128 * n) (y 1).val (by show _ < 128; omega) (by show _ < 128; omega) (by show (y 0).val = k0_off5 k 0 + 1 * ((y 0).val - 128 * n); omega) (by show (y 1).val = k0_off5 k 1 + 1 * (y 1).val; omega)

theorem read_l1 (R4 : ∀ y : S2048x128.Idx, (arg4.view.read (Elt Ideal) X_arg4 y : EReal) = ((X (b * 8192 + (2048 * jj.val + (y 0).val)) (h * 128 + (y 1).val) : ℝ) : EReal)) (R21 : ∀ y : S2176x128.Idx, (arg21.view.read (Elt Ideal) X_arg21 y : EReal) = ((Z X b h 2048 jj.val (1920 + (y 0).val) (y 1).val : ℝ) : EReal)) (R22 : ∀ y : S2176x128.Idx, (arg22.view.read (Elt Ideal) X_arg22 y : EReal) = ((Z X b h 4096 jj.val (1920 + (y 0).val) (y 1).val : ℝ) : EReal)) (y : S2048x128.Idx) :
    (arg26.view.read (Elt Ideal) (arg26.view.writes (Elt Ideal) X_arg26 (upTo (l1 (F := Ideal) arg4 arg21 (k0_pay206 ((Sl h : ℝ) : EReal)) X_arg4 X_arg21) 15 ++ [(⟨Rect.unit (s := S2048x128) k0_off2 S128x128.size k0_off2_inb, k0_pay212 (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)])) y : EReal) = Gl X Sl b h jj 0 y := by
  have hy0 : (y 0).val < 2048 := (y 0).isLt
  have hy1 : (y 1).val < 128 := (y 1).isLt
  refine View.read_writes_apply_of_pieces arg26.view X_arg26 (Gl X Sl b h jj 0) _ ?_ y ?_
  · intro p hp x
    rcases List.mem_append.1 hp with hp | hp
    · obtain ⟨k, -, rfl⟩ := (mem_upTo _ _ _).1 hp
      exact (pieces1_at X Sl b h jj arg4 arg21 arg22 X_arg4 X_arg21 X_arg22 R4 R21 R22 k x).2
    · obtain rfl := List.mem_singleton.1 hp
      exact (piece0_at X Sl b h jj arg4 arg21 arg22 X_arg4 X_arg21 X_arg22 R4 R21 R22 x).2
  · obtain ⟨n, hn⟩ : ∃ n, n = (y 0).val / 128 := ⟨_, rfl⟩
    rcases Nat.eq_zero_or_pos n with h0 | h0
    · refine ⟨_, List.mem_append_right _ (List.mem_singleton.2 rfl), ?_⟩
      exact mem_set2 _ y ((y 0).val) (y 1).val (by show _ < 128; omega) (by show _ < 128; omega) (by show (y 0).val = 0 + 1 * ((y 0).val); omega) (by show (y 1).val = 0 + 1 * (y 1).val; omega)
    · obtain ⟨k, hk⟩ : ∃ k : Fin k0_t1_loop.trips, k.val = n - 1 := ⟨⟨n - 1, by show _ < 15; omega⟩, rfl⟩
      obtain ⟨s0, s1, -⟩ := (off1_at k).2.2.2.2
      refine ⟨_, List.mem_append_left _ ((mem_upTo _ _ _).2 ⟨k, by omega, rfl⟩), ?_⟩
      exact mem_set2 _ y ((y 0).val - 128 * n) (y 1).val (by show _ < 128; omega) (by show _ < 128; omega) (by show (y 0).val = k0_off5 k 0 + 1 * ((y 0).val - 128 * n); omega) (by show (y 1).val = k0_off5 k 1 + 1 * (y 1).val; omega)

/-- The output tile: the patterns' mixture under the gate. -/
def Out (y : S2048x128.Idx) : EReal :=
  ((mixed X Sl b h (2048 * jj.val + (y 0).val) (y 1).val : ℝ) : EReal)
    * (((X (b * 8192 + (2048 * jj.val + (y 0).val)) (6144 + (h * 128 + (y 1).val)) : ℝ) : EReal)
      * Ideal.div 1 (1 + Ideal.exp (-((X (b * 8192 + (2048 * jj.val + (y 0).val)) (6144 + (h * 128 + (y 1).val)) : ℝ) : EReal))))

theorem merged (y : S2048x128.Idx) (x : S128x128.Idx) (a1 a4 a16 b1 b4 b16 : Vec Ideal S128x128 .f32) (g : Vec Ideal S128x128 .bf16)
    (h1 : a1 x = Gl X Sl b h jj 0 y) (h4 : a4 x = Gl X Sl b h jj 1 y) (h16 : a16 x = Gl X Sl b h jj 2 y)
    (o1 : b1 x = Go X Sl b h jj 0 y) (o4 : b4 x = Go X Sl b h jj 1 y) (o16 : b16 x = Go X Sl b h jj 2 y)
    (hg : g x = ((X (b * 8192 + (2048 * jj.val + (y 0).val)) (6144 + (h * 128 + (y 1).val)) : ℝ) : EReal)) :
    k0_pay105 a1 a4 a16 b1 b4 b16 g x = Out X Sl b h jj y := by
  have hy0 : (y 0).val < 2048 := (y 0).isLt
  have hj := jj.isLt
  unfold k0_pay105
  pointwise
  rw [h1, h4, h16, o1, o4, o16, hg]
  have hm := merge (fun p => W X Sl b h (2048 * jj.val + (y 0).val) p) (fun p => N X Sl b h (2048 * jj.val + (y 0).val) (y 1).val p)
    (fun p => W_pos X Sl b h _ (by omega) p)
    (max (max (Real.log (W X Sl b h (2048 * jj.val + (y 0).val) 0)) (Real.log (W X Sl b h (2048 * jj.val + (y 0).val) 1))) (Real.log (W X Sl b h (2048 * jj.val + (y 0).val) 2)))
  have hx : ∀ u v : ℝ, ((max u v : ℝ) : EReal) = max (u : EReal) (v : EReal) := fun u v => EReal.coe_strictMono.monotone.map_max
  rw [hx, hx] at hm
  unfold Out Gl Go mixed
  rw [← hm]
  simp only [Unit.one, zero_sub, EReal.coe_one]

variable (arg8 : Memref sig .tc .vmem S2048x128 .bf16) (f8 : BufTy.Contents (Elt Ideal) arg8.view.ty)

theorem pieces5_at (R4 : ∀ y : S2048x128.Idx, (arg4.view.read (Elt Ideal) X_arg4 y : EReal) = ((X (b * 8192 + (2048 * jj.val + (y 0).val)) (h * 128 + (y 1).val) : ℝ) : EReal)) (R7 : ∀ y : S2048x128.Idx, (arg7.view.read (Elt Ideal) X_arg7 y : EReal) = ((X (b * 8192 + (2048 * jj.val + (y 0).val)) (6144 + (h * 128 + (y 1).val)) : ℝ) : EReal)) (R15 : ∀ y : S4x512x128.Idx, (arg15.view.read (Elt Ideal) X_arg15 y : EReal) = ((X (b * 8192 + (2048 * jj.val + (4 * (y 1).val + (y 0).val))) (h * 128 + (y 2).val) : ℝ) : EReal)) (R16 : ∀ y : S4x640x128.Idx, (arg16.view.read (Elt Ideal) X_arg16 y : EReal) = ((Z X b h 2048 jj.val (1536 + (4 * (y 1).val + (y 0).val)) (y 2).val : ℝ) : EReal)) (R17 : ∀ y : S4x640x128.Idx, (arg17.view.read (Elt Ideal) X_arg17 y : EReal) = ((Z X b h 4096 jj.val (1536 + (4 * (y 1).val + (y 0).val)) (y 2).val : ℝ) : EReal)) (R18 : ∀ y : S16x128x128.Idx, (arg18.view.read (Elt Ideal) X_arg18 y : EReal) = ((X (b * 8192 + (2048 * jj.val + (16 * (y 1).val + (y 0).val))) (h * 128 + (y 2).val) : ℝ) : EReal)) (R19 : ∀ y : S16x256x128.Idx, (arg19.view.read (Elt Ideal) X_arg19 y : EReal) = ((Z X b h 2048 jj.val (16 * (y 1).val + (y 0).val) (y 2).val : ℝ) : EReal)) (R20 : ∀ y : S16x256x128.Idx, (arg20.view.read (Elt Ideal) X_arg20 y : EReal) = ((Z X b h 4096 jj.val (16 * (y 1).val + (y 0).val) (y 2).val : ℝ) : EReal)) (R21 : ∀ y : S2176x128.Idx, (arg21.view.read (Elt Ideal) X_arg21 y : EReal) = ((Z X b h 2048 jj.val (1920 + (y 0).val) (y 1).val : ℝ) : EReal)) (R22 : ∀ y : S2176x128.Idx, (arg22.view.read (Elt Ideal) X_arg22 y : EReal) = ((Z X b h 4096 jj.val (1920 + (y 0).val) (y 1).val : ℝ) : EReal))
    (k : Fin k0_t5_loop.trips) (x : S128x128.Idx) :
    ((m5 (F := Ideal) arg7 arg23 arg24 arg25 arg26 arg27 arg28 X_arg7 (arg23.view.writes (Elt Ideal) X_arg23 (upTo (o1 (F := Ideal) arg4 arg21 arg22 (k0_pay206 ((Sl h : ℝ) : EReal)) X_arg4 X_arg21 X_arg22) 15 ++ [(⟨Rect.unit (s := S2048x128) k0_off2 S128x128.size k0_off2_inb, k0_pay211 (arg22.view.readAt (Elt Ideal) (Rect.unit (s := S2176x128) ![0, 0] S256x128.size inb_S2176x128_S256x128_0_0).toLoadRect X_arg22) (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)])) (arg24.view.writes (Elt Ideal) X_arg24 (upTo (o3 (F := Ideal) arg15 arg16 arg17 (k0_pay220 (F := Ideal) ((Sl h : ℝ) : EReal) k0_pay202 k0_pay203) X_arg15 X_arg16 X_arg17) 12 ++ upTo (o2 (F := Ideal) arg15 arg16 arg17 ((Sl h : ℝ) : EReal) k0_pay203 (k0_pay204 (BitVec.ofNat 32 jj.val)) X_arg15 X_arg16 X_arg17) 4)) (arg25.view.writes (Elt Ideal) X_arg25 (upTo (o4 (F := Ideal) arg18 arg19 arg20 ((Sl h : ℝ) : EReal) k0_pay203 (k0_pay204 (BitVec.ofNat 32 jj.val)) X_arg18 X_arg19 X_arg20) 16)) (arg26.view.writes (Elt Ideal) X_arg26 (upTo (l1 (F := Ideal) arg4 arg21 (k0_pay206 ((Sl h : ℝ) : EReal)) X_arg4 X_arg21) 15 ++ [(⟨Rect.unit (s := S2048x128) k0_off2 S128x128.size k0_off2_inb, k0_pay212 (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)])) (arg27.view.writes (Elt Ideal) X_arg27 (upTo (l3 (F := Ideal) arg15 arg16 (k0_pay220 (F := Ideal) ((Sl h : ℝ) : EReal) k0_pay202 k0_pay203) X_arg15 X_arg16) 12 ++ upTo (l2 (F := Ideal) arg15 arg16 ((Sl h : ℝ) : EReal) k0_pay203 (k0_pay204 (BitVec.ofNat 32 jj.val)) X_arg15 X_arg16) 4)) (arg28.view.writes (Elt Ideal) X_arg28 (upTo (l4 (F := Ideal) arg18 arg19 ((Sl h : ℝ) : EReal) k0_pay203 (k0_pay204 (BitVec.ofNat 32 jj.val)) X_arg18 X_arg19) 16))) k).2 x = Out X Sl b h jj (((m5 (F := Ideal) arg7 arg23 arg24 arg25 arg26 arg27 arg28 X_arg7 (arg23.view.writes (Elt Ideal) X_arg23 (upTo (o1 (F := Ideal) arg4 arg21 arg22 (k0_pay206 ((Sl h : ℝ) : EReal)) X_arg4 X_arg21 X_arg22) 15 ++ [(⟨Rect.unit (s := S2048x128) k0_off2 S128x128.size k0_off2_inb, k0_pay211 (arg22.view.readAt (Elt Ideal) (Rect.unit (s := S2176x128) ![0, 0] S256x128.size inb_S2176x128_S256x128_0_0).toLoadRect X_arg22) (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)])) (arg24.view.writes (Elt Ideal) X_arg24 (upTo (o3 (F := Ideal) arg15 arg16 arg17 (k0_pay220 (F := Ideal) ((Sl h : ℝ) : EReal) k0_pay202 k0_pay203) X_arg15 X_arg16 X_arg17) 12 ++ upTo (o2 (F := Ideal) arg15 arg16 arg17 ((Sl h : ℝ) : EReal) k0_pay203 (k0_pay204 (BitVec.ofNat 32 jj.val)) X_arg15 X_arg16 X_arg17) 4)) (arg25.view.writes (Elt Ideal) X_arg25 (upTo (o4 (F := Ideal) arg18 arg19 arg20 ((Sl h : ℝ) : EReal) k0_pay203 (k0_pay204 (BitVec.ofNat 32 jj.val)) X_arg18 X_arg19 X_arg20) 16)) (arg26.view.writes (Elt Ideal) X_arg26 (upTo (l1 (F := Ideal) arg4 arg21 (k0_pay206 ((Sl h : ℝ) : EReal)) X_arg4 X_arg21) 15 ++ [(⟨Rect.unit (s := S2048x128) k0_off2 S128x128.size k0_off2_inb, k0_pay212 (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)])) (arg27.view.writes (Elt Ideal) X_arg27 (upTo (l3 (F := Ideal) arg15 arg16 (k0_pay220 (F := Ideal) ((Sl h : ℝ) : EReal) k0_pay202 k0_pay203) X_arg15 X_arg16) 12 ++ upTo (l2 (F := Ideal) arg15 arg16 ((Sl h : ℝ) : EReal) k0_pay203 (k0_pay204 (BitVec.ofNat 32 jj.val)) X_arg15 X_arg16) 4)) (arg28.view.writes (Elt Ideal) X_arg28 (upTo (l4 (F := Ideal) arg18 arg19 ((Sl h : ℝ) : EReal) k0_pay203 (k0_pay204 (BitVec.ofNat 32 jj.val)) X_arg18 X_arg19) 16))) k).1.emb x) := by
  exact merged X Sl b h jj (((m5 (F := Ideal) arg7 arg23 arg24 arg25 arg26 arg27 arg28 X_arg7 (arg23.view.writes (Elt Ideal) X_arg23 (upTo (o1 (F := Ideal) arg4 arg21 arg22 (k0_pay206 ((Sl h : ℝ) : EReal)) X_arg4 X_arg21 X_arg22) 15 ++ [(⟨Rect.unit (s := S2048x128) k0_off2 S128x128.size k0_off2_inb, k0_pay211 (arg22.view.readAt (Elt Ideal) (Rect.unit (s := S2176x128) ![0, 0] S256x128.size inb_S2176x128_S256x128_0_0).toLoadRect X_arg22) (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)])) (arg24.view.writes (Elt Ideal) X_arg24 (upTo (o3 (F := Ideal) arg15 arg16 arg17 (k0_pay220 (F := Ideal) ((Sl h : ℝ) : EReal) k0_pay202 k0_pay203) X_arg15 X_arg16 X_arg17) 12 ++ upTo (o2 (F := Ideal) arg15 arg16 arg17 ((Sl h : ℝ) : EReal) k0_pay203 (k0_pay204 (BitVec.ofNat 32 jj.val)) X_arg15 X_arg16 X_arg17) 4)) (arg25.view.writes (Elt Ideal) X_arg25 (upTo (o4 (F := Ideal) arg18 arg19 arg20 ((Sl h : ℝ) : EReal) k0_pay203 (k0_pay204 (BitVec.ofNat 32 jj.val)) X_arg18 X_arg19 X_arg20) 16)) (arg26.view.writes (Elt Ideal) X_arg26 (upTo (l1 (F := Ideal) arg4 arg21 (k0_pay206 ((Sl h : ℝ) : EReal)) X_arg4 X_arg21) 15 ++ [(⟨Rect.unit (s := S2048x128) k0_off2 S128x128.size k0_off2_inb, k0_pay212 (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)])) (arg27.view.writes (Elt Ideal) X_arg27 (upTo (l3 (F := Ideal) arg15 arg16 (k0_pay220 (F := Ideal) ((Sl h : ℝ) : EReal) k0_pay202 k0_pay203) X_arg15 X_arg16) 12 ++ upTo (l2 (F := Ideal) arg15 arg16 ((Sl h : ℝ) : EReal) k0_pay203 (k0_pay204 (BitVec.ofNat 32 jj.val)) X_arg15 X_arg16) 4)) (arg28.view.writes (Elt Ideal) X_arg28 (upTo (l4 (F := Ideal) arg18 arg19 ((Sl h : ℝ) : EReal) k0_pay203 (k0_pay204 (BitVec.ofNat 32 jj.val)) X_arg18 X_arg19) 16))) k).1.emb x) x _ _ _ _ _ _ _ (read_l1 X Sl b h jj arg4 arg21 arg22 arg26 X_arg4 X_arg21 X_arg22 X_arg26 R4 R21 R22 _) (read_l2 X Sl b h jj arg15 arg16 arg17 arg27 X_arg15 X_arg16 X_arg17 X_arg27 R15 R16 R17 _) (read_l4 X Sl b h jj arg18 arg19 arg20 arg28 X_arg18 X_arg19 X_arg20 X_arg28 R18 R19 R20 _) (read_o1 X Sl b h jj arg4 arg21 arg22 arg23 X_arg4 X_arg21 X_arg22 X_arg23 R4 R21 R22 _) (read_o2 X Sl b h jj arg15 arg16 arg17 arg24 X_arg15 X_arg16 X_arg17 X_arg24 R15 R16 R17 _) (read_o4 X Sl b h jj arg18 arg19 arg20 arg25 X_arg18 X_arg19 X_arg20 X_arg25 R18 R19 R20 _) (R7 _)

theorem tile_at (R4 : ∀ y : S2048x128.Idx, (arg4.view.read (Elt Ideal) X_arg4 y : EReal) = ((X (b * 8192 + (2048 * jj.val + (y 0).val)) (h * 128 + (y 1).val) : ℝ) : EReal)) (R7 : ∀ y : S2048x128.Idx, (arg7.view.read (Elt Ideal) X_arg7 y : EReal) = ((X (b * 8192 + (2048 * jj.val + (y 0).val)) (6144 + (h * 128 + (y 1).val)) : ℝ) : EReal)) (R15 : ∀ y : S4x512x128.Idx, (arg15.view.read (Elt Ideal) X_arg15 y : EReal) = ((X (b * 8192 + (2048 * jj.val + (4 * (y 1).val + (y 0).val))) (h * 128 + (y 2).val) : ℝ) : EReal)) (R16 : ∀ y : S4x640x128.Idx, (arg16.view.read (Elt Ideal) X_arg16 y : EReal) = ((Z X b h 2048 jj.val (1536 + (4 * (y 1).val + (y 0).val)) (y 2).val : ℝ) : EReal)) (R17 : ∀ y : S4x640x128.Idx, (arg17.view.read (Elt Ideal) X_arg17 y : EReal) = ((Z X b h 4096 jj.val (1536 + (4 * (y 1).val + (y 0).val)) (y 2).val : ℝ) : EReal)) (R18 : ∀ y : S16x128x128.Idx, (arg18.view.read (Elt Ideal) X_arg18 y : EReal) = ((X (b * 8192 + (2048 * jj.val + (16 * (y 1).val + (y 0).val))) (h * 128 + (y 2).val) : ℝ) : EReal)) (R19 : ∀ y : S16x256x128.Idx, (arg19.view.read (Elt Ideal) X_arg19 y : EReal) = ((Z X b h 2048 jj.val (16 * (y 1).val + (y 0).val) (y 2).val : ℝ) : EReal)) (R20 : ∀ y : S16x256x128.Idx, (arg20.view.read (Elt Ideal) X_arg20 y : EReal) = ((Z X b h 4096 jj.val (16 * (y 1).val + (y 0).val) (y 2).val : ℝ) : EReal)) (R21 : ∀ y : S2176x128.Idx, (arg21.view.read (Elt Ideal) X_arg21 y : EReal) = ((Z X b h 2048 jj.val (1920 + (y 0).val) (y 1).val : ℝ) : EReal)) (R22 : ∀ y : S2176x128.Idx, (arg22.view.read (Elt Ideal) X_arg22 y : EReal) = ((Z X b h 4096 jj.val (1920 + (y 0).val) (y 1).val : ℝ) : EReal))
    (y : S2048x128.Idx) :
    (arg8.view.read (Elt Ideal) (arg8.view.writes (Elt Ideal) f8 (upTo (m5 (F := Ideal) arg7 arg23 arg24 arg25 arg26 arg27 arg28 X_arg7 (arg23.view.writes (Elt Ideal) X_arg23 (upTo (o1 (F := Ideal) arg4 arg21 arg22 (k0_pay206 ((Sl h : ℝ) : EReal)) X_arg4 X_arg21 X_arg22) 15 ++ [(⟨Rect.unit (s := S2048x128) k0_off2 S128x128.size k0_off2_inb, k0_pay211 (arg22.view.readAt (Elt Ideal) (Rect.unit (s := S2176x128) ![0, 0] S256x128.size inb_S2176x128_S256x128_0_0).toLoadRect X_arg22) (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)])) (arg24.view.writes (Elt Ideal) X_arg24 (upTo (o3 (F := Ideal) arg15 arg16 arg17 (k0_pay220 (F := Ideal) ((Sl h : ℝ) : EReal) k0_pay202 k0_pay203) X_arg15 X_arg16 X_arg17) 12 ++ upTo (o2 (F := Ideal) arg15 arg16 arg17 ((Sl h : ℝ) : EReal) k0_pay203 (k0_pay204 (BitVec.ofNat 32 jj.val)) X_arg15 X_arg16 X_arg17) 4)) (arg25.view.writes (Elt Ideal) X_arg25 (upTo (o4 (F := Ideal) arg18 arg19 arg20 ((Sl h : ℝ) : EReal) k0_pay203 (k0_pay204 (BitVec.ofNat 32 jj.val)) X_arg18 X_arg19 X_arg20) 16)) (arg26.view.writes (Elt Ideal) X_arg26 (upTo (l1 (F := Ideal) arg4 arg21 (k0_pay206 ((Sl h : ℝ) : EReal)) X_arg4 X_arg21) 15 ++ [(⟨Rect.unit (s := S2048x128) k0_off2 S128x128.size k0_off2_inb, k0_pay212 (k0_pay207 (F := Ideal) (BitVec.ofNat 32 jj.val) ((Sl h : ℝ) : EReal) (arg4.view.readAt (Elt Ideal) (Rect.unit (s := S2048x128) ![0, 0] S128x128.size inb_S2048x128_S128x128_0_0).toLoadRect X_arg4) (arg21.view.readAt (Elt Ideal) (Rect.unit (s := S2176x128) ![0, 0] S256x128.size inb_S2176x128_S256x128_0_0).toLoadRect X_arg21))⟩ : View.Piece (Elt Ideal) S2048x128 .f32)])) (arg27.view.writes (Elt Ideal) X_arg27 (upTo (l3 (F := Ideal) arg15 arg16 (k0_pay220 (F := Ideal) ((Sl h : ℝ) : EReal) k0_pay202 k0_pay203) X_arg15 X_arg16) 12 ++ upTo (l2 (F := Ideal) arg15 arg16 ((Sl h : ℝ) : EReal) k0_pay203 (k0_pay204 (BitVec.ofNat 32 jj.val)) X_arg15 X_arg16) 4)) (arg28.view.writes (Elt Ideal) X_arg28 (upTo (l4 (F := Ideal) arg18 arg19 ((Sl h : ℝ) : EReal) k0_pay203 (k0_pay204 (BitVec.ofNat 32 jj.val)) X_arg18 X_arg19) 16))) 16)) y : EReal) = Out X Sl b h jj y := by
  have hy0 : (y 0).val < 2048 := (y 0).isLt
  have hy1 : (y 1).val < 128 := (y 1).isLt
  refine View.read_writes_apply_of_pieces arg8.view f8 (Out X Sl b h jj) _ ?_ y ?_
  · intro p hp x
    obtain ⟨k, -, rfl⟩ := (mem_upTo _ _ _).1 hp
    exact pieces5_at X Sl b h jj arg4 arg7 arg15 arg16 arg17 arg18 arg19 arg20 arg21 arg22 arg23 arg24 arg25 arg26 arg27 arg28 X_arg4 X_arg7 X_arg15 X_arg16 X_arg17 X_arg18 X_arg19 X_arg20 X_arg21 X_arg22 X_arg23 X_arg24 X_arg25 X_arg26 X_arg27 X_arg28 R4 R7 R15 R16 R17 R18 R19 R20 R21 R22 k x
  · obtain ⟨k, hk⟩ : ∃ k : Fin k0_t5_loop.trips, k.val = (y 0).val / 128 := ⟨⟨(y 0).val / 128, by show _ < 16; omega⟩, rfl⟩
    obtain ⟨s0, s1, -⟩ := off5_at k
    refine ⟨_, (mem_upTo _ _ _).2 ⟨k, by omega, rfl⟩, ?_⟩
    exact mem_set2 _ y ((y 0).val % 128) (y 1).val (by show _ < 128; omega) (by show _ < 128; omega) (by show (y 0).val = k0_off15 k 0 + 1 * ((y 0).val % 128); omega) (by show (y 1).val = k0_off15 k 1 + 1 * (y 1).val; omega)

end Cert.AttnIdeal.Tile

end
-- ==== Proof.AttnRef.lean ====
/-
  What the dense reference of the attention computes, in real arithmetic.

  Its masked scores are a row per pattern and query; the maximum only shifts them, so the log-total and the normalized
  output are the row's own, and the mixture over the patterns is one quotient.
-/
module

public import proofs.«01_k».proof.Proof.Gen.AttnRefIdeal.Read
public import proofs.«01_k».proof.Proof.AttnSpec
public import Idealize.ShloMosaic.Lib.Pointwise
public import Idealize.ShloMosaic.Lib.KernelVsHost
public import Idealize.ShloMosaic.PureOps.Ideal.Laws

@[expose] public section

set_option maxRecDepth 16384

noncomputable section

open Idealize.ShloMosaic Idealize.ShloMosaic.TcCoe Idealize.SL.Sem

namespace Cert.AttnRefIdeal.Dense

open Cert.AttnRefIdeal Cert.AttnRefIdeal.Gen Cert.AttnRefIdeal.Read
open Cert.AttnIdeal.Softmax Cert.AttnIdeal.Spec

/-- The dilations as the reference keeps them. -/
theorem dilation (i : S3x8192x8192.Idx) : val_main_v12 (F := Ideal) i = BitVec.ofNat 32 (dil (i 0)) := by
  obtain ⟨p, hp⟩ : ∃ p : Fin 3, i 0 = p := ⟨_, rfl⟩
  pointwise [val_main_v12, val_main_v9, val_main_v10, val_main_v11, val_main_c, val_main_c_0, val_main_c_1]
  rw [hp]
  fin_cases p <;> simp_all [dil]

theorem sub_toInt {t s : ℕ} (ht : t < 8192) (hs : s < 8192) :
    (IntOp.subi (BitVec.ofNat 32 t) (BitVec.ofNat 32 s)).toInt = (t : ℤ) - s := by
  simp only [IntOp.subi, BitVec.toInt_eq_toNat_bmod, BitVec.toNat_sub, BitVec.toNat_ofNat, Int.bmod]
  omega

/-- The mask, as numbers. -/
theorem kept (i : S3x8192x8192.Idx) : val_main_v25 (F := Ideal) i = 1#1 ↔ Keeps (i 0) (i 1).val (i 2).val := by
  have ht : (i 1).val < 8192 := (i 1).isLt
  have hs : (i 2).val < 8192 := (i 2).isLt
  simp only [val_main_v25_apply, val_main_v24_apply, val_main_v23_apply, val_main_v22_apply, val_main_v21_apply,
    val_main_v20_apply, val_main_v19_apply, val_main_v18_apply, val_main_v17_apply, val_main_v16_apply,
    val_main_v15_apply, val_main_v14_apply, val_main_v13_apply, val_main_c_2_apply, val_main_c_3_apply,
    val_main_c_4_apply, dilation]
  obtain ⟨p, hp⟩ : ∃ p : Fin 3, i 0 = p := ⟨_, rfl⟩
  rw [hp]
  generalize (i 1).val = t at *
  generalize (i 2).val = s at *
  have hd : 0 < dil p ∧ dil p ≤ 16 := by fin_cases p <;> simp [dil]
  have hm : (IntOp.muli 128#32 (BitVec.ofNat 32 (dil p))).toInt = 128 * (dil p : ℤ) := by
    fin_cases p <;> simp [dil, IntOp.muli]
  rw [IntOp.andi_eq_one, IntOp.andi_eq_one, IntOp.cmpi_sge, IntOp.cmpi_sle, sub_toInt ht hs, hm]
  have hz : (0#32 : BitVec 32).toInt = 0 := rfl
  rw [hz]
  unfold Keeps
  have hlow : s ≤ t → (IntOp.subi (BitVec.ofNat 32 t) (BitVec.ofNat 32 s)).toNat = t - s := fun h => by
    simp only [IntOp.subi, BitVec.toNat_sub, BitVec.toNat_ofNat]; omega
  have key : s ≤ t → (IntOp.cmpi .eq (IntOp.remsi .host (IntOp.subi (BitVec.ofNat 32 t) (BitVec.ofNat 32 s)) (BitVec.ofNat 32 (dil p))) 0#32 = 1#1
      ↔ (t - s) % dil p = 0) := fun h => by
    rw [IntOp.cmpi_eq, IntOp.remsi_eq_zero_iff .host (by rw [hlow h]; omega) _ hd.1 (by omega), hlow h, Nat.dvd_iff_mod_eq_zero]
  constructor
  · rintro ⟨⟨h0, h1⟩, h2⟩
    exact ⟨by omega, by omega, (key (by omega)).1 h2⟩
  · rintro ⟨h0, h1, h2⟩
    exact ⟨⟨by omega, by omega⟩, (key h0).2 h2⟩

/-- A column of the projections' head-split view, joined again. -/
theorem split_row {b t h e off : ℕ} (hb : b < 2) (ht : t < 8192) (hh : h < 16) (he : e < 128) (ho : off ≤ 10240) :
    (((((b * 8192 + t) * 16 + h) * 128 + e) / 16777216 * 8192 + (((b * 8192 + t) * 16 + h) * 128 + e) / 2048 % 8192) * 12288
        + (off + (((b * 8192 + t) * 16 + h) * 128 + e) % 2048)) / 12288 = b * 8192 + t
      ∧ (((((b * 8192 + t) * 16 + h) * 128 + e) / 16777216 * 8192 + (((b * 8192 + t) * 16 + h) * 128 + e) / 2048 % 8192) * 12288
        + (off + (((b * 8192 + t) * 16 + h) * 128 + e) % 2048)) % 12288 = off + (h * 128 + e) := by
  have e1 : (((b * 8192 + t) * 16 + h) * 128 + e) / 16777216 = b := by omega
  have e2 : (((b * 8192 + t) * 16 + h) * 128 + e) / 2048 % 8192 = t := by omega
  have e3 : (((b * 8192 + t) * 16 + h) * 128 + e) % 2048 = h * 128 + e := by omega
  rw [e1, e2, e3]
  constructor <;> omega

theorem split_row0 {b t h e : ℕ} (hb : b < 2) (ht : t < 8192) (hh : h < 16) (he : e < 128) :
    (((((b * 8192 + t) * 16 + h) * 128 + e) / 16777216 * 8192 + (((b * 8192 + t) * 16 + h) * 128 + e) / 2048 % 8192) * 12288
        + (((b * 8192 + t) * 16 + h) * 128 + e) % 2048) / 12288 = b * 8192 + t
      ∧ (((((b * 8192 + t) * 16 + h) * 128 + e) / 16777216 * 8192 + (((b * 8192 + t) * 16 + h) * 128 + e) / 2048 % 8192) * 12288
        + (((b * 8192 + t) * 16 + h) * 128 + e) % 2048) % 12288 = h * 128 + e := by
  have := split_row (off := 0) hb ht hh he (by decide)
  simpa only [Nat.zero_add] using this

variable {x0 : S16384x12288.Idx → EReal} {x1 : S16.Idx → EReal}

theorem q_entry (hx : Cert.AttnIdeal.Spec.Real x0) (i : S2x8192x16x128.Idx) :
    val_main_v6 (F := Ideal) x0 i = ((at2 x0 ((i 0).val * 8192 + (i 1).val) (((i 2).val * 128 + (i 3).val)) : ℝ) : EReal) := by
  rw [val_main_v6_apply, val_main_v2_apply, val_main_v1_apply, val_main_v0_apply, Ideal.extf_def]
  obtain ⟨e0, e1⟩ := split_row0 (i 0).isLt (i 1).isLt (i 2).isLt (i 3).isLt
  exact coe_at2 hx _ e0 e1

theorem k_entry (hx : Cert.AttnIdeal.Spec.Real x0) (i : S2x8192x16x128.Idx) :
    val_main_v7 (F := Ideal) x0 i = ((at2 x0 ((i 0).val * 8192 + (i 1).val) (2048 + ((i 2).val * 128 + (i 3).val)) : ℝ) : EReal) := by
  rw [val_main_v7_apply, val_main_v3_apply, val_main_v1_apply, val_main_v0_apply, Ideal.extf_def]
  obtain ⟨e0, e1⟩ := split_row (i 0).isLt (i 1).isLt (i 2).isLt (i 3).isLt (by decide : 2048 ≤ 10240)
  exact coe_at2 hx _ e0 e1

theorem v_entry (hx : Cert.AttnIdeal.Spec.Real x0) (i : S2x8192x16x128.Idx) :
    val_main_v8 (F := Ideal) x0 i = ((at2 x0 ((i 0).val * 8192 + (i 1).val) (4096 + ((i 2).val * 128 + (i 3).val)) : ℝ) : EReal) := by
  rw [val_main_v8_apply, val_main_v4_apply, val_main_v1_apply, val_main_v0_apply, Ideal.extf_def]
  obtain ⟨e0, e1⟩ := split_row (i 0).isLt (i 1).isLt (i 2).isLt (i 3).isLt (by decide : 4096 ≤ 10240)
  exact coe_at2 hx _ e0 e1

theorem g_entry (hx : Cert.AttnIdeal.Spec.Real x0) (i : S2x8192x2048.Idx) :
    val_main_v5 (F := Ideal) x0 i = ((at2 x0 ((i 0).val * 8192 + (i 1).val) (6144 + (i 2).val) : ℝ) : EReal) := by
  have h2 : (i 2).val < 2048 := (i 2).isLt
  rw [val_main_v5_apply, val_main_v1_apply, val_main_v0_apply, Ideal.extf_def]
  refine coe_at2 hx _ ?_ ?_
  · show (((i 0).val * 8192 + (i 1).val) * 12288 + (6144 + (i 2).val)) / 12288 = _; omega
  · show (((i 0).val * 8192 + (i 1).val) * 12288 + (6144 + (i 2).val)) % 12288 = _; omega

theorem ofBits_negInf : (FloatOps.ofBits (F := Ideal) .f32 0xFF800000#32 : EReal) = ⊥ := by
  show Ideal.ofBits .f32 0xFF800000#32 = ⊥
  simp [Ideal.ofBits, Ideal.ieee]

theorem ofBits_one : (FloatOps.ofBits (F := Ideal) .f32 0x3F800000#32 : EReal) = 1 := by
  show Ideal.ofBits .f32 0x3F800000#32 = 1
  simp [Ideal.ofBits, Ideal.ieee, -EReal.coe_mul]; norm_num

/-- The host's maximum over one axis, from minus infinity. -/
theorem hostMax {s t u : Shape} {a : Fin s.rank} (x : s.Idx → EReal) (h : s.ReducesTo [a] t) (hu : 0 < u.numel)
    (h' : s.Reduces [a] t) (j : t.Idx) :
    Host.reduce (FloatOps.maximumf (F := Ideal) (φ := .f32)) (x : FVec Ideal s .f32) (constant u .f32 0xFF800000#32) h hu j
      = (Finset.univ : Finset (Fin (s.size a))).fold max (⊥ : EReal) fun k => x (h'.lift j k) := by
  refine (congrFun (hostReduce_maximumf_eq_multiReduction (F := Ideal) (φ := .f32) x 0xFF800000#32 h hu h' (.inl rfl) rfl) j).trans ?_
  refine (Ideal.multiReduction_maximumf_single (φ := .f32) x 0xFF800000#32 h' (.inl rfl) rfl j).trans ?_
  rw [ofBits_negInf]
  rfl

/-- A row of masked scores. -/
theorem scores (hx : Cert.AttnIdeal.Spec.Real x0) (hs : Cert.AttnIdeal.Spec.Real x1) (p : Fin 3) (b : Fin 2) (h : Fin 16) (t s : Fin 8192) :
    val_main_v43 (F := Ideal) x0 x1 (ix5 p b h t s)
      = row (fun s : Fin 8192 => Keeps p t.val s.val) (fun s => score (at2 x0) (at1 x1) b.val h.val t.val s.val) s := by
  rw [val_main_v43_apply, row]
  have hm : val_main_call0_v1 (F := Ideal) (ix5 p b h t s) = 1#1 ↔ Keeps p t.val s.val := by
    rw [val_main_call0_v1_apply, val_main_v42_apply, kept]; exact Iff.rfl
  by_cases hk : Keeps p t.val s.val
  · rw [if_pos hk, hm.2 hk]
    show val_main_v41 (F := Ideal) x0 x1 (ix5 p b h t s) = _
    rw [val_main_v41_apply, val_main_v39_apply, val_main_v38_apply, val_main_v36_apply, val_main_v35_apply, val_main_cst_apply,
      val_main_v40_apply, val_main_v37_apply, val_main_v33_apply, val_main_v31_apply, val_main_v30_apply, val_main_v27_apply,
      val_main_v26_apply, val_main_v32_apply, val_main_v29_apply, val_main_v28_apply, val_main_v15_apply, val_main_v14_apply,
      val_main_v13_apply, val_main_v34_apply, coe_scale]
    simp only [q_entry hx, k_entry hx]
    rw [coe_at1 hs _ rfl]
    simp only [← EReal.coe_mul, ← coe_sum]
    rw [score]
    simp only [FloatOps.sitofp]
    show (_ + _ * (((IntOp.subi (BitVec.ofNat 32 t.val) (BitVec.ofNat 32 s.val)).toInt : ℝ) : EReal) : EReal) = _
    rw [sub_toInt t.isLt s.isLt, Int.cast_sub, Int.cast_natCast, Int.cast_natCast, EReal.coe_add, EReal.coe_mul, EReal.coe_mul,
      EReal.coe_neg]
    rfl
  · rw [if_neg hk]
    have h0 : ¬val_main_call0_v1 (F := Ideal) (ix5 p b h t s) = 1#1 := fun h => hk (hm.1 h)
    show (if val_main_call0_v1 (F := Ideal) (ix5 p b h t s) = 1#1 then _ else _) = _
    rw [if_neg h0, val_main_call0_v2_apply, val_main_call0_v0_apply, val_main_cst_5_apply]
    exact ofBits_negInf

/-- The log-total of a row. -/
theorem logTotal (hx : Cert.AttnIdeal.Spec.Real x0) (hs : Cert.AttnIdeal.Spec.Real x1) (p : Fin 3) (b : Fin 2) (h : Fin 16) (t : Fin 8192) (z : Fin 1) :
    val_main_v52 (F := Ideal) x0 x1 (ix5 p b h t z)
      = ((Real.log (W (at2 x0) (at1 x1) b.val h.val t.val p) : ℝ) : EReal) := by
  have hne : ∃ s : Fin 8192, Keeps p t.val s.val := ⟨t, keeps_self p t.val⟩
  obtain ⟨M, hM⟩ := fold_max_real (fun s : Fin 8192 => Keeps p t.val s.val) (fun s => score (at2 x0) (at1 x1) b.val h.val t.val s.val) hne
  have h44 : val_main_v44 (F := Ideal) x0 x1 (ix4 p b h t) = (M : EReal) := by
    unfold val_main_v44 val_main_cst_6
    refine (hostMax (val_main_v43 (F := Ideal) x0 x1) reducesTo_S3x2x16x8192x8192_S3x2x16x8192_d4 h_S_ (by decide) _).trans ?_
    rw [← hM]
    refine congrArg (fun f => (Finset.univ : Finset (Fin 8192)).fold max (⊥ : EReal) f) (funext fun s => ?_)
    refine Eq.trans ?_ (scores hx hs p b h t s)
    exact congrArg (val_main_v43 (F := Ideal) x0 x1) (funext fun a => Fin.ext (by match a with | ⟨0, _⟩ => rfl | ⟨1, _⟩ => rfl | ⟨2, _⟩ => rfl | ⟨3, _⟩ => rfl | ⟨4, _⟩ => rfl))
  have h44' : ∀ i : S3x2x16x8192.Idx, i = ix4 p b h t → val_main_v44 (F := Ideal) x0 x1 i = (M : EReal) := fun i e => e ▸ h44
  have h49 : val_main_v49 (F := Ideal) x0 x1 (ix4 p b h t)
      = ((W (at2 x0) (at1 x1) b.val h.val t.val p * Real.exp (-M) : ℝ) : EReal) := by
    rw [val_main_v49_apply, val_main_cst_7_apply, W, ← sum_exp]
    rw [show (FloatOps.ofBits (F := Ideal) .f32 0x00000000#32 : EReal) = 0 from Ideal.ofBits_zero .f32, zero_add]
    refine Finset.sum_congr rfl fun s _ => ?_
    rw [val_main_v48_apply, val_main_v47_apply, val_main_v46_apply, val_main_v45_apply,
      h44' _ (by funext a; match a with | ⟨0, _⟩ => rfl | ⟨1, _⟩ => rfl | ⟨2, _⟩ => rfl | ⟨3, _⟩ => rfl),
      show idx_main_v49 (ix4 p b h t) s = ix5 p b h t s from by
        funext a; match a with | ⟨0, _⟩ => rfl | ⟨1, _⟩ => rfl | ⟨2, _⟩ => rfl | ⟨3, _⟩ => rfl | ⟨4, _⟩ => rfl, scores hx hs]
    rfl
  rw [val_main_v52_apply, val_main_v45_apply, val_main_v51_apply, val_main_v50_apply,
    h44' _ (by funext a; match a with | ⟨0, _⟩ => rfl | ⟨1, _⟩ => rfl | ⟨2, _⟩ => rfl | ⟨3, _⟩ => rfl),
    show idx_main_v50 (ix5 p b h t z) = ix4 p b h t from by
        funext a; match a with | ⟨0, _⟩ => rfl | ⟨1, _⟩ => rfl | ⟨2, _⟩ => rfl | ⟨3, _⟩ => rfl, h49]
  exact lse _ _ hne M

/-- A pattern's normalized output. -/
theorem normalized (hx : Cert.AttnIdeal.Spec.Real x0) (hs : Cert.AttnIdeal.Spec.Real x1) (p : Fin 3) (b : Fin 2) (h : Fin 16) (t : Fin 8192) (e : Fin 128) :
    val_main_v57 (F := Ideal) x0 x1 (ix5 p b h t e)
      = ((N (at2 x0) (at1 x1) b.val h.val t.val e.val p / W (at2 x0) (at1 x1) b.val h.val t.val p : ℝ) : EReal) := by
  have hne : ∃ s : Fin 8192, Keeps p t.val s.val := ⟨t, keeps_self p t.val⟩
  rw [val_main_v57_apply, val_main_v56_apply, N, W, ← sum_normalized _ _ _ hne]
  refine Finset.sum_congr rfl fun s _ => ?_
  rw [v_entry hx, val_main_v55_apply, val_main_v54_apply, val_main_v53_apply,
    show idx_main_v53 (ridx_main_v56 (idx_main_v57 (ix5 p b h t e)) s) = ix5 p b h t 0 from by
        funext a; match a with | ⟨0, _⟩ => rfl | ⟨1, _⟩ => rfl | ⟨2, _⟩ => rfl | ⟨3, _⟩ => rfl | ⟨4, _⟩ => rfl, logTotal hx hs,
    show ridx_main_v56 (idx_main_v57 (ix5 p b h t e)) s = ix5 p b h t s from by
        funext a; match a with | ⟨0, _⟩ => rfl | ⟨1, _⟩ => rfl | ⟨2, _⟩ => rfl | ⟨3, _⟩ => rfl | ⟨4, _⟩ => rfl, scores hx hs]
  rfl

/-- The mixture of the three patterns. -/
theorem mixes (hx : Cert.AttnIdeal.Spec.Real x0) (hs : Cert.AttnIdeal.Spec.Real x1) (b : Fin 2) (h : Fin 16) (t : Fin 8192) (e : Fin 128) :
    val_main_v69 (F := Ideal) x0 x1 (ix4 b h t e) = ((mixed (at2 x0) (at1 x1) b.val h.val t.val e.val : ℝ) : EReal) := by
  let Wp := W (at2 x0) (at1 x1) b.val h.val t.val
  have hW : ∀ p, 0 < Wp p := fun p => W_pos _ _ _ _ _ t.isLt p
  have hmax : ∃ M : ℝ, val_main_v58 (F := Ideal) x0 x1 (ix4 b h t 0) = (M : EReal) := by
    obtain ⟨M, hM⟩ := fold_max_real (fun _ : Fin 3 => True) (fun p => Real.log (Wp p)) ⟨0, trivial⟩
    refine ⟨M, ?_⟩
    unfold val_main_v58 val_main_cst_8
    refine (hostMax (val_main_v52 (F := Ideal) x0 x1) reducesTo_S3x2x16x8192x1_S2x16x8192x1_d0 h_S_ (by decide) _).trans ?_
    rw [← hM]
    refine congrArg (fun f => (Finset.univ : Finset (Fin 3)).fold max (⊥ : EReal) f) (funext fun p => ?_)
    refine Eq.trans ?_ ((logTotal hx hs p b h t 0).trans (if_pos (c := True) trivial).symm)
    exact congrArg (val_main_v52 (F := Ideal) x0 x1) (funext fun a => Fin.ext (by match a with | ⟨0, _⟩ => rfl | ⟨1, _⟩ => rfl | ⟨2, _⟩ => rfl | ⟨3, _⟩ => rfl | ⟨4, _⟩ => rfl))
  obtain ⟨M, hM⟩ := hmax
  have h62 : ∀ p : Fin 3, val_main_v62 (F := Ideal) x0 x1 (ix5 p b h t 0) = Ideal.exp (((Real.log (Wp p) : ℝ) : EReal) - (M : EReal)) := fun p => by
    rw [val_main_v62_apply, val_main_v61_apply, val_main_v60_apply, val_main_v59_apply, logTotal hx hs,
      show idx_main_v59 (idx_main_v60 (ix5 p b h t 0)) = ix4 b h t 0 from by
        funext a; match a with | ⟨0, _⟩ => rfl | ⟨1, _⟩ => rfl | ⟨2, _⟩ => rfl | ⟨3, _⟩ => rfl, hM]
    rfl
  have h63 : val_main_v63 (F := Ideal) x0 x1 (ix4 b h t 0) = ∑ p, Ideal.exp (((Real.log (Wp p) : ℝ) : EReal) - (M : EReal)) := by
    rw [val_main_v63_apply, val_main_cst_9_apply,
      show (FloatOps.ofBits (F := Ideal) .f32 0x00000000#32 : EReal) = 0 from Ideal.ofBits_zero .f32, zero_add]
    refine Finset.sum_congr rfl fun p _ => ?_
    rw [← h62]
    exact congrArg (val_main_v62 (F := Ideal) x0 x1) (by funext a; match a with | ⟨0, _⟩ => rfl | ⟨1, _⟩ => rfl | ⟨2, _⟩ => rfl | ⟨3, _⟩ => rfl | ⟨4, _⟩ => rfl)
  rw [val_main_v69_apply, val_main_cst_10_apply,
      show (FloatOps.ofBits (F := Ideal) .f32 0x00000000#32 : EReal) = 0 from Ideal.ofBits_zero .f32, zero_add, mixed,
      ← mixture Wp _ hW M]
  refine Finset.sum_congr rfl fun p _ => ?_
  rw [val_main_v68_apply, val_main_v67_apply, val_main_v66_apply, val_main_v65_apply, val_main_v64_apply,
    show idx_main_v69 (ix4 b h t e) p = ix5 p b h t e from by
        funext a; match a with | ⟨0, _⟩ => rfl | ⟨1, _⟩ => rfl | ⟨2, _⟩ => rfl | ⟨3, _⟩ => rfl | ⟨4, _⟩ => rfl, normalized hx hs,
    show idx_main_v67 (ix5 p b h t e) = ix5 p b h t 0 from by
        funext a; match a with | ⟨0, _⟩ => rfl | ⟨1, _⟩ => rfl | ⟨2, _⟩ => rfl | ⟨3, _⟩ => rfl | ⟨4, _⟩ => rfl, h62,
    show idx_main_v64 (idx_main_v65 (ix5 p b h t 0)) = ix4 b h t 0 from by
        funext a; match a with | ⟨0, _⟩ => rfl | ⟨1, _⟩ => rfl | ⟨2, _⟩ => rfl | ⟨3, _⟩ => rfl, h63]
  rfl

/-- The reference's result: the mixture, gated. -/
theorem result (hx : Cert.AttnIdeal.Spec.Real x0) (hs : Cert.AttnIdeal.Spec.Real x1) (b : Fin 2) (h : Fin 16) (t : Fin 8192) (e : Fin 128)
    (i : S16384x2048.Idx) (h0 : (i 0).val = b.val * 8192 + t.val) (h1 : (i 1).val = h.val * 128 + e.val) :
    val_main_v75 (F := Ideal) x0 x1 i
      = ((mixed (at2 x0) (at1 x1) b.val h.val t.val e.val : ℝ) : EReal)
        * (((at2 x0 (b.val * 8192 + t.val) (6144 + (h.val * 128 + e.val)) : ℝ) : EReal)
          * Ideal.div 1 (1 + Ideal.exp (-((at2 x0 (b.val * 8192 + t.val) (6144 + (h.val * 128 + e.val)) : ℝ) : EReal)))) := by
  have hb := b.isLt; have ht := t.isLt; have hh := h.isLt; have he := e.isLt
  have e74 : idx_main_v74 i = ix3 b t ⟨h.val * 128 + e.val, by omega⟩ := by
    funext a
    match a with
    | ⟨0, _⟩ => refine Fin.ext ?_; show ((i 0).val * 2048 + (i 1).val) / 16777216 = _; rw [h0, h1]; show _ = b.val; omega
    | ⟨1, _⟩ => refine Fin.ext ?_; show ((i 0).val * 2048 + (i 1).val) / 2048 % 8192 = _; rw [h0, h1]; show _ = t.val; omega
    | ⟨2, _⟩ => refine Fin.ext ?_; show ((i 0).val * 2048 + (i 1).val) % 2048 = _; rw [h0, h1]; show _ = h.val * 128 + e.val; omega
  have e71 : idx_main_v70 (idx_main_v71 (ix3 b t ⟨h.val * 128 + e.val, by omega⟩)) = ix4 b h t e := by
    funext a
    match a with
    | ⟨0, _⟩ => refine Fin.ext ?_; show ((b.val * 8192 + t.val) * 2048 + (h.val * 128 + e.val)) / 16777216 = b.val; omega
    | ⟨1, _⟩ => refine Fin.ext ?_; show ((b.val * 8192 + t.val) * 2048 + (h.val * 128 + e.val)) / 128 % 16 = h.val; omega
    | ⟨2, _⟩ => refine Fin.ext ?_; show ((b.val * 8192 + t.val) * 2048 + (h.val * 128 + e.val)) / 2048 % 8192 = t.val; omega
    | ⟨3, _⟩ => refine Fin.ext ?_; show ((b.val * 8192 + t.val) * 2048 + (h.val * 128 + e.val)) % 128 = e.val; omega
  rw [val_main_v75_apply, val_main_v74_apply, e74, val_main_v73_apply, val_main_v71_apply, val_main_v70_apply, e71, mixes hx hs,
    val_main_v72_apply, val_main_call1_v5_apply, val_main_call1_v4_apply, val_main_call1_cst_0_apply, val_main_call1_v3_apply,
    val_main_call1_v2_apply, val_main_call1_cst_apply, val_main_call1_v1_apply, val_main_call1_v0_apply, g_entry hx,
    show (FloatOps.ofBits (F := Ideal) .f32 0x3F800000#32 : EReal) = 1 from ofBits_one]
  rfl

end Cert.AttnRefIdeal.Dense
-- ==== Proof.AttnClaim.lean ====
/-
  The claims about Attn, the layer's dilated attention: it runs and leaves its arguments unchanged, over the machine's floats and
  over the extended reals, and so does the plain reference.
-/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.AttnFrame
public import proofs.«01_k».proof.Proof.AttnTile
public import proofs.«01_k».proof.Proof.AttnRef
public import Idealize.ShloMosaic.Adequacy
public import Idealize.ShloMosaic.Init

@[expose] public section

set_option maxRecDepth 100000
set_option maxHeartbeats 4000000

noncomputable section

namespace Cert.AttnClaim

open Idealize.ShloMosaic Idealize.SL.Sem

set_option smartUnfolding false in
theorem same_defs : Cert.Attn.defs (F := Bits) = Cert.AttnIdeal.defs (F := Bits) := rfl

theorem same_main : Cert.Attn.main (F := Bits) = Cert.AttnIdeal.main (F := Bits) := rfl

theorem runs : Cert.quiescent_Attn := by
  intro m ρ _
  rw [same_defs, same_main]
  exact Cert.AttnIdeal.Frame.frame (F := Bits) m ρ

theorem runs_ideal : Cert.quiescent_AttnIdeal := fun m ρ _ => Cert.AttnIdeal.Frame.frame m ρ

theorem runs_ref : Cert.quiescent_AttnRefIdeal := fun m ρ _ =>
  (θ_run Cert.AttnRefIdeal.defs _ _).mono
    (fun r h => ⟨fun c => (h c).2, Idealize.ShloMosaic.sem_eq_zero_of_no_sems (by decide) r.2⟩) (Cert.AttnRefIdeal.Value.run m ρ)

end Cert.AttnClaim

end
-- ==== Proof.PoolValue.lean ====
/-
  What the pooling mixer's kernel computes, over the extended reals.

  For each sequence and channel group the kernel walks eight row tiles. A scratch holds the tile's rows behind the
  sixteen rows before them (zeros before the first token); the trailing window's sum adds shifted reads of the scratch.
  The reference takes the same sum as a product with the window's zero-one matrix.
-/
module

public import proofs.«01_k».proof.Proof.Gen.PoolIdeal.Value
public import proofs.«01_k».proof.Proof.Gen.PoolRefIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WholeRead

@[expose] public section

set_option maxRecDepth 16384

noncomputable section

open Idealize.ShloMosaic Idealize.ShloMosaic.TcCoe Idealize.SL.Sem

namespace Cert.PoolIdeal.Pooled

open Cert.PoolIdeal Cert.PoolIdeal.Gen

variable (m : (ℓ : Loc nD τ sig) → Buf (Elt Ideal) ℓ)

theorem idx0 : ∀ t : Fin grid0.N, win0_0.index t = ![8 * (t.val / 32) + t.val % 8, 16 + t.val / 8 % 4] := by decide +kernel
theorem idx1 : ∀ t : Fin grid0.N, win0_1.index t = ![8 * (t.val / 32) + t.val % 8, 20 + t.val / 8 % 4] := by decide +kernel
theorem idx2 : ∀ t : Fin grid0.N, win0_2.index t = ![t.val / 8 % 4, 0, 0] := by decide +kernel
theorem idx3 : ∀ t : Fin grid0.N, win0_3.index t = ![t.val / 8 % 4, 0, 0] := by decide +kernel
theorem idx4 : ∀ t : Fin grid0.N, win0_4.index t = ![8 * (t.val / 32) + t.val % 8, t.val / 8 % 4] := by decide +kernel
theorem tile : ∀ t : Fin grid0.N, (grid0.coords t 2).val = t.val % 8 := by decide +kernel

theorem hN (t : Fin cfg0.N) : t.val < 64 := lt_of_lt_of_eq t.isLt N_0

theorem blk0 (c : Dev nD) (t : Fin cfg0.N) (r : Fin 1024) (l : Fin 512) :
    (iblk m c 0 t : Vec Ideal S1024x512 .bf16) (ix2 r l) = m ((c : Thread nD τ).loc main_arg0)
      (ix2 ⟨1024 * (8 * (t.val / 32) + t.val % 8) + r.val, by have := hN t; omega⟩ ⟨512 * (16 + t.val / 8 % 4) + l.val, by omega⟩) := by
  blk_ext [iblk, V, idx0 t]

theorem blk1 (c : Dev nD) (t : Fin cfg0.N) (r : Fin 1024) (l : Fin 512) :
    (iblk m c 1 t : Vec Ideal S1024x512 .bf16) (ix2 r l) = m ((c : Thread nD τ).loc main_arg0)
      (ix2 ⟨1024 * (8 * (t.val / 32) + t.val % 8) + r.val, by have := hN t; omega⟩ ⟨512 * (20 + t.val / 8 % 4) + l.val, by omega⟩) := by
  blk_ext [iblk, V, idx1 t]

theorem blk2 (c : Dev nD) (t : Fin cfg0.N) (k l : Fin 512) :
    (iblk m c 2 t : Vec Ideal S1x512x512 .bf16) (ix3 0 k l) = m ((c : Thread nD τ).loc main_arg1) (ix3 ⟨t.val / 8 % 4, by omega⟩ k l) := by
  unfold iblk
  entry_read
  pointwise
  blk_ext [idx2 t]

theorem blk3 (c : Dev nD) (t : Fin cfg0.N) (l : Fin 512) :
    (iblk m c 3 t : Vec Ideal S1x1x512 .f32) (ix3 0 0 l) = m ((c : Thread nD τ).loc main_arg2) (ix1 ⟨t.val / 8 % 4 * 512 + l.val, by omega⟩) := by
  have e : (iblk m c 3 t : Vec Ideal S1x1x512 .f32) (ix3 0 0 l) = (V m c main_v1 : Vec Ideal S4x1x512 .f32) (ix3 ⟨t.val / 8 % 4, by omega⟩ 0 l) := by
    blk_ext [iblk, idx3 t]
  rw [e]
  entry_read
  pointwise

/-! ## The scratch -/

/-- Row `n` of the scratch: the sixteen rows `H`, then the tile's rows `u`. -/
def ext (u : S1024x512.Idx → EReal) (H : S16x512.Idx → EReal) (n : ℕ) (l : Fin 512) : EReal :=
  if h : n < 16 then H (ix2 ⟨n, h⟩ l) else if h' : n - 16 < 1024 then u (ix2 ⟨n - 16, h'⟩ l) else 0

theorem canon2 (u : Vec Ideal S1024x512 .bf16) (H : Vec Ideal S16x512 .f32) (y : S1040x512.Idx) :
    View.canon (Val := Elt Ideal) [⟨Rect.unit ![16, 0] ![1024, 512] inb_S1040x512_S1024x512_16_0, k0_pay3 u⟩,
      ⟨Rect.unit ![0, 0] ![16, 512] inb_S1040x512_S16x512_0_0, H⟩] y = ext u H (y 0).val (y 1) := by
  refine View.canon_apply_of_pieces (Val := Elt Ideal) (S := S1040x512) (e := .f32) (fun y => (ext u H (y 0).val (y 1) : EReal)) _ (fun p hp => ?_) y ?_
  · simp only [List.mem_cons, List.not_mem_nil, or_false] at hp
    rcases hp with rfl | rfl
    · intro x
      obtain ⟨r, l, rfl⟩ : ∃ (r : Fin 1024) (l : Fin 512), x = ix2 r l := ⟨x 0, x 1, by funext a; match a with | ⟨0, _⟩ => rfl | ⟨1, _⟩ => rfl⟩
      have e : (Rect.unit (s := S1040x512) ![16, 0] ![1024, 512] inb_S1040x512_S1024x512_16_0).emb (ix2 r l) = ix2 ⟨16 + r.val, by omega⟩ l := by
        blk_ext []
      show k0_pay3 u (ix2 r l) = _
      simp only [e]
      pointwise [k0_pay3, ext]
    · intro x
      obtain ⟨r, l, rfl⟩ : ∃ (r : Fin 16) (l : Fin 512), x = ix2 r l := ⟨x 0, x 1, by funext a; match a with | ⟨0, _⟩ => rfl | ⟨1, _⟩ => rfl⟩
      have e : (Rect.unit (s := S1040x512) ![0, 0] ![16, 512] inb_S1040x512_S16x512_0_0).emb (ix2 r l) = ix2 ⟨r.val, by omega⟩ l := by
        blk_ext []
      show H (ix2 r l) = _
      simp only [e]
      pointwise [ext]
  · have h0 : (y 0).val < 1040 := (y 0).isLt
    by_cases h : 16 ≤ (y 0).val
    · refine ⟨_, List.mem_cons_self, ?_⟩
      rw [Rect.mem_set_unit]
      intro a
      match a with
      | ⟨0, _⟩ => exact ⟨h, h0⟩
      | ⟨1, _⟩ => exact ⟨Nat.zero_le _, (y 1).isLt⟩
    · refine ⟨_, List.mem_cons_of_mem _ List.mem_cons_self, ?_⟩
      rw [Rect.mem_set_unit]
      intro a
      match a with
      | ⟨0, _⟩ => exact ⟨Nat.zero_le _, by show (y 0).val < 0 + 16; omega⟩
      | ⟨1, _⟩ => exact ⟨Nat.zero_le _, (y 1).isLt⟩

theorem load (u : Vec Ideal S1024x512 .bf16) (H : Vec Ideal S16x512 .f32) (b : ℕ) (inb : ∀ a, ![b, 0] a + ![1024, 512] a ≤ S1040x512.size a)
    (r : Fin 1024) (l : Fin 512) :
    (View.whole cc0_scratch0).readCov (Val := Elt Ideal) [⟨Rect.unit ![16, 0] ![1024, 512] inb_S1040x512_S1024x512_16_0, k0_pay3 u⟩,
      ⟨Rect.unit ![0, 0] ![16, 512] inb_S1040x512_S16x512_0_0, H⟩] (Rect.unit (s := S1040x512) ![b, 0] ![1024, 512] inb).toLoadRect (ix2 r l)
      = ext u H (b + r.val) l := by
  rw [View.readCov_eq_canon']
  refine (canon2 u H _).trans ?_
  have e0 : ((Rect.unit (s := S1040x512) ![b, 0] ![1024, 512] inb).toLoadRect.idx (ix2 r l) 0).val = b + r.val := by
    simp [LoadRect.idx, Rect.unit]
  have e1 : (Rect.unit (s := S1040x512) ![b, 0] ![1024, 512] inb).toLoadRect.idx (ix2 r l) 1 = l := Fin.ext (by
    simp [LoadRect.idx, Rect.unit])
  rw [e0, e1]

/-- What stands before the tile's rows: zeros at a sequence's first tile, else the previous point's last sixteen rows. -/
def halo (c : Dev nD) (t : Fin cfg0.N) : S16x512.Idx → EReal := fun y =>
  if t.val % 8 = 0 then 0 else (outsAt0 m c (t.val - 1) (Nat.lt_of_le_of_lt (Nat.sub_le _ _) t.isLt)).2 (ix2 ⟨1024 + (y 0).val, by have := (y 0).isLt; have e : S16x512.size 0 = 16 := rfl; omega⟩ (y 1))

theorem halo_first (c : Dev nD) (t : Fin cfg0.N) (h0 : t.val % 8 = 0) : k0_pay1 (F := Ideal) = halo m c t := by
  funext y
  obtain ⟨r, l, rfl⟩ : ∃ (r : Fin 16) (l : Fin 512), y = ix2 r l := ⟨y 0, y 1, by funext a; match a with | ⟨0, _⟩ => rfl | ⟨1, _⟩ => rfl⟩
  simp only [halo, h0, if_true]
  pointwise [k0_pay1]

theorem halo_next (c : Dev nD) (t : Fin cfg0.N) (h0 : ¬ t.val % 8 = 0) (hw : (Memref.whole cc0_scratch0).IsWhole) (hlt : t.val - 1 < cfg0.N) :
    k0_pay2 (View.ld (View.read (Elt Ideal) (View.whole cc0_scratch0) (hw.unread (outsAt0 m c (t.val - 1) hlt).2))
      (Rect.unit (s := S1040x512) ![1024, 0] ![16, 512] inb_S1040x512_S16x512_1024_0)) = halo m c t := by
  funext y
  obtain ⟨r, l, rfl⟩ : ∃ (r : Fin 16) (l : Fin 512), y = ix2 r l := ⟨y 0, y 1, by funext a; match a with | ⟨0, _⟩ => rfl | ⟨1, _⟩ => rfl⟩
  have e : View.read (Elt Ideal) (View.whole cc0_scratch0) (hw.unread (outsAt0 m c (t.val - 1) hlt).2) = (outsAt0 m c (t.val - 1) hlt).2 :=
    read_unread_whole _ _ _
  rw [e]
  simp only [halo, h0, if_false]
  pointwise [k0_pay2]
  blk_ext []

theorem scr_eq (c : Dev nD) (t : Fin cfg0.N) (y : S1040x512.Idx) :
    (outsAt0 m c t.val t.isLt).2 y = ext (iblk m c 0 t) (halo m c t) (y 0).val (y 1) := by
  have hg : t.val / 8 % 4 < 4 := by omega
  by_cases h0 : t.val % 8 = 0
  · by_cases g0 : t.val / 8 % 4 = 0
    · rw [outsAt0_A m c t h0 (by omega) (by omega) (by omega) (by omega) (by omega)]; frame_out; rw [canon2, halo_first m c t h0]
    by_cases g1 : t.val / 8 % 4 = 1
    · rw [outsAt0_C m c t h0 (by omega) (by omega) (by omega) (by omega) (by omega)]; frame_out; rw [canon2, halo_first m c t h0]
    by_cases g2 : t.val / 8 % 4 = 2
    · rw [outsAt0_E m c t h0 (by omega) (by omega) (by omega) (by omega) (by omega)]; frame_out; rw [canon2, halo_first m c t h0]
    · rw [outsAt0_G m c t h0 (by omega) (by omega) (by omega) (by omega) (by omega)]; frame_out; rw [canon2, halo_first m c t h0]
  · by_cases g0 : t.val / 8 % 4 = 0
    · rw [outsAt0_B m c t h0 (by omega) (by omega) (by omega) (by omega) (by omega)]; frame_out; rw [canon2, halo_next m c t h0]
    by_cases g1 : t.val / 8 % 4 = 1
    · rw [outsAt0_D m c t h0 (by omega) (by omega) (by omega) (by omega) (by omega)]; frame_out; rw [canon2, halo_next m c t h0]
    by_cases g2 : t.val / 8 % 4 = 2
    · rw [outsAt0_F m c t h0 (by omega) (by omega) (by omega) (by omega) (by omega)]; frame_out; rw [canon2, halo_next m c t h0]
    · rw [outsAt0_H m c t h0 (by omega) (by omega) (by omega) (by omega) (by omega)]; frame_out; rw [canon2, halo_next m c t h0]

/-! ## The output -/

/-- The count's word. -/
def cnt (T : ℕ) (w : BitVec 32) : EReal := FloatOps.sitofp (F := Ideal) FTy.f32 (IntOp.minsi (BitVec.ofNat 32 (T + 1)) w)

theorem pos_eq (r T : ℕ) (q : ℕ) (h : T = 1024 * q + r) :
    IntOp.addi (BitVec.ofNat 32 r) (Scalar.addi (Scalar.muli (BitVec.ofNat 32 q) 1024#32) 1#32) = BitVec.ofNat 32 (T + 1) := by
  show BitVec.ofNat 32 r + (BitVec.ofNat 32 q * BitVec.ofNat 32 1024 + BitVec.ofNat 32 1) = _
  rw [← BitVec.ofNat_mul, ← BitVec.ofNat_add, ← BitVec.ofNat_add, h]
  congr 1
  omega

/-- One output entry from the row's window sums, its own entries, the count, and the group's map, scale and gate. -/
def outv (tot x : Fin 512 → EReal) (n : EReal) (W : Fin 512 → EReal) (p g : EReal) : EReal :=
  (∑ k, (Ideal.div (tot k) n - x k) * W k) * p * (g * Ideal.div 1 (1 + Ideal.exp (0 - g)))

theorem out_congr {tot tot' x x' : Fin 512 → EReal} {n n' p g : EReal} {W : Fin 512 → EReal} (h1 : ∀ k, tot k = tot' k) (h2 : ∀ k, x k = x' k)
    (h3 : n = n') : (∑ k, (Ideal.div (tot k) n - x k) * W k) * p * (g * Ideal.div 1 (1 + Ideal.exp (0 - g))) = outv tot' x' n' W p g := by
  rw [outv, funext h1, funext h2, h3]

/-- The window's sum of row `r`: the scratch's rows `16 + r`, `15 + r`, ..., `w` of them. -/
def sumw (u : S1024x512.Idx → EReal) (H : S16x512.Idx → EReal) (w : ℕ) (r : Fin 1024) (l : Fin 512) : EReal :=
  ∑ i ∈ Finset.range w, ext u H (16 - i + r.val) l

theorem out_g0 (c : Dev nD) (t : Fin cfg0.N) (hg : t.val / 8 % 4 = 0) (r : Fin 1024) (l : Fin 512) :
    (outsAt0 m c t.val t.isLt).1 (ix2 r l) = outv (sumw (iblk m c 0 t) (halo m c t) 2 r) (ext (iblk m c 0 t) (halo m c t) (16 + r.val))
      (cnt (1024 * (t.val % 8) + r.val) 2#32) (fun k => (iblk m c 2 t : Vec Ideal S1x512x512 .bf16) (ix3 0 k l))
      ((iblk m c 3 t : Vec Ideal S1x1x512 .f32) (ix3 0 0 l)) ((iblk m c 1 t : Vec Ideal S1024x512 .bf16) (ix2 r l)) := by
  by_cases h0 : t.val % 8 = 0
  · rw [outsAt0_A m c t h0 (by omega) (by omega) (by omega) (by omega) (by omega)]
    frame_out
    pointwise [k0_pay5, k0_pay4]
    refine out_congr (fun x => ?_) (fun x => ?_) ?_
    · simp only [sumw, Finset.sum_range_succ, Finset.sum_range_zero, zero_add]
      repeat rw [load]
      repeat rw [halo_first m c t h0]
    · rw [load, halo_first m c t h0]
    · rw [tile, pos_eq _ _ _ rfl, cnt]
  · rw [outsAt0_B m c t h0 (by omega) (by omega) (by omega) (by omega) (by omega)]
    frame_out
    pointwise [k0_pay5, k0_pay4]
    refine out_congr (fun x => ?_) (fun x => ?_) ?_
    · simp only [sumw, Finset.sum_range_succ, Finset.sum_range_zero, zero_add]
      repeat rw [load]
      repeat rw [halo_next m c t h0]
    · rw [load, halo_next m c t h0]
    · rw [tile, pos_eq _ _ _ rfl, cnt]

theorem out_g1 (c : Dev nD) (t : Fin cfg0.N) (hg : t.val / 8 % 4 = 1) (r : Fin 1024) (l : Fin 512) :
    (outsAt0 m c t.val t.isLt).1 (ix2 r l) = outv (sumw (iblk m c 0 t) (halo m c t) 4 r) (ext (iblk m c 0 t) (halo m c t) (16 + r.val))
      (cnt (1024 * (t.val % 8) + r.val) 4#32) (fun k => (iblk m c 2 t : Vec Ideal S1x512x512 .bf16) (ix3 0 k l))
      ((iblk m c 3 t : Vec Ideal S1x1x512 .f32) (ix3 0 0 l)) ((iblk m c 1 t : Vec Ideal S1024x512 .bf16) (ix2 r l)) := by
  by_cases h0 : t.val % 8 = 0
  · rw [outsAt0_C m c t h0 (by omega) (by omega) (by omega) (by omega) (by omega)]
    frame_out
    pointwise [k0_pay8, k0_pay4]
    refine out_congr (fun x => ?_) (fun x => ?_) ?_
    · simp only [sumw, Finset.sum_range_succ, Finset.sum_range_zero, zero_add]
      repeat rw [load]
      repeat rw [halo_first m c t h0]
    · rw [load, halo_first m c t h0]
    · rw [tile, pos_eq _ _ _ rfl, cnt]
  · rw [outsAt0_D m c t h0 (by omega) (by omega) (by omega) (by omega) (by omega)]
    frame_out
    pointwise [k0_pay8, k0_pay4]
    refine out_congr (fun x => ?_) (fun x => ?_) ?_
    · simp only [sumw, Finset.sum_range_succ, Finset.sum_range_zero, zero_add]
      repeat rw [load]
      repeat rw [halo_next m c t h0]
    · rw [load, halo_next m c t h0]
    · rw [tile, pos_eq _ _ _ rfl, cnt]

theorem out_g2 (c : Dev nD) (t : Fin cfg0.N) (hg : t.val / 8 % 4 = 2) (r : Fin 1024) (l : Fin 512) :
    (outsAt0 m c t.val t.isLt).1 (ix2 r l) = outv (sumw (iblk m c 0 t) (halo m c t) 8 r) (ext (iblk m c 0 t) (halo m c t) (16 + r.val))
      (cnt (1024 * (t.val % 8) + r.val) 8#32) (fun k => (iblk m c 2 t : Vec Ideal S1x512x512 .bf16) (ix3 0 k l))
      ((iblk m c 3 t : Vec Ideal S1x1x512 .f32) (ix3 0 0 l)) ((iblk m c 1 t : Vec Ideal S1024x512 .bf16) (ix2 r l)) := by
  by_cases h0 : t.val % 8 = 0
  · rw [outsAt0_E m c t h0 (by omega) (by omega) (by omega) (by omega) (by omega)]
    frame_out
    pointwise [k0_pay6, k0_pay9, k0_pay10, k0_pay11, k0_pay4]
    refine out_congr (fun x => ?_) (fun x => ?_) ?_
    · simp only [sumw, Finset.sum_range_succ, Finset.sum_range_zero, zero_add]
      repeat rw [load]
      repeat rw [halo_first m c t h0]
    · rw [load, halo_first m c t h0]
    · rw [tile, pos_eq _ _ _ rfl, cnt]
  · rw [outsAt0_F m c t h0 (by omega) (by omega) (by omega) (by omega) (by omega)]
    frame_out
    pointwise [k0_pay6, k0_pay9, k0_pay10, k0_pay11, k0_pay4]
    refine out_congr (fun x => ?_) (fun x => ?_) ?_
    · simp only [sumw, Finset.sum_range_succ, Finset.sum_range_zero, zero_add]
      repeat rw [load]
      repeat rw [halo_next m c t h0]
    · rw [load, halo_next m c t h0]
    · rw [tile, pos_eq _ _ _ rfl, cnt]

theorem out_g3 (c : Dev nD) (t : Fin cfg0.N) (hg : t.val / 8 % 4 = 3) (r : Fin 1024) (l : Fin 512) :
    (outsAt0 m c t.val t.isLt).1 (ix2 r l) = outv (sumw (iblk m c 0 t) (halo m c t) 16 r) (ext (iblk m c 0 t) (halo m c t) (16 + r.val))
      (cnt (1024 * (t.val % 8) + r.val) 16#32) (fun k => (iblk m c 2 t : Vec Ideal S1x512x512 .bf16) (ix3 0 k l))
      ((iblk m c 3 t : Vec Ideal S1x1x512 .f32) (ix3 0 0 l)) ((iblk m c 1 t : Vec Ideal S1024x512 .bf16) (ix2 r l)) := by
  by_cases h0 : t.val % 8 = 0
  · rw [outsAt0_G m c t h0 (by omega) (by omega) (by omega) (by omega) (by omega)]
    frame_out
    pointwise [k0_pay7, k0_pay12, k0_pay4]
    refine out_congr (fun x => ?_) (fun x => ?_) ?_
    · simp only [sumw, Finset.sum_range_succ, Finset.sum_range_zero, zero_add]
      repeat rw [load]
      repeat rw [halo_first m c t h0]
    · rw [load, halo_first m c t h0]
    · rw [tile, pos_eq _ _ _ rfl, cnt]
  · rw [outsAt0_H m c t h0 (by omega) (by omega) (by omega) (by omega) (by omega)]
    frame_out
    pointwise [k0_pay7, k0_pay12, k0_pay4]
    refine out_congr (fun x => ?_) (fun x => ?_) ?_
    · simp only [sumw, Finset.sum_range_succ, Finset.sum_range_zero, zero_add]
      repeat rw [load]
      repeat rw [halo_next m c t h0]
    · rw [load, halo_next m c t h0]
    · rw [tile, pos_eq _ _ _ rfl, cnt]

/-! ## The reference -/

/-- The column `j` of sequence `b` at row `n`; zero past the sequence. -/
def seq (x : S16384x12288.Idx → EReal) (b : Fin 2) (j : Fin 12288) (n : ℕ) : EReal :=
  if h : n < 8192 then x (ix2 ⟨8192 * b.val + n, by omega⟩ j) else 0

/-- The sum of the `w` rows up to row `T`, of those that are in the sequence. -/
def trail (f : ℕ → EReal) (w T : ℕ) : EReal := ∑ i ∈ Finset.range w, if i ≤ T then f (T - i) else 0

/-- The group's window as a word, as the reference selects it. -/
def wword (g : ℕ) : BitVec 32 := if _h : g < 1 then 2#32 else if _h : g - 1 < 1 then 4#32 else if _h : g - 1 - 1 < 1 then 8#32 else 16#32

theorem wword_eq (g : ℕ) (hg : g < 4) : wword g = BitVec.ofNat 32 (2 ^ (g + 1)) := by
  obtain rfl | rfl | rfl | rfl : g = 0 ∨ g = 1 ∨ g = 2 ∨ g = 3 := by omega
  all_goals rfl

theorem diff_toInt (T s : ℕ) (hT : T < 8192) (hs : s < 8192) : (IntOp.subi (BitVec.ofNat 32 T) (BitVec.ofNat 32 s)).toInt = (T : ℤ) - s := by
  show (BitVec.ofNat 32 T - BitVec.ofNat 32 s).toInt = _
  simp only [BitVec.toInt_eq_toNat_bmod, BitVec.toNat_sub, BitVec.toNat_ofNat, Int.bmod]
  omega

theorem window_word (T s w : ℕ) (hT : T < 8192) (hs : s < 8192) (hw : w ≤ 16) :
    FloatOps.uitofp (F := Ideal) FTy.f32 (IntOp.andi (IntOp.cmpi .sge (IntOp.subi (BitVec.ofNat 32 T) (BitVec.ofNat 32 s)) 0#32)
      (IntOp.cmpi .slt (IntOp.subi (BitVec.ofNat 32 T) (BitVec.ofNat 32 s)) (BitVec.ofNat 32 w))) = if s ≤ T ∧ T < s + w then (1 : EReal) else 0 := by
  have hz : (0#32).toInt = 0 := rfl
  have hw' : (BitVec.ofNat 32 w).toInt = (w : ℤ) := by
    simp only [BitVec.toInt_eq_toNat_bmod, BitVec.toNat_ofNat, Int.bmod]; omega
  rw [WordCmp.cmpi_sge_eq, WordCmp.cmpi_slt_eq, diff_toInt T s hT hs, hz, hw']
  by_cases h1 : s ≤ T
  · by_cases h2 : T < s + w
    · rw [if_pos ⟨h1, h2⟩, decide_eq_true (by omega), decide_eq_true (by omega)]
      show (((1#1 : BitVec 1).toNat : ℝ) : EReal) = 1
      simp
    · rw [if_neg (fun h => h2 h.2), decide_eq_true (by omega), decide_eq_false (by omega)]
      show (((0#1 : BitVec 1).toNat : ℝ) : EReal) = 0
      simp
  · rw [if_neg (fun h => h1 h.1), decide_eq_false (by omega)]
    have e : IntOp.andi (BitVec.ofBool false) (BitVec.ofBool (decide ((T : ℤ) - s < w))) = 0#1 := by
      cases decide ((T : ℤ) - s < w) <;> rfl
    rw [e]
    show (((0#1 : BitVec 1).toNat : ℝ) : EReal) = 0
    simp

/-- A row of the window matrix picks the trailing rows. -/
theorem sum_window (f : ℕ → EReal) (w T : ℕ) (hT : T < 8192) :
    (∑ s : Fin 8192, f s.val * (if s.val ≤ T ∧ T < s.val + w then (1 : EReal) else 0)) = trail f w T := by
  rw [Fin.sum_univ_eq_sum_range (fun s => f s * (if s ≤ T ∧ T < s + w then (1 : EReal) else 0)) 8192, trail]
  simp only [mul_ite, mul_one, mul_zero]
  rw [← Finset.sum_filter, ← Finset.sum_filter]
  refine Finset.sum_nbij' (fun s => T - s) (fun i => T - i) ?_ ?_ ?_ ?_ ?_
  all_goals
    intro a ha
    simp only [Finset.mem_filter, Finset.mem_range] at ha ⊢
  · omega
  · omega
  · omega
  · omega
  · rw [show T - (T - a) = a by omega]

section Ref
open Cert.PoolRefIdeal Cert.PoolRefIdeal.Read

theorem ref_x (x : Cert.PoolIdeal.S16384x12288.Idx → EReal) (b : Fin 2) (T : Fin 8192) (g : Fin 4) (l : Fin 512) :
    val_main_v4 (F := Ideal) x (ix4 b T g l) = seq x b ⟨8192 + (g.val * 512 + l.val), by omega⟩ T.val := by
  rw [seq, dif_pos T.isLt]
  pointwise [val_main_v4, val_main_v3, val_main_v2, val_main_v1, val_main_v0]
  refine congrArg x ?_
  idx_ext

theorem ref_window (g : Fin 4) (T s : Fin 8192) :
    val_main_v26 (F := Ideal) (ix3 g T s) = if s.val ≤ T.val ∧ T.val < s.val + 2 ^ (g.val + 1) then (1 : EReal) else 0 := by
  rw [← window_word T s _ T.isLt s.isLt (by have : 2 ^ (g.val + 1) ≤ 2 ^ 4 := Nat.pow_le_pow_right (by omega) (by omega); omega), ← wword_eq g g.isLt, wword]
  pointwise [val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6, val_main_v5,
    val_main_c, val_main_c_0, val_main_c_1, val_main_c_2, val_main_c_3]

theorem ref_count (b : Fin 2) (T : Fin 8192) (g : Fin 4) (l : Fin 512) :
    val_main_v38 (F := Ideal) (ix4 b T g l) = cnt T.val (BitVec.ofNat 32 (2 ^ (g.val + 1))) := by
  rw [cnt, ← wword_eq g g.isLt, wword, BitVec.ofNat_add]
  pointwise [val_main_v38, val_main_v37, val_main_v36, val_main_v35, val_main_v34, val_main_v33, val_main_v32, val_main_v31, val_main_v30, val_main_v29,
    val_main_v10, val_main_v9, val_main_v8, val_main_v7, val_main_v6, val_main_v5, val_main_c, val_main_c_0, val_main_c_1, val_main_c_2, val_main_c_3, val_main_c_4]
  rfl

theorem ref_total (x : S16384x12288.Idx → EReal) (b : Fin 2) (T : Fin 8192) (g : Fin 4) (l : Fin 512) :
    val_main_v28 (F := Ideal) x (ix4 b T g l) = trail (seq x b ⟨8192 + (g.val * 512 + l.val), by omega⟩) (2 ^ (g.val + 1)) T.val := by
  rw [← sum_window _ _ _ T.isLt]
  pointwise [val_main_v28, val_main_v27]
  refine Finset.sum_congr rfl fun s _ => ?_
  rw [ref_x, ref_window]

/-- An entry of the reference's result, in the kernel's form. -/
theorem ref_out (x : S16384x12288.Idx → EReal) (w : S4x512x512.Idx → EReal) (s : S2048.Idx → EReal) (R : Fin 16384) (j : Fin 2048) :
    val_main_v50 (F := Ideal) x w s (ix2 R j)
      = outv (fun k => trail (seq x ⟨R.val / 8192, by omega⟩ ⟨8192 + (j.val / 512 * 512 + k.val), by omega⟩) (2 ^ (j.val / 512 + 1)) (R.val % 8192))
        (fun k => seq x ⟨R.val / 8192, by omega⟩ ⟨8192 + (j.val / 512 * 512 + k.val), by omega⟩ (R.val % 8192))
        (cnt (R.val % 8192) (BitVec.ofNat 32 (2 ^ (j.val / 512 + 1)))) (fun k => w (ix3 ⟨j.val / 512, by omega⟩ k ⟨j.val % 512, by omega⟩)) (s (ix1 j))
        (x (ix2 R ⟨10240 + j.val, by omega⟩)) := by
  pointwise [val_main_v50, val_main_v49, val_main_v48, val_main_v47, val_main_v46, val_main_v45, val_main_v44, val_main_v43, val_main_v42, val_main_v41,
    val_main_v40, val_main_v39, val_main_v3, val_main_v1, val_main_v0, val_main_call0_v0, val_main_call0_v1, val_main_call0_v2, val_main_call0_v3,
    val_main_call0_v4, val_main_call0_v5, val_main_call0_cst, val_main_call0_cst_0]
  simp only [ref_total, ref_count, ref_x, outv, zero_sub]
  refine congrArg (· * _) (congrArg (· * _) (Finset.sum_congr rfl fun k _ => mul_comm _ _))

end Ref

/-! ## The kernel's result -/

theorem outv_congr {tot tot' x x' W W' : Fin 512 → EReal} {n n' p p' g g' : EReal} (h1 : ∀ k, tot k = tot' k) (h2 : ∀ k, x k = x' k) (h3 : n = n')
    (h4 : ∀ k, W k = W' k) (h5 : p = p') (h6 : g = g') : outv tot x n W p g = outv tot' x' n' W' p' g' := by
  rw [funext h1, funext h2, h3, funext h4, h5, h6]

theorem ext_eq (c : Dev nD) (t : Fin cfg0.N) (r : Fin 1024) (i : ℕ) (hi : i < 16) (l : Fin 512) :
    ext (iblk m c 0 t) (halo m c t) (16 - i + r.val) l
      = if i ≤ 1024 * (t.val % 8) + r.val then
          seq (m ((c : Thread nD τ).loc main_arg0)) ⟨t.val / 32, by have := hN t; omega⟩ ⟨512 * (16 + t.val / 8 % 4) + l.val, by omega⟩ (1024 * (t.val % 8) + r.val - i)
        else 0 := by
  have ht := hN t
  by_cases h : i ≤ r.val
  · rw [if_pos (by omega), seq, dif_pos (by omega), ext, dif_neg (by omega), dif_pos (by omega), blk0]
    refine congrArg (m ((c : Thread nD τ).loc main_arg0)) ?_
    idx_ext
  · rw [ext, dif_pos (by omega), halo]
    by_cases h0 : t.val % 8 = 0
    · rw [if_pos h0, if_neg (by omega)]
    · rw [if_neg h0, if_pos (by omega), seq, dif_pos (by omega)]
      refine (scr_eq m c ⟨t.val - 1, Nat.lt_of_le_of_lt (Nat.sub_le _ _) t.isLt⟩ _).trans ?_
      show ext _ _ (1024 + (16 - i + r.val)) l = _
      rw [ext, dif_neg (by omega), dif_pos (by omega), blk0]
      refine congrArg (m ((c : Thread nD τ).loc main_arg0)) ?_
      idx_ext

theorem sumw_eq (c : Dev nD) (t : Fin cfg0.N) (r : Fin 1024) (w : ℕ) (hw : w ≤ 16) (l : Fin 512) :
    sumw (iblk m c 0 t) (halo m c t) w r l
      = trail (seq (m ((c : Thread nD τ).loc main_arg0)) ⟨t.val / 32, by have := hN t; omega⟩ ⟨512 * (16 + t.val / 8 % 4) + l.val, by omega⟩) w
        (1024 * (t.val % 8) + r.val) :=
  Finset.sum_congr rfl fun i hi => ext_eq m c t r i (by have := Finset.mem_range.mp hi; omega) l

theorem out_eq (c : Dev nD) (t : Fin cfg0.N) (r : Fin 1024) (l : Fin 512) :
    (outsAt0 m c t.val t.isLt).1 (ix2 r l)
      = outv (sumw (iblk m c 0 t) (halo m c t) (2 ^ (t.val / 8 % 4 + 1)) r) (ext (iblk m c 0 t) (halo m c t) (16 + r.val))
        (cnt (1024 * (t.val % 8) + r.val) (BitVec.ofNat 32 (2 ^ (t.val / 8 % 4 + 1)))) (fun k => (iblk m c 2 t : Vec Ideal S1x512x512 .bf16) (ix3 0 k l))
        ((iblk m c 3 t : Vec Ideal S1x1x512 .f32) (ix3 0 0 l)) ((iblk m c 1 t : Vec Ideal S1024x512 .bf16) (ix2 r l)) := by
  have hg : t.val / 8 % 4 < 4 := by omega
  by_cases g0 : t.val / 8 % 4 = 0
  · rw [out_g0 m c t g0, g0]; rfl
  by_cases g1 : t.val / 8 % 4 = 1
  · rw [out_g1 m c t g1, g1]; rfl
  by_cases g2 : t.val / 8 % 4 = 2
  · rw [out_g2 m c t g2, g2]; rfl
  have g3 : t.val / 8 % 4 = 3 := by omega
  rw [out_g3 m c t g3, g3]; rfl

theorem final (c : Dev nD) :
    (dats m 0 c).arrAt 4 cfg0.N = Cert.PoolRefIdeal.Read.val_main_v50 (m ((c : Thread nD τ).loc main_arg0)) (m ((c : Thread nD τ).loc main_arg1))
      (m ((c : Thread nD τ).loc main_arg2)) := by
  refine (dats m 0 c).arrAt_eq_of_covers 4 _ (by decide +kernel) fun t hf y => ?_
  blk_simp
  rw [after0_4]
  obtain ⟨r, l, rfl⟩ : ∃ (r : Fin 1024) (l : Fin 512), y = ix2 r l := ⟨y 0, y 1, by funext a; match a with | ⟨0, _⟩ => rfl | ⟨1, _⟩ => rfl⟩
  have ht := hN t
  have h := ref_out (m ((c : Thread nD τ).loc main_arg0)) (m ((c : Thread nD τ).loc main_arg1)) (m ((c : Thread nD τ).loc main_arg2))
    ⟨1024 * (8 * (t.val / 32) + t.val % 8) + r.val, by omega⟩ ⟨512 * (t.val / 8 % 4) + l.val, by omega⟩
  rw [out_eq m c t r l]
  refine (Eq.trans ?_ h.symm).trans ?_
  · have e1 : (1024 * (8 * (t.val / 32) + t.val % 8) + r.val) % 8192 = 1024 * (t.val % 8) + r.val := by omega
    have e2 : (512 * (t.val / 8 % 4) + l.val) / 512 = t.val / 8 % 4 := by omega
    simp only [e1, e2]
    refine outv_congr (fun k => ?_) (fun k => ?_) rfl (fun k => ?_) ?_ ?_
    · rw [sumw_eq m c t r _ (by have : 2 ^ (t.val / 8 % 4 + 1) ≤ 2 ^ 4 := Nat.pow_le_pow_right (by omega) (by omega); omega)]
      refine congrArg (fun f => trail f _ _) (congrArg₂ (seq _) (Fin.ext ?_) (Fin.ext ?_))
      · show t.val / 32 = (1024 * (8 * (t.val / 32) + t.val % 8) + r.val) / 8192; omega
      · show 512 * (16 + t.val / 8 % 4) + k.val = 8192 + (t.val / 8 % 4 * 512 + k.val); omega
    · refine (ext_eq m c t r 0 (by omega) k).trans ?_
      rw [if_pos (Nat.zero_le _), Nat.sub_zero]
      refine congrFun (congrArg₂ (seq _) (Fin.ext ?_) (Fin.ext ?_)) _
      · show t.val / 32 = (1024 * (8 * (t.val / 32) + t.val % 8) + r.val) / 8192; omega
      · show 512 * (16 + t.val / 8 % 4) + k.val = 8192 + (t.val / 8 % 4 * 512 + k.val); omega
    · rw [blk2]
      refine congrArg (m ((c : Thread nD τ).loc main_arg1)) ?_
      idx_ext
    · rw [blk3]
      refine congrArg (m ((c : Thread nD τ).loc main_arg2)) ?_
      idx_ext
    · rw [blk1]
      refine congrArg (m ((c : Thread nD τ).loc main_arg0)) ?_
      idx_ext
  · blk_ext [idx4 t]

end Cert.PoolIdeal.Pooled
-- ==== Proof.PoolClaim.lean ====
/-
  The claims about Pool, the layer's pooling mixer: it runs and leaves its arguments unchanged, over the machine's floats and
  over the extended reals, and over the extended reals it ends with the plain reference's result.
-/
module

public import proofs.«01_k».proof.Defs
public import proofs.«01_k».proof.Proof.Gen.Pool.Frame
public import proofs.«01_k».proof.Proof.Gen.PoolIdeal.Frame
public import proofs.«01_k».proof.Proof.Gen.PoolRefIdeal.Run
public import proofs.«01_k».proof.Proof.PoolValue
public import Idealize.ShloMosaic.Adequacy
public import Idealize.ShloMosaic.Init

@[expose] public section

noncomputable section

namespace Cert.PoolClaim

open Idealize.ShloMosaic Idealize.SL.Sem

theorem runs : Cert.quiescent_Pool := fun m ρ _ => Cert.Pool.Gen.frame m ρ

theorem runs_ideal : Cert.quiescent_PoolIdeal := fun m ρ _ => Cert.PoolIdeal.Gen.frame m ρ

theorem runs_ref : Cert.quiescent_PoolRefIdeal := fun m ρ _ =>
  (θ_run Cert.PoolRefIdeal.defs _ _).mono
    (fun r h => ⟨fun c => (h c).2, Idealize.ShloMosaic.sem_eq_zero_of_no_sems (by decide) r.2⟩) (Cert.PoolRefIdeal.Value.run m ρ)

theorem same_value : Cert.algebraic_PoolIdeal_PoolRefIdeal := by
  intro m ρ m' ρ' _ hagree
  refine ⟨fun c => Cert.PoolRefIdeal.Read.val_main_v50 (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)), ?_, ?_⟩
  · refine (θ_run _ _ _).mono (fun _ h c => ⟨(h c).1.trans (Cert.PoolIdeal.Pooled.final m c), (h c).2⟩) (Cert.PoolIdeal.Value.run_blocks m ρ)
  · refine (θ_run _ _ _).mono (fun _ h c => ⟨(h c).1.trans ?_, (h c).2⟩) (Cert.PoolRefIdeal.Value.run m' ρ')
    rw [Cert.PoolRefIdeal.Read.val_main_v50_eq]
    simp only [hagree c]

end Cert.PoolClaim
-- ==== Proof.OutProjValue.lean ====
/-
  What the output projection's kernel computes, over the extended reals.

  The kernel walks 32 row tiles of 512 rows; for each tile eight points add 512-column slabs of the product of
  `[y_attn | y_pool]` with `w_out` into the result block, and the last of the eight turns the block into
  `rmsnorm (x + gate * product) * final_gain`. `acc_eq` says what the block holds after each of the first seven points,
  `final` that the result array ends at the same function of the arguments as the plain reference's last stage.
-/
module

public import proofs.«01_k».proof.Proof.Gen.OutProjIdeal.Value
public import proofs.«01_k».proof.Proof.Gen.OutProjRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OutProjIdeal.Sum

open Cert.OutProjIdeal Cert.OutProjIdeal.Gen

variable (m : (ℓ : Loc nD τ sig) → Buf (Elt Ideal) ℓ)

/-- Column `κ` of row `R` of the two halves side by side. -/
def ycat (a b : S16384x2048.Idx → EReal) (R : Fin 16384) (κ : ℕ) : EReal :=
  if h : κ < 2048 then a (ix2 R ⟨κ, h⟩) else if h' : κ < 4096 then b (ix2 R ⟨κ - 2048, by omega⟩) else 0

/-- Row `κ` of the weights at column `l`. -/
def wrow (w : S4096x4096.Idx → EReal) (κ : ℕ) (l : Fin 4096) : EReal :=
  if h : κ < 4096 then w (ix2 ⟨κ, h⟩ l) else 0

/-- The product's element at `(R, l)`, its first `K` terms. -/
def psum (a b : S16384x2048.Idx → EReal) (w : S4096x4096.Idx → EReal) (R : Fin 16384) (l : Fin 4096) (K : ℕ) : EReal :=
  ∑ κ ∈ Finset.range K, ycat a b R κ * wrow w κ l

/-- The residual stream at `(R, l)`: `x + gate * product`. -/
def resid (a b : S16384x2048.Idx → EReal) (w : S4096x4096.Idx → EReal) (x : S2x8192x4096.Idx → EReal) (g : S2x4096.Idx → EReal)
    (R : Fin 16384) (l : Fin 4096) : EReal :=
  x (ix3 ⟨R.val / 8192, by omega⟩ ⟨R.val % 8192, by omega⟩ l) + g (ix2 ⟨R.val / 8192, by omega⟩ l) * psum a b w R l 4096

theorem idx0 : ∀ t : Fin grid0.N, win0_0.index t = ![t.val / 8, min (t.val % 8) 3] := by decide +kernel
theorem idx1 : ∀ t : Fin grid0.N, win0_1.index t = ![t.val / 8, t.val % 8 - 4] := by decide +kernel
theorem idx2 : ∀ t : Fin grid0.N, win0_2.index t = ![t.val % 8, 0] := by decide +kernel
theorem idx3 : ∀ t : Fin grid0.N, win0_3.index t = ![t.val / 8, 0] := by decide +kernel
theorem idx4 : ∀ t : Fin grid0.N, win0_4.index t = ![t.val / 128, 0, 0] := by decide +kernel
theorem idx5 : ∀ t : Fin grid0.N, win0_5.index t = ![0, 0] := by decide +kernel
theorem idx6 : ∀ t : Fin grid0.N, win0_6.index t = ![t.val / 8, 0] := by decide +kernel

theorem blk0 (c : Dev nD) (t : Fin cfg0.N) (r k : Fin 512) :
    (iblk m c 0 t : Vec Ideal S512x512 .bf16) (ix2 r k) = m ((c : Thread nD τ).loc main_arg0)
      (ix2 ⟨512 * (t.val / 8) + r.val, by have : t.val < 256 := lt_of_lt_of_eq t.isLt N_0; omega⟩ ⟨512 * min (t.val % 8) 3 + k.val, by omega⟩) := by
  blk_ext [iblk, V, idx0 t]

theorem blk1 (c : Dev nD) (t : Fin cfg0.N) (r k : Fin 512) :
    (iblk m c 1 t : Vec Ideal S512x512 .bf16) (ix2 r k) = m ((c : Thread nD τ).loc main_arg1)
      (ix2 ⟨512 * (t.val / 8) + r.val, by have : t.val < 256 := lt_of_lt_of_eq t.isLt N_0; omega⟩ ⟨512 * (t.val % 8 - 4) + k.val, by omega⟩) := by
  blk_ext [iblk, V, idx1 t]

theorem blk2 (c : Dev nD) (t : Fin cfg0.N) (k : Fin 512) (l : Fin 4096) :
    (iblk m c 2 t : Vec Ideal S512x4096 .bf16) (ix2 k l) = m ((c : Thread nD τ).loc main_arg2)
      (ix2 ⟨512 * (t.val % 8) + k.val, by omega⟩ l) := by
  unfold iblk
  entry_read
  pointwise
  blk_ext [idx2 t]

theorem blk3 (c : Dev nD) (t : Fin cfg0.N) (r : Fin 512) (l : Fin 4096) :
    (iblk m c 3 t : Vec Ideal S512x4096 .f32) (ix2 r l) = m ((c : Thread nD τ).loc main_arg3)
      (ix3 ⟨(512 * (t.val / 8) + r.val) / 8192, by have : t.val < 256 := lt_of_lt_of_eq t.isLt N_0; omega⟩
        ⟨(512 * (t.val / 8) + r.val) % 8192, by omega⟩ l) := by
  have e : (iblk m c 3 t : Vec Ideal S512x4096 .f32) (ix2 r l) = (V m c main_v0 : Vec Ideal S16384x4096 .f32)
      (ix2 ⟨512 * (t.val / 8) + r.val, by have : t.val < 256 := lt_of_lt_of_eq t.isLt N_0; omega⟩ l) := by
    blk_ext [iblk, idx3 t]
  rw [e]
  entry_read
  pointwise

theorem blk4 (c : Dev nD) (t : Fin cfg0.N) (l : Fin 4096) :
    (iblk m c 4 t : Vec Ideal S1x1x4096 .f32) (ix3 0 0 l) = m ((c : Thread nD τ).loc main_arg4)
      (ix2 ⟨t.val / 128, by have : t.val < 256 := lt_of_lt_of_eq t.isLt N_0; omega⟩ l) := by
  have e : (iblk m c 4 t : Vec Ideal S1x1x4096 .f32) (ix3 0 0 l) = (V m c main_v2 : Vec Ideal S2x1x4096 .f32)
      (ix3 ⟨t.val / 128, by have : t.val < 256 := lt_of_lt_of_eq t.isLt N_0; omega⟩ 0 l) := by
    blk_ext [iblk, idx4 t]
  rw [e]
  entry_read
  pointwise

theorem blk5 (c : Dev nD) (t : Fin cfg0.N) (l : Fin 4096) :
    (iblk m c 5 t : Vec Ideal S1x4096 .f32) (ix2 0 l) = m ((c : Thread nD τ).loc main_arg5) (ix1 l) := by
  have e : (iblk m c 5 t : Vec Ideal S1x4096 .f32) (ix2 0 l) = (V m c main_v3 : Vec Ideal S1x4096 .f32) (ix2 0 l) := by
    blk_ext [iblk, idx5 t]
  rw [e]
  entry_read
  pointwise

/-- One slab's contribution to the product's element at `(r, l)`. -/
def dotb (y : S512x512.Idx → EReal) (w : S512x4096.Idx → EReal) (r : Fin 512) (l : Fin 4096) : EReal :=
  ∑ k : Fin 512, y (ix2 r k) * w (ix2 k l)

theorem pay2_apply (acc : Vec Ideal S512x4096 .f32) (y : Vec Ideal S512x512 .bf16) (w : Vec Ideal S512x4096 .bf16) (r : Fin 512) (l : Fin 4096) :
    k0_pay2 acc y w (ix2 r l) = acc (ix2 r l) + dotb y w r l := by
  pointwise [k0_pay2, dotb]

theorem pay3_apply (acc : Vec Ideal S512x4096 .f32) (y : Vec Ideal S512x512 .bf16) (w : Vec Ideal S512x4096 .bf16) (r : Fin 512) (l : Fin 4096) :
    k0_pay3 acc y w (ix2 r l) = acc (ix2 r l) + dotb y w r l := by
  pointwise [k0_pay3, dotb]

theorem pay1_apply (r : Fin 512) (l : Fin 4096) : (k0_pay1 (F := Ideal)) (ix2 r l) = 0 := by
  pointwise [k0_pay1]

/-- One entry of the layer's output from the row it is normalised over: the entry times the reciprocal square root of the row's mean square, times the gain. -/
def normed (row : Fin 4096 → EReal) (f : EReal) (l : Fin 4096) : EReal :=
  row l * Ideal.rsqrt (Ideal.div (∑ k, row k * row k) (Ideal.ofBits FTy.f32 1166016512#32) + Ideal.ofBits FTy.f32 897988541#32) * f

/-- A row of the residual sum, from the row `p` of the product. -/
def residb (x : S512x4096.Idx → EReal) (g : S1x1x4096.Idx → EReal) (p : Fin 4096 → EReal) (r : Fin 512) (k : Fin 4096) : EReal :=
  x (ix2 r k) + g (ix3 0 0 k) * p k

theorem pay4_apply (x : Vec Ideal S512x4096 .f32) (g : Vec Ideal S1x1x4096 .f32) (acc : Vec Ideal S512x4096 .f32) (f : Vec Ideal S1x4096 .f32)
    (r : Fin 512) (l : Fin 4096) :
    k0_pay4 x g acc f (ix2 r l) = normed (residb x g (fun k => acc (ix2 r k)) r) (f (ix2 0 l)) l := by
  pointwise [k0_pay4, normed, residb]

theorem psum_step (a b : Vec Ideal S16384x2048 .bf16) (w : Vec Ideal S4096x4096 .f32) (R : Fin 16384) (l : Fin 4096) (K : ℕ)
    (y : S512x512.Idx → EReal) (v : S512x4096.Idx → EReal) (r : Fin 512)
    (hy : ∀ k : Fin 512, y (ix2 r k) = ycat a b R (K + k.val)) (hv : ∀ k : Fin 512, v (ix2 k l) = wrow w (K + k.val) l) :
    psum a b w R l K + dotb y v r l = psum a b w R l (K + 512) := by
  unfold psum dotb
  rw [Finset.sum_range_add, ← Fin.sum_univ_eq_sum_range (fun k => ycat a b R (K + k) * wrow w (K + k) l) 512]
  exact congrArg _ (Finset.sum_congr rfl fun k _ => by rw [hy, hv])

theorem stepA (c : Dev nD) (t : Fin cfg0.N) (h0 : t.val % 8 = 0) (r : Fin 512) (l : Fin 4096) :
    outsAt0 m c t.val t.isLt (ix2 r l) = dotb (iblk m c 0 t) (iblk m c 2 t) r l := by
  rw [outsAt0_A m c t h0 (by omega) (by omega) (by omega)]
  frame_out
  rw [pay2_apply, pay1_apply, zero_add]

theorem stepB (c : Dev nD) (t : Fin cfg0.N) (h0 : ¬ t.val % 8 = 0) (h1 : t.val % 8 ≤ 3) (r : Fin 512) (l : Fin 4096) :
    outsAt0 m c t.val t.isLt (ix2 r l) = outsAt0 m c (t.val - 1) (Nat.lt_of_le_of_lt (Nat.sub_le _ _) t.isLt) (ix2 r l)
      + dotb (iblk m c 0 t) (iblk m c 2 t) r l := by
  rw [outsAt0_B m c t h0 h1 (by omega) (by omega)]
  frame_out
  rw [pay2_apply]

theorem stepC (c : Dev nD) (t : Fin cfg0.N) (h2 : 4 ≤ t.val % 8) (h3 : ¬ t.val % 8 = 7) (r : Fin 512) (l : Fin 4096) :
    outsAt0 m c t.val t.isLt (ix2 r l) = outsAt0 m c (t.val - 1) (Nat.lt_of_le_of_lt (Nat.sub_le _ _) t.isLt) (ix2 r l)
      + dotb (iblk m c 1 t) (iblk m c 2 t) r l := by
  rw [outsAt0_C m c t (by omega) (by omega) h2 h3]
  frame_out
  rw [pay3_apply]

theorem stepD (c : Dev nD) (t : Fin cfg0.N) (h3 : t.val % 8 = 7) (r : Fin 512) (l : Fin 4096) :
    outsAt0 m c t.val t.isLt (ix2 r l) = normed (residb (iblk m c 3 t) (iblk m c 4 t) (fun j => outsAt0 m c (t.val - 1) (Nat.lt_of_le_of_lt (Nat.sub_le _ _) t.isLt) (ix2 r j)
        + dotb (iblk m c 1 t) (iblk m c 2 t) r j) r)
      ((iblk m c 5 t : Vec Ideal S1x4096 .f32) (ix2 0 l)) l := by
  rw [outsAt0_D m c t (by omega) (by omega) (by omega) h3]
  frame_out
  rw [pay4_apply]
  simp only [pay3_apply]

/-- The arguments, and the product's element of tile `q`'s row `r` at column `l`, its first `K` terms. -/
def part (c : Dev nD) (q : ℕ) (hq : q < 32) (r : Fin 512) (l : Fin 4096) (K : ℕ) : EReal :=
  psum (m ((c : Thread nD τ).loc main_arg0)) (m ((c : Thread nD τ).loc main_arg1)) (m ((c : Thread nD τ).loc main_arg2)) ⟨512 * q + r.val, by omega⟩ l K

theorem part_a (c : Dev nD) (t : Fin cfg0.N) (h1 : t.val % 8 ≤ 3) (r : Fin 512) (l : Fin 4096) (hq : t.val / 8 < 32) :
    part m c (t.val / 8) hq r l (512 * (t.val % 8))
      + dotb (iblk m c 0 t) (iblk m c 2 t) r l
      = part m c (t.val / 8) hq r l (512 * (t.val % 8) + 512) := by
  refine psum_step _ _ _ _ _ _ _ _ _ (fun k => ?_) (fun k => ?_)
  · rw [blk0, ycat, dif_pos (by omega)]
    refine congrArg _ ?_
    idx_ext
  · rw [blk2, wrow, dif_pos (by omega)]

theorem part_b (c : Dev nD) (t : Fin cfg0.N) (h2 : 4 ≤ t.val % 8) (r : Fin 512) (l : Fin 4096) (hq : t.val / 8 < 32) :
    part m c (t.val / 8) hq r l (512 * (t.val % 8))
      + dotb (iblk m c 1 t) (iblk m c 2 t) r l
      = part m c (t.val / 8) hq r l (512 * (t.val % 8) + 512) := by
  refine psum_step _ _ _ _ _ _ _ _ _ (fun k => ?_) (fun k => ?_)
  · rw [blk1, ycat, dif_neg (by omega), dif_pos (by omega)]
    refine congrArg _ ?_
    idx_ext
  · rw [blk2, wrow, dif_pos (by omega)]

theorem acc_eq (c : Dev nD) : ∀ (n : ℕ) (h : n < cfg0.N) (hn : n % 8 ≠ 7) (r : Fin 512) (l : Fin 4096) (hq : n / 8 < 32),
    outsAt0 m c n h (ix2 r l) = part m c (n / 8) hq r l (512 * (n % 8) + 512) := by
  intro n
  induction n with
  | zero =>
    intro h hn r l hq
    rw [stepA m c ⟨0, h⟩ (by show 0 % 8 = 0; decide) r l, ← part_a m c ⟨0, h⟩ (by show 0 % 8 ≤ 3; decide) r l hq]
    simp [part, psum]
  | succ n ih =>
    intro h hn r l hq
    by_cases h0 : (n + 1) % 8 = 0
    · rw [stepA m c ⟨n + 1, h⟩ h0 r l, ← part_a m c ⟨n + 1, h⟩ (by show (n + 1) % 8 ≤ 3; omega) r l hq]
      simp [part, psum, h0]
    have ih' := ih (Nat.lt_of_succ_lt h) (by omega) r l (by omega)
    have e1 : part m c (n / 8) (by omega) r l (512 * (n % 8) + 512) = part m c ((n + 1) / 8) hq r l (512 * ((n + 1) % 8)) := by
      have h8 : n / 8 = (n + 1) / 8 := by omega
      have hK : 512 * (n % 8) + 512 = 512 * ((n + 1) % 8) := by omega
      simp only [part, h8, hK]
    rw [e1] at ih'
    by_cases h1 : (n + 1) % 8 ≤ 3
    · rw [stepB m c ⟨n + 1, h⟩ h0 h1 r l, ← part_a m c ⟨n + 1, h⟩ h1 r l hq]
      exact congrArg (· + _) ih'
    · rw [stepC m c ⟨n + 1, h⟩ (by show 4 ≤ (n + 1) % 8; omega) hn r l, ← part_b m c ⟨n + 1, h⟩ (by show 4 ≤ (n + 1) % 8; omega) r l hq]
      exact congrArg (· + _) ih'

section Reference
open Cert.OutProjRefIdeal.Read

theorem ref_cat (y0 y1 : Vec Ideal S16384x2048 .bf16) (R : Fin 16384) (k : Fin 4096) (h2 : R.val / 8192 < 2) (h8 : R.val % 8192 < 8192) :
    val_main_v4 (F := Ideal) y0 y1 (ix3 ⟨R.val / 8192, h2⟩ ⟨R.val % 8192, h8⟩ k) = ycat y0 y1 R k.val := by
  pointwise [val_main_v4, val_main_v3, val_main_v2, val_main_v1, val_main_v0, ycat]

theorem ref_resid (y0 y1 : Vec Ideal S16384x2048 .bf16) (w : Vec Ideal S4096x4096 .f32) (x : Vec Ideal S2x8192x4096 .f32) (g : Vec Ideal S2x4096 .f32)
    (R : Fin 16384) (l : Fin 4096) (h2 : R.val / 8192 < 2) (h8 : R.val % 8192 < 8192) :
    val_main_v9 y0 y1 w x g (ix3 ⟨R.val / 8192, h2⟩ ⟨R.val % 8192, h8⟩ l) = resid y0 y1 w x g R l := by
  pointwise [val_main_v9, val_main_v8, val_main_v7, val_main_v6, val_main_v5]
  simp only [ref_cat]
  unfold resid psum
  rw [← Fin.sum_univ_eq_sum_range (fun κ => ycat y0 y1 R κ * wrow w κ l) 4096]
  simp [wrow]

theorem ref_apply (y0 y1 : Vec Ideal S16384x2048 .bf16) (w : Vec Ideal S4096x4096 .f32) (x : Vec Ideal S2x8192x4096 .f32) (g : Vec Ideal S2x4096 .f32)
    (f : Vec Ideal S4096 .f32) (R : Fin 16384) (l : Fin 4096) :
    val_main_v23 y0 y1 w x g f (ix2 R l) = normed (fun k => resid y0 y1 w x g R k) (f (ix1 l)) l := by
  pointwise [val_main_v10, val_main_v11, val_main_v12, val_main_v13, val_main_v14, val_main_v15, val_main_v16, val_main_v17, val_main_v18, val_main_v19, val_main_v20, val_main_v21, val_main_v22, val_main_v23, val_main_cst, val_main_cst_0, val_main_cst_1]
  simp only [ref_resid, normed]

end Reference

theorem last_eq (c : Dev nD) (t : Fin cfg0.N) (h3 : t.val % 8 = 7) (r : Fin 512) (l : Fin 4096) (hR : 512 * (t.val / 8) + r.val < 16384) :
    outsAt0 m c t.val t.isLt (ix2 r l) = Cert.OutProjRefIdeal.Read.val_main_v23 (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (ix2 ⟨512 * (t.val / 8) + r.val, hR⟩ l) := by
  rw [ref_apply, stepD m c t h3, blk5]
  refine congrArg (fun row => normed row _ l) (funext fun k => ?_)
  have hN : t.val < 256 := lt_of_lt_of_eq t.isLt N_0
  have hprev := acc_eq m c (t.val - 1) (Nat.lt_of_le_of_lt (Nat.sub_le _ _) t.isLt) (by omega) r k (by omega)
  have hq : (t.val - 1) / 8 = t.val / 8 := by omega
  have hK : 512 * ((t.val - 1) % 8) + 512 = 512 * (t.val % 8) := by omega
  have e1 : part m c ((t.val - 1) / 8) (by omega) r k (512 * ((t.val - 1) % 8) + 512) = part m c (t.val / 8) (by omega) r k (512 * (t.val % 8)) := by
    simp only [hq, hK]
  have hall : 512 * (t.val % 8) + 512 = 4096 := by omega
  unfold residb
  beta_reduce
  rw [hprev, e1, part_b m c t (by omega) r k (by omega), hall, blk3, blk4]
  unfold resid part
  have hb : t.val / 128 = (512 * (t.val / 8) + r.val) / 8192 := by omega
  simp only [hb]

theorem final (c : Dev nD) :
    (dats m 0 c).arrAt 6 cfg0.N = Cert.OutProjRefIdeal.Read.val_main_v23 (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have h3 := (flush0_6 t).mp hf
  blk_simp
  rw [after0_6]
  obtain ⟨r, l, rfl⟩ : ∃ (r : Fin 512) (l : Fin 4096), y = ix2 r l := ⟨y 0, y 1, by funext a; match a with | ⟨0, _⟩ => rfl | ⟨1, _⟩ => rfl⟩
  have hN : t.val < 256 := lt_of_lt_of_eq t.isLt N_0
  rw [last_eq m c t h3 r l (by omega)]
  symm
  blk_ext [idx6 t]

end Cert.OutProjIdeal.Sum
-- ==== Proof.OutProjClaim.lean ====
/-
  The claims about OutProj, the layer's output projection, gated residual and final norm: it runs and leaves its arguments unchanged, over the machine's floats and
  over the extended reals, and over the extended reals it ends with the plain reference's result.
-/
module

public import proofs.«01_k».proof.Defs
public import proofs.«01_k».proof.Proof.Gen.OutProj.Frame
public import proofs.«01_k».proof.Proof.Gen.OutProjIdeal.Frame
public import proofs.«01_k».proof.Proof.Gen.OutProjRefIdeal.Run
public import proofs.«01_k».proof.Proof.OutProjValue
public import Idealize.ShloMosaic.Adequacy
public import Idealize.ShloMosaic.Init

@[expose] public section

noncomputable section

namespace Cert.OutProjClaim

open Idealize.ShloMosaic Idealize.SL.Sem

theorem runs : Cert.quiescent_OutProj := fun m ρ _ => Cert.OutProj.Gen.frame m ρ

theorem runs_ideal : Cert.quiescent_OutProjIdeal := fun m ρ _ => Cert.OutProjIdeal.Gen.frame m ρ

theorem runs_ref : Cert.quiescent_OutProjRefIdeal := fun m ρ _ =>
  (θ_run Cert.OutProjRefIdeal.defs _ _).mono
    (fun r h => ⟨fun c => (h c).2, Idealize.ShloMosaic.sem_eq_zero_of_no_sems (by decide) r.2⟩) (Cert.OutProjRefIdeal.Value.run m ρ)

theorem same_value : Cert.algebraic_OutProjIdeal_OutProjRefIdeal := by
  intro m ρ m' ρ' _ hagree
  refine ⟨fun c => Cert.OutProjRefIdeal.Read.val_main_v23 (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)), ?_, ?_⟩
  · refine (θ_run _ _ _).mono (fun _ h c => ⟨(h c).1.trans (Cert.OutProjIdeal.Sum.final m c), (h c).2⟩) (Cert.OutProjIdeal.Value.run_blocks m ρ)
  · refine (θ_run _ _ _).mono (fun _ h c => ⟨(h c).1.trans ?_, (h c).2⟩) (Cert.OutProjRefIdeal.Value.run m' ρ')
    rw [Cert.OutProjRefIdeal.Read.val_main_v23_eq]
    simp only [hagree c]

end Cert.OutProjClaim
-- ==== Proof.lean ====
/-
  The claims of this directory, put together: for every call taken, that the kernel, its ideal form and the plain
  reference run and leave their arguments unchanged, and, but for the attention, that the kernel ends with the reference's result over the
  extended reals. The modules named after the calls prove them.
-/
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.AttnRefIdeal.Run
public import proofs.«01_k».proof.Proof.Gen.AttnRefIdeal.Read
public import proofs.«01_k».proof.Proof.Gen.PoolIdeal.Value
public import proofs.«01_k».proof.Proof.Gen.PoolRefIdeal.Run
public import proofs.«01_k».proof.Proof.Gen.PoolRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.InProjClaim
public import proofs.«01_k».proof.Proof.AttnClaim
public import proofs.«01_k».proof.Proof.PoolClaim
public import proofs.«01_k».proof.Proof.OutProjClaim
public import Idealize.ShloMosaic.Adequacy
public import Idealize.ShloMosaic.Init

@[expose] public section

noncomputable section

namespace Cert.Proof

open Idealize.ShloMosaic Idealize.SL.Sem

theorem claim : Cert.Claim := ⟨Cert.InProj.Gen.facts, Cert.InProjIdeal.Gen.facts, Cert.InProjRefIdeal.Gen.facts, Cert.Attn.Gen.facts, Cert.AttnIdeal.Gen.facts, Cert.AttnRefIdeal.Gen.facts, Cert.Pool.Gen.facts, Cert.PoolIdeal.Gen.facts, Cert.PoolRefIdeal.Gen.facts, Cert.OutProj.Gen.facts, Cert.OutProjIdeal.Gen.facts, Cert.OutProjRefIdeal.Gen.facts,
  InProjClaim.runs, InProjClaim.runs_ideal, InProjClaim.runs_ref, AttnClaim.runs, AttnClaim.runs_ideal, AttnClaim.runs_ref, PoolClaim.runs, PoolClaim.runs_ideal, PoolClaim.runs_ref, OutProjClaim.runs, OutProjClaim.runs_ideal, OutProjClaim.runs_ref,
  trivial, InProjClaim.same_value, trivial, trivial, PoolClaim.same_value, trivial, OutProjClaim.same_value⟩

end Cert.Proof

end
